-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8_0) = v0 c
          ∧ r.2.mem ((c.tc : Thread Cert.ReferenceIdeal.nD Cert.ReferenceIdeal.τ).loc Cert.ReferenceIdeal.main_v8_1) = v1 c
          ∧ r.2.mem ((c.tc : Thread Cert.ReferenceIdeal.nD Cert.ReferenceIdeal.τ).loc Cert.ReferenceIdeal.main_v8_2) = v2 c
          ∧ r.2.mem ((c.tc : Thread Cert.ReferenceIdeal.nD Cert.ReferenceIdeal.τ).loc Cert.ReferenceIdeal.main_v8_3) = v3 c
          ∧ r.2.mem ((c.tc : Thread Cert.ReferenceIdeal.nD Cert.ReferenceIdeal.τ).loc Cert.ReferenceIdeal.main_v8_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S2x128x1024 : Shape := ⟨3, ![2, 128, 1024]⟩
abbrev S32000x1024 : Shape := ⟨2, ![32000, 1024]⟩
abbrev S32000 : Shape := ⟨1, ![32000]⟩
abbrev S32000x512 : Shape := ⟨2, ![32000, 512]⟩
abbrev S32000x8 : Shape := ⟨2, ![32000, 8]⟩
abbrev S2x128 : Shape := ⟨2, ![2, 128]⟩
abbrev S_ : Shape := ⟨0, ![]⟩

class Facts : Prop where
  reducesTo_S2x128x1024_S2x128_d2 : S2x128x1024.ReducesTo [2] S2x128
  h_S_ : 0 < S_.numel
  bcast_S_S2x128 : S_.BroadcastsInDim S2x128 (![] : Fin 0 → Fin S2x128.rank)

variable [Facts]

def fn {F : FTy → Type} [FloatOps F] (main_arg0 : FVec F S2x128x1024 .bf16) (main_arg1 : FVec F S2x128x1024 .bf16) (main_arg2 : FVec F S32000x1024 .fp8e4m3) (main_arg3 : FVec F S32000 .f32) (main_arg4 : IVec S32000x512 8) (main_arg5 : FVec F S32000x8 .f32) (main_arg6 : IVec S2x128 32) : IVec S2x128 1 :=
  let main_v0 : FVec F S2x128x1024 .bf16 := Host.absf main_arg0
  let main_cst : FVec F S_ .bf16 := constant S_ .bf16 0xFF80#16
  let main_v1 : FVec F S2x128 .bf16 := (fun x v => Host.reduce FloatOps.maximumf x v reducesTo_S2x128x1024_S2x128_d2 h_S_) main_v0 main_cst
  let main_cst_0 : FVec F S_ .bf16 := constant S_ .bf16 0x0000#16
  let main_v2 : FVec F S2x128 .bf16 := broadcastInDim S2x128 ![] bcast_S_S2x128 main_cst_0
  let main_v3 : IVec S2x128 1 := cmpf .oeq main_v1 main_v2
  let main_cst_1 : FVec F S_ .bf16 := constant S_ .bf16 0x04E0#16
  let main_v4 : FVec F S2x128 .bf16 := broadcastInDim S2x128 ![] bcast_S_S2x128 main_cst_1
  let main_v5 : IVec S2x128 1 := cmpf .oge main_v1 main_v4
  let main_cst_2 : FVec F S_ .bf16 := constant S_ .bf16 0x7F7F#16
  let main_v6 : FVec F S2x128 .bf16 := broadcastInDim S2x128 ![] bcast_S_S2x128 main_cst_2
  let main_v7 : IVec S2x128 1 := cmpf .ole main_v1 main_v6
  let main_v8 : IVec S2x128 1 := andi main_v5 main_v7
  let main_v9 : IVec S2x128 1 := ori main_v3 main_v8
  let main_c : IVec S_ 32 := constantI S_ 32 0#32
  let main_v10 : IVec S2x128 32 := broadcastInDim S2x128 ![] bcast_S_S2x128 main_c
  let main_v11 : IVec S2x128 1 := cmpi .sge main_arg6 main_v10
  let main_v12 : IVec S2x128 1 := andi main_v9 main_v11
  let main_c_3 : IVec S_ 32 := constantI S_ 32 32000#32
  let main_v13 : IVec S2x128 32 := broadcastInDim S2x128 ![] bcast_S_S2x128 main_c_3
  let main_v14 : IVec S2x128 1 := cmpi .slt main_arg6 main_v13
  let main_v15 : IVec S2x128 1 := andi main_v12 main_v14
  main_v15
-- ==== Kernel.lean ====
abbrev S2x128x1024 : Shape := ⟨3, ![2, 128, 1024]⟩
abbrev S32000x1024 : Shape := ⟨2, ![32000, 1024]⟩
abbrev S32000 : Shape := ⟨1, ![32000]⟩
abbrev S32000x512 : Shape := ⟨2, ![32000, 512]⟩
abbrev S32000x8 : Shape := ⟨2, ![32000, 8]⟩
abbrev S2x128 : Shape := ⟨2, ![2, 128]⟩
abbrev S256x1024 : Shape := ⟨2, ![256, 1024]⟩
abbrev S1x32000 : Shape := ⟨2, ![1, 32000]⟩
abbrev S8x32000 : Shape := ⟨2, ![8, 32000]⟩
abbrev S1280x1024 : Shape := ⟨2, ![1280, 1024]⟩
abbrev S1x1280 : Shape := ⟨2, ![1, 1280]⟩
abbrev S1280x512 : Shape := ⟨2, ![1280, 512]⟩
abbrev S8x1280 : Shape := ⟨2, ![8, 1280]⟩
abbrev S1024x1280 : Shape := ⟨2, ![1024, 1280]⟩
abbrev S256x1280 : Shape := ⟨2, ![256, 1280]⟩
abbrev S256x128 : Shape := ⟨2, ![256, 128]⟩
abbrev S256 : Shape := ⟨1, ![256]⟩
abbrev S256x1 : Shape := ⟨2, ![256, 1]⟩
abbrev S256x256 : Shape := ⟨2, ![256, 256]⟩
abbrev S128x128 : Shape := ⟨2, ![128, 128]⟩
abbrev S1x128 : Shape := ⟨2, ![1, 128]⟩
abbrev S256x512 : Shape := ⟨2, ![256, 512]⟩
abbrev S512x256 : Shape := ⟨2, ![512, 256]⟩
abbrev S1024x256 : Shape := ⟨2, ![1024, 256]⟩
abbrev S128x256 : Shape := ⟨2, ![128, 256]⟩
abbrev S1x256 : Shape := ⟨2, ![1, 256]⟩
abbrev S8x128 : Shape := ⟨2, ![8, 128]⟩
abbrev S128 : Shape := ⟨1, ![128]⟩
abbrev S128x1 : Shape := ⟨2, ![128, 1]⟩

abbrev nBuf : Space → Nat
  | .hbm => 16
  | .vmem => 29
  | .smem => 0
  | _ => 0

abbrev bufTy : (tb : Table) → Fin (tcTables nBuf tb) → BufTy
  | .hbm, ⟨0, _⟩ => ⟨S2x128x1024, .bf16⟩
  | .hbm, ⟨1, _⟩ => ⟨S2x128x1024, .bf16⟩
  | .hbm, ⟨2, _⟩ => ⟨S32000x1024, .fp8e4m3⟩
  | .hbm, ⟨3, _⟩ => ⟨S32000, .f32⟩
  | .hbm, ⟨4, _⟩ => ⟨S32000x512, .i8⟩
  | .hbm, ⟨5, _⟩ => ⟨S32000x8, .f32⟩
  | .hbm, ⟨6, _⟩ => ⟨S2x128, .i32⟩
  | .hbm, ⟨7, _⟩ => ⟨S256x1024, .bf16⟩
  | .hbm, ⟨8, _⟩ => ⟨S256x1024, .bf16⟩
  | .hbm, ⟨9, _⟩ => ⟨S1x32000, .f32⟩
  | .hbm, ⟨10, _⟩ => ⟨S8x32000, .f32⟩
  | .hbm, ⟨11, _⟩ => ⟨S2x128, .f32⟩
  | .hbm, ⟨12, _⟩ => ⟨S2x128, .f32⟩
  | .hbm, ⟨13, _⟩ => ⟨S2x128, .f32⟩
  | .hbm, ⟨14, _⟩ => ⟨S256x1024, .fp8e4m3⟩
  | .hbm, ⟨15, _⟩ => ⟨S2x128, .f32⟩
  | .local _ .vmem, ⟨0, _⟩ => ⟨S256x1024, .bf16⟩
  | .local _ .vmem, ⟨1, _⟩ => ⟨S256x1024, .bf16⟩
  | .local _ .vmem, ⟨2, _⟩ => ⟨S1280x1024, .fp8e4m3⟩
  | .local _ .vmem, ⟨3, _⟩ => ⟨S1280x1024, .fp8e4m3⟩
  | .local _ .vmem, ⟨4, _⟩ => ⟨S1x1280, .f32⟩
  | .local _ .vmem, ⟨5, _⟩ => ⟨S1x1280, .f32⟩
  | .local _ .vmem, ⟨6, _⟩ => ⟨S1280x512, .i8⟩
  | .local _ .vmem, ⟨7, _⟩ => ⟨S1280x512, .i8⟩
  | .local _ .vmem, ⟨8, _⟩ => ⟨S8x1280, .f32⟩
  | .local _ .vmem, ⟨9, _⟩ => ⟨S8x1280, .f32⟩
  | .local _ .vmem, ⟨10, _⟩ => ⟨S2x128, .i32⟩
  | .local _ .vmem, ⟨11, _⟩ => ⟨S2x128, .f32⟩
  | .local _ .vmem, ⟨12, _⟩ => ⟨S2x128, .f32⟩
  | .local _ .vmem, ⟨13, _⟩ => ⟨S2x128, .f32⟩
  | .local _ .vmem, ⟨14, _⟩ => ⟨S256x1024, .fp8e4m3⟩
  | .local _ .vmem, ⟨15, _⟩ => ⟨S2x128, .f32⟩
  | .local _ .vmem, ⟨16, _⟩ => ⟨S256x1024, .bf16⟩
  | .local _ .vmem, ⟨17, _⟩ => ⟨S1024x1280, .bf16⟩
  | .local _ .vmem, ⟨18, _⟩ => ⟨S256x1280, .f32⟩
  | .local _ .vmem, ⟨19, _⟩ => ⟨S256x1280, .f32⟩
  | .local _ .vmem, ⟨20, _⟩ => ⟨S256x128, .f32⟩
  | .local _ .vmem, ⟨21, _⟩ => ⟨S256x128, .i32⟩
  | .local _ .vmem, ⟨22, _⟩ => ⟨S256x128, .f32⟩
  | .local _ .vmem, ⟨23, _⟩ => ⟨S256x128, .f32⟩
  | .local _ .vmem, ⟨24, _⟩ => ⟨S256x128, .f32⟩
  | .local _ .vmem, ⟨25, _⟩ => ⟨S256x128, .f32⟩
  | .local _ .vmem, ⟨26, _⟩ => ⟨S256x128, .f32⟩
  | .local _ .vmem, ⟨27, _⟩ => ⟨S256x128, .f32⟩
  | .local _ .vmem, ⟨28, _⟩ => ⟨S256x128, .f32⟩
  | _, _ => ⟨S2x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_scratch6 : Ref sig .tc := ⟨.vmem, 22, rfl⟩
abbrev cc0_scratch7 : Ref sig .tc := ⟨.vmem, 23, rfl⟩
abbrev cc0_scratch8 : Ref sig .tc := ⟨.vmem, 24, rfl⟩
abbrev cc0_scratch9 : Ref sig .tc := ⟨.vmem, 25, rfl⟩
abbrev cc0_scratch10 : Ref sig .tc := ⟨.vmem, 26, rfl⟩
abbrev cc0_scratch11 : Ref sig .tc := ⟨.vmem, 27, rfl⟩
abbrev cc0_scratch12 : Ref sig .tc := ⟨.vmem, 28, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15

abbrev nD : Nat := 1
abbrev τ : Topo := Topo.v7x

variable {F : FTy → Type} [FloatOps F]

abbrev grid0 : Pipeline.Grid := ⟨1, ![26], ![false]⟩

def k0_cond3 (i : grid0.Coords) : BitVec 1 :=
  let arg0 : BitVec 32 := BitVec.ofNat 32 (i 0).val
  let c25_i32_3 : BitVec 32 := 25#32
  let v8 : BitVec 1 := Scalar.cmpi .eq arg0 c25_i32_3
  let v9 : BitVec 32 := Scalar.extui v8
  let c0_i32_4 : BitVec 32 := 0#32
  let v10 : BitVec 1 := Scalar.cmpi .ne v9 c0_i32_4
  v10

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c24_i32 : BitVec 32 := 24#32
  let v0 : BitVec 32 := Scalar.minsi arg0 c24_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c24_i32 : BitVec 32 := 24#32
  let v0 : BitVec 32 := Scalar.minsi arg0 c24_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c24_i32 : BitVec 32 := 24#32
  let v0 : BitVec 32 := Scalar.minsi arg0 c24_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c24_i32 : BitVec 32 := 24#32
  let v0 : BitVec 32 := Scalar.minsi arg0 c24_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1280x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1280 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1280x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x1280 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x128 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | _ => none
-- ==== ReferenceIdeal.lean ====
abbrev S2x128x1024 : Shape := ⟨3, ![2, 128, 1024]⟩
abbrev S32000x1024 : Shape := ⟨2, ![32000, 1024]⟩
abbrev S32000 : Shape := ⟨1, ![32000]⟩
abbrev S32000x512 : Shape := ⟨2, ![32000, 512]⟩
abbrev S32000x8 : Shape := ⟨2, ![32000, 8]⟩
abbrev S2x128 : Shape := ⟨2, ![2, 128]⟩
abbrev S256x512x2 : Shape := ⟨3, ![256, 512, 2]⟩
abbrev S256x1024 : Shape := ⟨2, ![256, 1024]⟩
abbrev S256x512x1 : Shape := ⟨3, ![256, 512, 1]⟩
abbrev S256x512 : Shape := ⟨2, ![256, 512]⟩
abbrev S1x32000 : Shape := ⟨2, ![1, 32000]⟩
abbrev S256x1 : Shape := ⟨2, ![256, 1]⟩
abbrev S256 : Shape := ⟨1, ![256]⟩
abbrev S256x32000 : Shape := ⟨2, ![256, 32000]⟩
abbrev S32000x8x1 : Shape := ⟨3, ![32000, 8, 1]⟩
abbrev S32000x8x64 : Shape := ⟨3, ![32000, 8, 64]⟩

abbrev nBuf : Space → Nat
  | .hbm => 20
  | .vmem => 13
  | .smem => 0
  | _ => 0

abbrev bufTy : (tb : Table) → Fin (tcTables nBuf tb) → BufTy
  | .hbm, ⟨0, _⟩ => ⟨S2x128x1024, .bf16⟩
  | .hbm, ⟨1, _⟩ => ⟨S2x128x1024, .bf16⟩
  | .hbm, ⟨2, _⟩ => ⟨S32000x1024, .fp8e4m3⟩
  | .hbm, ⟨3, _⟩ => ⟨S32000, .f32⟩
  | .hbm, ⟨4, _⟩ => ⟨S32000x512, .i8⟩
  | .hbm, ⟨5, _⟩ => ⟨S32000x8, .f32⟩
  | .hbm, ⟨6, _⟩ => ⟨S2x128, .i32⟩
  | .hbm, ⟨7, _⟩ => ⟨S256x512x2, .bf16⟩
  | .hbm, ⟨8, _⟩ => ⟨S256x1024, .bf16⟩
  | .hbm, ⟨9, _⟩ => ⟨S256x512x1, .bf16⟩
  | .hbm, ⟨10, _⟩ => ⟨S256x512, .bf16⟩
  | .hbm, ⟨11, _⟩ => ⟨S256x512x1, .bf16⟩
  | .hbm, ⟨12, _⟩ => ⟨S256x512, .bf16⟩
  | .hbm, ⟨13, _⟩ => ⟨S1x32000, .f32⟩
  | .hbm, ⟨14, _⟩ => ⟨S256x1, .i32⟩
  | .hbm, ⟨15, _⟩ => ⟨S2x128, .f32⟩
  | .hbm, ⟨16, _⟩ => ⟨S2x128, .f32⟩
  | .hbm, ⟨17, _⟩ => ⟨S2x128, .f32⟩
  | .hbm, ⟨18, _⟩ => ⟨S256x1024, .fp8e4m3⟩
  | .hbm, ⟨19, _⟩ => ⟨S2x128, .f32⟩
  | .local _ .vmem, ⟨0, _⟩ => ⟨S256x1024, .bf16⟩
  | .local _ .vmem, ⟨1, _⟩ => ⟨S256x512, .bf16⟩
  | .local _ .vmem, ⟨2, _⟩ => ⟨S256x512, .bf16⟩
  | .local _ .vmem, ⟨3, _⟩ => ⟨S32000x1024, .fp8e4m3⟩
  | .local _ .vmem, ⟨4, _⟩ => ⟨S1x32000, .f32⟩
  | .local _ .vmem, ⟨5, _⟩ => ⟨S32000x512, .i8⟩
  | .local _ .vmem, ⟨6, _⟩ => ⟨S32000x8, .f32⟩
  | .local _ .vmem, ⟨7, _⟩ => ⟨S256x1, .i32⟩
  | .local _ .vmem, ⟨8, _⟩ => ⟨S2x128, .f32⟩
  | .local _ .vmem, ⟨9, _⟩ => ⟨S2x128, .f32⟩
  | .local _ .vmem, ⟨10, _⟩ => ⟨S2x128, .f32⟩
  | .local _ .vmem, ⟨11, _⟩ => ⟨S256x1024, .fp8e4m3⟩
  | .local _ .vmem, ⟨12, _⟩ => ⟨S2x128, .f32⟩
  | _, _ => ⟨S2x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev main_v8_2 : Ref sig .tc := ⟨.hbm, 17, rfl⟩
abbrev main_v8_3 : Ref sig .tc := ⟨.hbm, 18, rfl⟩
abbrev main_v8_4 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F] [Named F]

def κ : String → Option EReal := fun
  | "ln2" => some ((Real.log 2 : ℝ) : EReal)
  | "log2e" => some (((Real.log 2)⁻¹ : ℝ) : EReal)
  | _ => none

abbrev grid0 : Pipeline.Grid := .none

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32000x1024 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x32000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32000x512 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32000x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x1024 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.Word.Mem.lean ====
/-
  What the kernel's body does to its buffers, as a relation between contents: `Mem` holds the contents of the twelve
  staging buffers and the thirteen scratch buffers, and `Runs A p S a S'` says that the piece `p` of the body, started on
  contents `S`, runs without a fault to the result `a` and contents `S'`. `Runs.wp` turns such a run into a weakest
  precondition once and for all, so that everything after it is a statement about contents.
-/
module
public import proofs.«01_k».proof.Proof.Gen.Kernel.Frame

@[expose] public section
noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UR sig nD τ) ℕ

/-- A piece of the kernel's body. -/
abbrev KProg (F : FTy → Type) (α : Type) := Prog (TpuEff nD τ sig (Elt F) Λ₀ .tc) α

/-- The buffers the body is called on. -/
structure Args where
  x : Memref sig .tc .vmem S256x1024 .bf16
  xW : x.IsWhole
  xrin : Memref sig .tc .vmem S256x1024 .bf16
  xrinW : xrin.IsWhole
  wp : Memref sig .tc .vmem S1280x1024 .fp8e4m3
  wpW : wp.IsWhole
  ws : Memref sig .tc .vmem S1x1280 .f32
  wsW : ws.IsWhole
  wr : Memref sig .tc .vmem S1280x512 .i8
  wrW : wr.IsWhole
  sr : Memref sig .tc .vmem S8x1280 .f32
  srW : sr.IsWhole
  tgt : Memref sig .tc .vmem S2x128 .i32
  tgtW : tgt.IsWhole
  lp : Memref sig .tc .vmem S2x128 .f32
  lpW : lp.IsWhole
  lq : Memref sig .tc .vmem S2x128 .f32
  lqW : lq.IsWhole
  kl : Memref sig .tc .vmem S2x128 .f32
  klW : kl.IsWhole
  codes : Memref sig .tc .vmem S256x1024 .fp8e4m3
  codesW : codes.IsWhole
  scales : Memref sig .tc .vmem S2x128 .f32
  scalesW : scales.IsWhole
  xr : Memref sig .tc .vmem S256x1024 .bf16
  xrW : xr.IsWhole
  wt : Memref sig .tc .vmem S1024x1280 .bf16
  wtW : wt.IsWhole
  u : Memref sig .tc .vmem S256x1280 .f32
  uW : u.IsWhole
  z : Memref sig .tc .vmem S256x1280 .f32
  zW : z.IsWhole
  xsl : Memref sig .tc .vmem S256x128 .f32
  xslW : xsl.IsWhole
  tt : Memref sig .tc .vmem S256x128 .i32
  ttW : tt.IsWhole
  mp : Memref sig .tc .vmem S256x128 .f32
  mpW : mp.IsWhole
  mq : Memref sig .tc .vmem S256x128 .f32
  mqW : mq.IsWhole
  sp : Memref sig .tc .vmem S256x128 .f32
  spW : sp.IsWhole
  sq : Memref sig .tc .vmem S256x128 .f32
  sqW : sq.IsWhole
  ta : Memref sig .tc .vmem S256x128 .f32
  taW : ta.IsWhole
  selp : Memref sig .tc .vmem S256x128 .f32
  selpW : selp.IsWhole
  selq : Memref sig .tc .vmem S256x128 .f32
  selqW : selq.IsWhole

/-- What the buffers hold. -/
structure Mem (F : FTy → Type) where
  x : Vec F S256x1024 .bf16
  xrin : Vec F S256x1024 .bf16
  wp : Vec F S1280x1024 .fp8e4m3
  ws : Vec F S1x1280 .f32
  wr : Vec F S1280x512 .i8
  sr : Vec F S8x1280 .f32
  tgt : Vec F S2x128 .i32
  lp : Vec F S2x128 .f32
  lq : Vec F S2x128 .f32
  kl : Vec F S2x128 .f32
  codes : Vec F S256x1024 .fp8e4m3
  scales : Vec F S2x128 .f32
  xr : Vec F S256x1024 .bf16
  wt : Vec F S1024x1280 .bf16
  u : Vec F S256x1280 .f32
  z : Vec F S256x1280 .f32
  xsl : Vec F S256x128 .f32
  tt : Vec F S256x128 .i32
  mp : Vec F S256x128 .f32
  mq : Vec F S256x128 .f32
  sp : Vec F S256x128 .f32
  sq : Vec F S256x128 .f32
  ta : Vec F S256x128 .f32
  selp : Vec F S256x128 .f32
  selq : Vec F S256x128 .f32

/-- Buffer `k` of the body, owned at what `S` says it holds. -/
def part (c : Dev nD) (A : Args) (S : Mem F) : Fin 25 → sProp 𝕄
  | 0 => owns (c : Thread nD τ) A.x fullShare S.x
  | 1 => owns (c : Thread nD τ) A.xrin fullShare S.xrin
  | 2 => owns (c : Thread nD τ) A.wp fullShare S.wp
  | 3 => owns (c : Thread nD τ) A.ws fullShare S.ws
  | 4 => owns (c : Thread nD τ) A.wr fullShare S.wr
  | 5 => owns (c : Thread nD τ) A.sr fullShare S.sr
  | 6 => owns (c : Thread nD τ) A.tgt fullShare S.tgt
  | 7 => owns (c : Thread nD τ) A.lp fullShare S.lp
  | 8 => owns (c : Thread nD τ) A.lq fullShare S.lq
  | 9 => owns (c : Thread nD τ) A.kl fullShare S.kl
  | 10 => owns (c : Thread nD τ) A.codes fullShare S.codes
  | 11 => owns (c : Thread nD τ) A.scales fullShare S.scales
  | 12 => owns (c : Thread nD τ) A.xr fullShare S.xr
  | 13 => owns (c : Thread nD τ) A.wt fullShare S.wt
  | 14 => owns (c : Thread nD τ) A.u fullShare S.u
  | 15 => owns (c : Thread nD τ) A.z fullShare S.z
  | 16 => owns (c : Thread nD τ) A.xsl fullShare S.xsl
  | 17 => owns (c : Thread nD τ) A.tt fullShare S.tt
  | 18 => owns (c : Thread nD τ) A.mp fullShare S.mp
  | 19 => owns (c : Thread nD τ) A.mq fullShare S.mq
  | 20 => owns (c : Thread nD τ) A.sp fullShare S.sp
  | 21 => owns (c : Thread nD τ) A.sq fullShare S.sq
  | 22 => owns (c : Thread nD τ) A.ta fullShare S.ta
  | 23 => owns (c : Thread nD τ) A.selp fullShare S.selp
  | _ => owns (c : Thread nD τ) A.selq fullShare S.selq

/-- Every buffer of the body, owned at what `S` says it holds. -/
def Own (c : Dev nD) (A : Args) (S : Mem F) : sProp 𝕄 := bigSep Finset.univ (part c A S)

variable (F) in
/-- One buffer among the twenty-five. -/
structure Cell (A : Args) (s : Shape) (e : EltTy) where
  ref : Memref sig .tc .vmem s e
  get : Mem F → Vec F s e
  set : Mem F → Vec F s e → Mem F
  idx : Fin 25
  here : ∀ c S, part c A S idx = (owns (c : Thread nD τ) ref fullShare (get S) : sProp 𝕄)
  get_set : ∀ S X, get (set S X) = X
  rest : ∀ c S X j, j ≠ idx → part c A (set S X) j = part c A S j

theorem Cell.take {A : Args} {s : Shape} {e : EltTy} (L : Cell F A s e) (c : Dev nD) (S : Mem F) :
    Own c A S ⊢ iprop(owns (c : Thread nD τ) L.ref fullShare (L.get S) ∗ bigSep (Finset.univ.erase L.idx) (part c A S)) := by
  have e := bigSep_erase (Φ := part c A S) (Finset.mem_univ L.idx)
  rw [L.here c S] at e
  exact Entails.of_eq e

theorem Cell.give {A : Args} {s : Shape} {e : EltTy} (L : Cell F A s e) (c : Dev nD) (S : Mem F) (X : Vec F s e) :
    iprop(owns (c : Thread nD τ) L.ref fullShare X ∗ bigSep (Finset.univ.erase L.idx) (part c A S)) ⊢ Own c A (L.set S X) := by
  have h : bigSep (Finset.univ.erase L.idx) (part c A S) = bigSep (Finset.univ.erase L.idx) (part c A (L.set S X)) :=
    bigSep_congr fun j hj => (L.rest c S X j (Finset.ne_of_mem_erase hj)).symm
  have e := bigSep_erase (Φ := part c A (L.set S X)) (Finset.mem_univ L.idx)
  rw [L.here, L.get_set] at e
  rw [h]; exact Entails.of_eq e.symm

theorem Cell.keep {A : Args} {s : Shape} {e : EltTy} (L : Cell F A s e) (c : Dev nD) (S : Mem F) :
    iprop(owns (c : Thread nD τ) L.ref fullShare (L.get S) ∗ bigSep (Finset.univ.erase L.idx) (part c A S)) ⊢ Own c A S := by
  have e := bigSep_erase (Φ := part c A S) (Finset.mem_univ L.idx)
  rw [L.here c S] at e
  exact Entails.of_eq e.symm

/-- Contents `X` after the store of `w` through the rectangle `r` under the mask `M`. -/
def put {s : Shape} {α : Type} (r : Rect s) (X : s.Idx → α) (w : r.shape.Idx → α) (M : Finset r.shape.Idx) : s.Idx → α := fun y =>
  match preimage? r.emb y with
  | some x => if x ∈ M then w x else X y
  | none => X y

theorem put_emb {s : Shape} {α : Type} (r : Rect s) (X : s.Idx → α) (w : r.shape.Idx → α) (M : Finset r.shape.Idx) (x : r.shape.Idx) :
    put r X w M (r.emb x) = if x ∈ M then w x else X (r.emb x) := by
  simp [put, preimage?_emb]

theorem put_off {s : Shape} {α : Type} (r : Rect s) (X : s.Idx → α) (w : r.shape.Idx → α) (M : Finset r.shape.Idx) {y : s.Idx}
    (h : ∀ x, r.emb x ≠ y) : put r X w M y = X y := by
  simp [put, preimage?_eq_none h]

/-- Reading the whole memref after a store through one of its rectangles. -/
theorem read_access_write {s : Shape} {e : EltTy} (v : View sig .tc .vmem s e) (r : Rect s) (f : v.ty.Contents (Elt F))
    (w : r.shape.Idx → Elt F e) (M : Finset r.shape.Idx) :
    v.read (Elt F) ((v.slice r).write (Elt F) f w M) = put r (v.read (Elt F) f) w M := by
  funext y
  by_cases hy : ∃ x, r.emb x = y
  · obtain ⟨x, rfl⟩ := hy
    rw [put_emb]
    split
    · next h => exact View.read_slice_write_emb r f w h
    · next h =>
      refine View.read_slice_write_of_not_mem r f w M fun hm => h ?_
      obtain ⟨x', hx', e'⟩ := Finset.mem_map.mp hm
      rwa [r.emb.injective e'] at hx'
  · rw [put_off r _ _ _ (fun x hx => hy ⟨x, hx⟩)]
    refine View.read_slice_write_of_not_mem r f w M fun hm => hy ?_
    obtain ⟨x', -, e'⟩ := Finset.mem_map.mp hm
    exact ⟨x', e'⟩

/-- The piece `p` of the body, started on contents `S`, runs to the result `a` and contents `S'`. -/
inductive Runs (A : Args) : {α : Type} → KProg F α → Mem F → α → Mem F → Prop
  | ret {α : Type} (a : α) (S : Mem F) : Runs A (.ret a) S a S
  | load {α : Type} {s : Shape} {e : EltTy} (L : Cell F A s e) {r : LoadRect s} {hl : L.ref.view.LoadsAt r}
      {k : (r.shape.Idx → Elt F e) → KProg F α} {S S' : Mem F} {a : α} (h : Runs A (k fun x => L.get S (r.idx x)) S a S') :
      Runs A (.op (.load L.ref r hl) k) S a S'
  | store {α : Type} {s : Shape} {e : EltTy} (L : Cell F A s e) {r : Rect s} {w : r.shape.Idx → Elt F e} {M : Finset r.shape.Idx}
      {hx : (L.ref.access r).Stores M} {hm : M = Finset.univ ∨ ∀ a, r.stride a = 1} {k : PUnit → KProg F α} {S S' : Mem F} {a : α}
      (h : Runs A (k ⟨⟩) (L.set S (put r (L.get S) w M)) a S') :
      Runs A (.op (.store L.ref r w M hx hm) k) S a S'

theorem Runs.bind {A : Args} {α β : Type} {p : KProg F α} {k : α → KProg F β} {S S' S'' : Mem F} {a : α} {b : β}
    (h : Runs A p S a S') (h' : Runs A (k a) S' b S'') : Runs A (p.bind k) S b S'' := by
  induction h with
  | ret => exact h'
  | load L h ih => exact Runs.load L (ih h')
  | store L h ih => exact Runs.store L (ih h')

theorem Runs.of_eq {A : Args} {α : Type} {p q : KProg F α} {S S' S'' : Mem F} {a : α}
    (e : p = q) (h : Runs A q S a S') (e' : S' = S'') : Runs A p S a S'' := by subst e e'; exact h

/-- A run is a weakest precondition. -/
theorem Runs.wp {A : Args} {α : Type} {p : KProg F α} {S S' : Mem F} {a : α} (h : Runs A p S a S') (c : Dev nD) (𝒱₀ : Variants)
    (E : Set ℕ) (Q : α → sProp 𝕄) :
    iprop(Own c A S ∗ (Own c A S' -∗ Q a)) ⊢ wp frame (wpE (defs₀ (F := F)) 𝒱₀ c none) E p Q := by
  induction h with
  | ret a S =>
    rw [wp_ret]; iintro ⟨HS, Hk⟩; imodintro; iapply Hk; iexact HS
  | load L h ih =>
    rename_i r hl k S S' a
    iintro ⟨HS, Hk⟩
    ihave H := L.take c S $$ HS
    icases H with ⟨H1, Hr⟩
    unfold owns
    icases H1 with ⟨%f, %hf, Hf⟩
    iapply wp_load 𝒱₀ c none E (View.setOn_subset_set _ _) $$ Hf
    iintro Hf
    have e : L.ref.view.readAt (Elt F) r f = fun x => L.get S (r.idx x) := by rw [← hf]; rfl
    rw [e]
    iapply ih
    isplitr [Hk]
    · iapply L.keep c S
      isplitr [Hr]
      · unfold owns
        iexists f
        isplitr [Hf]
        · ipureintro; exact hf
        · iexact Hf
      · iexact Hr
    · iexact Hk
  | store L h ih =>
    rename_i r w M hx hm k S S' a
    iintro ⟨HS, Hk⟩
    ihave H := L.take c S $$ HS
    icases H with ⟨H1, Hr⟩
    unfold owns
    icases H1 with ⟨%f, %hf, Hf⟩
    have hS : (L.ref.access r).setOn M ⊆ L.ref.view.set :=
      ((L.ref.access r).setOn_subset_set M).trans (View.set_slice_subset L.ref.view r)
    have hw := wp_store (defs := defs₀ (F := F)) (Γ := .empty) (c := (c : Thread nD τ)) (m := L.ref) (r := r) (w := w) (Mk := M) (hx := hx) (hm := hm)
      (k := k) (Q := Q) 𝒱₀ none E (S := L.ref.view.set) (f := f) hS
    iapply hw $$ Hf
    iintro Hf
    iapply ih
    isplitr [Hk]
    · iapply L.give c S (put r (L.get S) w M)
      isplitr [Hr]
      · unfold owns
        iexists ((L.ref.access r).write (Elt F) f w M)
        isplitr [Hf]
        · ipureintro; exact (read_access_write L.ref.view r f w M).trans (by rw [hf])
        · iexact Hf
      · iexact Hr
    · iexact Hk

def c_x (A : Args) : Cell F A S256x1024 .bf16 where
  ref := A.x
  get S := S.x
  set S X := { S with x := X }
  idx := 0
  here _ _ := rfl
  get_set _ _ := rfl
  rest c S X j hj := by fin_cases j <;> first | rfl | exact absurd rfl hj

def c_xrin (A : Args) : Cell F A S256x1024 .bf16 where
  ref := A.xrin
  get S := S.xrin
  set S X := { S with xrin := X }
  idx := 1
  here _ _ := rfl
  get_set _ _ := rfl
  rest c S X j hj := by fin_cases j <;> first | rfl | exact absurd rfl hj

def c_wp (A : Args) : Cell F A S1280x1024 .fp8e4m3 where
  ref := A.wp
  get S := S.wp
  set S X := { S with wp := X }
  idx := 2
  here _ _ := rfl
  get_set _ _ := rfl
  rest c S X j hj := by fin_cases j <;> first | rfl | exact absurd rfl hj

def c_ws (A : Args) : Cell F A S1x1280 .f32 where
  ref := A.ws
  get S := S.ws
  set S X := { S with ws := X }
  idx := 3
  here _ _ := rfl
  get_set _ _ := rfl
  rest c S X j hj := by fin_cases j <;> first | rfl | exact absurd rfl hj

def c_wr (A : Args) : Cell F A S1280x512 .i8 where
  ref := A.wr
  get S := S.wr
  set S X := { S with wr := X }
  idx := 4
  here _ _ := rfl
  get_set _ _ := rfl
  rest c S X j hj := by fin_cases j <;> first | rfl | exact absurd rfl hj

def c_sr (A : Args) : Cell F A S8x1280 .f32 where
  ref := A.sr
  get S := S.sr
  set S X := { S with sr := X }
  idx := 5
  here _ _ := rfl
  get_set _ _ := rfl
  rest c S X j hj := by fin_cases j <;> first | rfl | exact absurd rfl hj

def c_tgt (A : Args) : Cell F A S2x128 .i32 where
  ref := A.tgt
  get S := S.tgt
  set S X := { S with tgt := X }
  idx := 6
  here _ _ := rfl
  get_set _ _ := rfl
  rest c S X j hj := by fin_cases j <;> first | rfl | exact absurd rfl hj

def c_lp (A : Args) : Cell F A S2x128 .f32 where
  ref := A.lp
  get S := S.lp
  set S X := { S with lp := X }
  idx := 7
  here _ _ := rfl
  get_set _ _ := rfl
  rest c S X j hj := by fin_cases j <;> first | rfl | exact absurd rfl hj

def c_lq (A : Args) : Cell F A S2x128 .f32 where
  ref := A.lq
  get S := S.lq
  set S X := { S with lq := X }
  idx := 8
  here _ _ := rfl
  get_set _ _ := rfl
  rest c S X j hj := by fin_cases j <;> first | rfl | exact absurd rfl hj

def c_kl (A : Args) : Cell F A S2x128 .f32 where
  ref := A.kl
  get S := S.kl
  set S X := { S with kl := X }
  idx := 9
  here _ _ := rfl
  get_set _ _ := rfl
  rest c S X j hj := by fin_cases j <;> first | rfl | exact absurd rfl hj

def c_codes (A : Args) : Cell F A S256x1024 .fp8e4m3 where
  ref := A.codes
  get S := S.codes
  set S X := { S with codes := X }
  idx := 10
  here _ _ := rfl
  get_set _ _ := rfl
  rest c S X j hj := by fin_cases j <;> first | rfl | exact absurd rfl hj

def c_scales (A : Args) : Cell F A S2x128 .f32 where
  ref := A.scales
  get S := S.scales
  set S X := { S with scales := X }
  idx := 11
  here _ _ := rfl
  get_set _ _ := rfl
  rest c S X j hj := by fin_cases j <;> first | rfl | exact absurd rfl hj

def c_xr (A : Args) : Cell F A S256x1024 .bf16 where
  ref := A.xr
  get S := S.xr
  set S X := { S with xr := X }
  idx := 12
  here _ _ := rfl
  get_set _ _ := rfl
  rest c S X j hj := by fin_cases j <;> first | rfl | exact absurd rfl hj

def c_wt (A : Args) : Cell F A S1024x1280 .bf16 where
  ref := A.wt
  get S := S.wt
  set S X := { S with wt := X }
  idx := 13
  here _ _ := rfl
  get_set _ _ := rfl
  rest c S X j hj := by fin_cases j <;> first | rfl | exact absurd rfl hj

def c_u (A : Args) : Cell F A S256x1280 .f32 where
  ref := A.u
  get S := S.u
  set S X := { S with u := X }
  idx := 14
  here _ _ := rfl
  get_set _ _ := rfl
  rest c S X j hj := by fin_cases j <;> first | rfl | exact absurd rfl hj

def c_z (A : Args) : Cell F A S256x1280 .f32 where
  ref := A.z
  get S := S.z
  set S X := { S with z := X }
  idx := 15
  here _ _ := rfl
  get_set _ _ := rfl
  rest c S X j hj := by fin_cases j <;> first | rfl | exact absurd rfl hj

def c_xsl (A : Args) : Cell F A S256x128 .f32 where
  ref := A.xsl
  get S := S.xsl
  set S X := { S with xsl := X }
  idx := 16
  here _ _ := rfl
  get_set _ _ := rfl
  rest c S X j hj := by fin_cases j <;> first | rfl | exact absurd rfl hj

def c_tt (A : Args) : Cell F A S256x128 .i32 where
  ref := A.tt
  get S := S.tt
  set S X := { S with tt := X }
  idx := 17
  here _ _ := rfl
  get_set _ _ := rfl
  rest c S X j hj := by fin_cases j <;> first | rfl | exact absurd rfl hj

def c_mp (A : Args) : Cell F A S256x128 .f32 where
  ref := A.mp
  get S := S.mp
  set S X := { S with mp := X }
  idx := 18
  here _ _ := rfl
  get_set _ _ := rfl
  rest c S X j hj := by fin_cases j <;> first | rfl | exact absurd rfl hj

def c_mq (A : Args) : Cell F A S256x128 .f32 where
  ref := A.mq
  get S := S.mq
  set S X := { S with mq := X }
  idx := 19
  here _ _ := rfl
  get_set _ _ := rfl
  rest c S X j hj := by fin_cases j <;> first | rfl | exact absurd rfl hj

def c_sp (A : Args) : Cell F A S256x128 .f32 where
  ref := A.sp
  get S := S.sp
  set S X := { S with sp := X }
  idx := 20
  here _ _ := rfl
  get_set _ _ := rfl
  rest c S X j hj := by fin_cases j <;> first | rfl | exact absurd rfl hj

def c_sq (A : Args) : Cell F A S256x128 .f32 where
  ref := A.sq
  get S := S.sq
  set S X := { S with sq := X }
  idx := 21
  here _ _ := rfl
  get_set _ _ := rfl
  rest c S X j hj := by fin_cases j <;> first | rfl | exact absurd rfl hj

def c_ta (A : Args) : Cell F A S256x128 .f32 where
  ref := A.ta
  get S := S.ta
  set S X := { S with ta := X }
  idx := 22
  here _ _ := rfl
  get_set _ _ := rfl
  rest c S X j hj := by fin_cases j <;> first | rfl | exact absurd rfl hj

def c_selp (A : Args) : Cell F A S256x128 .f32 where
  ref := A.selp
  get S := S.selp
  set S X := { S with selp := X }
  idx := 23
  here _ _ := rfl
  get_set _ _ := rfl
  rest c S X j hj := by fin_cases j <;> first | rfl | exact absurd rfl hj

def c_selq (A : Args) : Cell F A S256x128 .f32 where
  ref := A.selq
  get S := S.selq
  set S X := { S with selq := X }
  idx := 24
  here _ _ := rfl
  get_set _ _ := rfl
  rest c S X j hj := by fin_cases j <;> first | rfl | exact absurd rfl hj

end Cert.Kernel.Hand
-- ==== Proof.Word.Body.lean ====
/-
  The kernel's body as a few named pieces: `initP` (quantise the tokens, set the statistics), `matP` (unpack and scale one
  chunk of four-bit weights, then both products), `row` (the online softmax on eight token rows of one chunk) and `finP`
  (join the lanes of 128 tokens and write their results). `Glue1`, `Glue2` and `Glue3` show that the printed body is these.
-/
module
public import proofs.«01_k».proof.Proof.Word.Mem

@[expose] public section
noncomputable section

namespace Cert.Kernel.Hand

open Cert.Kernel
open Idealize.ShloMosaic Idealize.SL.Sem

variable {F : FTy → Type} [FloatOps F] [Facts]
open Facts₀ Facts

/-! ## One row group of the softmax -/

/-- The sublane group `r` of a `[256, 128]` statistic: its eight token rows. -/
abbrev grp (r : ℕ) (hr : r < 32) : Rect S256x128 :=
  Rect.unit (s := S256x128) ![8 * r, 0] S8x128.size (Rect.inb₂ (by show 8 * r + 8 ≤ 256; omega) (Nat.le_refl 128))

/-- Lane tile `j` of row group `r` of the `[256, 1280]` logit buffers. -/
abbrev tile (r : ℕ) (hr : r < 32) (j : ℕ) (hj : j < 10) : Rect S256x1280 :=
  Rect.unit (s := S256x1280) ![8 * r, 128 * j] S8x128.size
    (Rect.inb₂ (by show 8 * r + 8 ≤ 256; omega) (by show 128 * j + 128 ≤ 1280; omega))

/-- Load row group `r` of a statistic. -/
def ldG {e : EltTy} (m : Memref sig .tc .vmem S256x128 e) (r : ℕ) (hr : r < 32) : KProg F (Vec F S8x128 e) :=
  Prog.lift (.load m (grp r hr).toLoadRect (View.loadsAt_vmem h_S8x128))

/-- Load tile `j` of row group `r` of a logit buffer. -/
def ldT (m : Memref sig .tc .vmem S256x1280 .f32) (r : ℕ) (hr : r < 32) (j : ℕ) (hj : j < 10) : KProg F (Vec F S8x128 .f32) :=
  Prog.lift (.load m (tile r hr j hj).toLoadRect (View.loadsAt_vmem h_S8x128))

/-- Store row group `r` of a statistic whole (the program reads it first and drops what it read). -/
def stG (m : Memref sig .tc .vmem S256x128 .f32) (r : ℕ) (hr : r < 32) (v : FVec F S8x128 .f32) : KProg F PUnit := do
  let _ ← ldG m r hr
  Prog.lift (.store m (grp r hr) (shapeCast S8x128 v shapeCasts_S8x128_S8x128) Finset.univ
    (View.stores_vmem_bits_univ h_S8x128 rfl) (.inl rfl))

/-- Store row group `r` where the mask `k` is set. -/
def stM (m : Memref sig .tc .vmem S256x128 .f32) (r : ℕ) (hr : r < 32) (v : FVec F S8x128 .f32) (k : IVec S8x128 1) : KProg F PUnit := do
  let _ ← ldG m r hr
  Prog.lift (.store m (grp r hr) (shapeCast S8x128 v shapeCasts_S8x128_S8x128) (IVec.on (shapeCast S8x128 k shapeCasts_S8x128_S8x128))
    (View.stores_vmem_bits h_S8x128 rfl (fun h => nomatch h)) (.inr (fun _ => rfl)))

/-- The ten lane tiles of one row group of a logit buffer. -/
abbrev Tiles (F : FTy → Type) := Fin 10 → FVec F S8x128 .f32

def maxT (m : FVec F S8x128 .f32) (a : Tiles F) : FVec F S8x128 .f32 :=
  maximumf (maximumf (maximumf (maximumf (maximumf (maximumf (maximumf (maximumf (maximumf (maximumf m (a 0)) (a 1)) (a 2)) (a 3)) (a 4)) (a 5)) (a 6)) (a 7)) (a 8)) (a 9)

def sumT (a : Tiles F) : FVec F S8x128 .f32 :=
  addf (addf (addf (addf (addf (addf (addf (addf (addf (a 0) (a 1)) (a 2)) (a 3)) (a 4)) (a 5)) (a 6)) (a 7)) (a 8)) (a 9)

/-- Where the target's tile is tile `j` of chunk `c`. -/
def hitT (tg : IVec S8x128 32) (c : BitVec 32) (j : ℕ) : IVec S8x128 1 :=
  cmpi .eq (shrsi tg (broadcast S8x128 7#32)) (broadcast S8x128 (Scalar.addi (Scalar.muli c 10#32) (BitVec.ofNat 32 j)))

def aT (xl : FVec F S8x128 .f32) (u : Tiles F) : Tiles F := fun j => mulf (u j) xl
def bT (z : Tiles F) : Tiles F := fun j => mulf (z j) (broadcast S8x128 (Scalar.ofBits .f32 0x3FB8AA3B#32))
def eT (m : FVec F S8x128 .f32) (a : Tiles F) : Tiles F := fun j => exp2 (subf (a j) m)
def dT (m : FVec F S8x128 .f32) (a b : Tiles F) : Tiles F := fun j => mulf (exp2 (subf (a j) m)) (subf (a j) (b j))

/-- Both masked stores of tile `j`. -/
def stHit (A : Args) (r : ℕ) (hr : r < 32) (tg : IVec S8x128 32) (c : BitVec 32) (j : Fin 10) (a b : Tiles F) : KProg F PUnit := do
  stM A.selp r hr (a j) (hitT tg c j.val)
  stM A.selq r hr (b j) (hitT tg c j.val)

/-- Row group `r` of the online softmax over chunk `c`. -/
def row (A : Args) (c : BitVec 32) (r : ℕ) (hr : r < 32) : KProg F PUnit := do
  let xl ← ldG A.xsl r hr
  let tg ← ldG A.tt r hr
  let u0 ← ldT A.u r hr 0 (by decide)
  let u1 ← ldT A.u r hr 1 (by decide)
  let u2 ← ldT A.u r hr 2 (by decide)
  let u3 ← ldT A.u r hr 3 (by decide)
  let u4 ← ldT A.u r hr 4 (by decide)
  let u5 ← ldT A.u r hr 5 (by decide)
  let u6 ← ldT A.u r hr 6 (by decide)
  let u7 ← ldT A.u r hr 7 (by decide)
  let u8 ← ldT A.u r hr 8 (by decide)
  let u9 ← ldT A.u r hr 9 (by decide)
  let z0 ← ldT A.z r hr 0 (by decide)
  let z1 ← ldT A.z r hr 1 (by decide)
  let z2 ← ldT A.z r hr 2 (by decide)
  let z3 ← ldT A.z r hr 3 (by decide)
  let z4 ← ldT A.z r hr 4 (by decide)
  let z5 ← ldT A.z r hr 5 (by decide)
  let z6 ← ldT A.z r hr 6 (by decide)
  let z7 ← ldT A.z r hr 7 (by decide)
  let z8 ← ldT A.z r hr 8 (by decide)
  let z9 ← ldT A.z r hr 9 (by decide)
  let mp0 ← ldG A.mp r hr
  let mq0 ← ldG A.mq r hr
  let a : Tiles F := aT xl ![u0, u1, u2, u3, u4, u5, u6, u7, u8, u9]
  let b : Tiles F := bT ![z0, z1, z2, z3, z4, z5, z6, z7, z8, z9]
  stHit A r hr tg c 0 a b
  stHit A r hr tg c 1 a b
  stHit A r hr tg c 2 a b
  stHit A r hr tg c 3 a b
  stHit A r hr tg c 4 a b
  stHit A r hr tg c 5 a b
  stHit A r hr tg c 6 a b
  stHit A r hr tg c 7 a b
  stHit A r hr tg c 8 a b
  stHit A r hr tg c 9 a b
  stG A.mp r hr (maxT mp0 a)
  stG A.mq r hr (maxT mq0 b)
  let s0 ← ldG A.sp r hr
  stG A.sp r hr (addf (mulf s0 (exp2 (subf mp0 (maxT mp0 a)))) (sumT (eT (maxT mp0 a) a)))
  let t0 ← ldG A.ta r hr
  stG A.ta r hr (addf (mulf t0 (exp2 (subf mp0 (maxT mp0 a)))) (sumT (dT (maxT mp0 a) a b)))
  let q0 ← ldG A.sq r hr
  stG A.sq r hr (addf (mulf q0 (exp2 (subf mq0 (maxT mq0 b)))) (sumT (eT (maxT mq0 b) b)))

/-- Row groups `r` to `r + n - 1`. -/
def rowsP (A : Args) (c : BitVec 32) : (n r : ℕ) → (h : r + n ≤ 32) → KProg F PUnit
  | 0, _, _ => .ret ⟨⟩
  | n + 1, r, h => (row A c r (by omega)).bind fun _ => rowsP A c n (r + 1) (by omega)

/-! ## One chunk's products -/

/-- Block `(g, i)` of the dequantised weights: group `g` of 128 inputs, column tile `i` of 256 classes. -/
abbrev wblk (g : Fin 8) (i : Fin 5) : Rect S1024x1280 :=
  Rect.unit (s := S1024x1280) ![128 * g.val, 256 * i.val] S128x256.size
    (Rect.inb₂ (by show 128 * g.val + 128 ≤ 1024; omega) (by show 256 * i.val + 256 ≤ 1280; omega))

theorem packed_wblk : ∀ (g : Fin 8) (i : Fin 5), (wblk g i).PackedRows (EltTy.packing .bf16) := by decide

/-- The rows of packed weights of column tile `i`. -/
abbrev wrow (i : Fin 5) : Rect S1280x512 :=
  Rect.unit (s := S1280x512) ![256 * i.val, 0] S256x512.size
    (Rect.inb₂ (by show 256 * i.val + 256 ≤ 1280; omega) (Nat.le_refl 512))

/-- The two nibbles of each packed byte, sign-extended, one above the other in the rows. -/
def nibV (w : IVec S256x512 8) : IVec S1024x256 16 :=
  bitcast S1024x256 16
    (ori
      (andi (shrsi (shli (extui 32 (transpose S512x256 [1, 0] w transposes_S256x512_p1_0_S512x256) natLt_8_32)
        (broadcast S512x256 28#32)) (broadcast S512x256 28#32)) (broadcast S512x256 65535#32))
      (shli (shrsi (shli (extui 32 (transpose S512x256 [1, 0] w transposes_S256x512_p1_0_S512x256) natLt_8_32)
        (broadcast S512x256 24#32)) (broadcast S512x256 28#32)) (broadcast S512x256 16#32)))
    bitcasts_S512x256_w32_S1024x256_w16

theorem slices_nib : ∀ g : Fin 8, S1024x256.Slices ![128 * g.val, 0] S128x256 := by decide
theorem slices_scale : ∀ (g : Fin 8) (i : Fin 5), S8x1280.Slices ![g.val, 256 * i.val] S1x256 := by decide

/-- Block `(g, i)`'s new contents. -/
def deqV (s : FVec F S8x1280 .f32) (w : IVec S256x512 8) (g : Fin 8) (i : Fin 5) : FVec F S128x256 .bf16 :=
  mulf (sitofp .bf16 (extractStridedSlice S128x256 ![128 * g.val, 0] (nibV w) (slices_nib g)))
    (broadcastTo S128x256 (extractStridedSlice S1x256 ![g.val, 256 * i.val] (truncf .bf16 s bitsLt_bf16_f32) (slices_scale g i))
      broadcasts_S1x256_S128x256)

def stW (A : Args) (g : Fin 8) (i : Fin 5) (v : FVec F S128x256 .bf16) : KProg F PUnit := do
  let _ : Vec F S128x256 .bf16 ← Prog.lift (.load A.wt (wblk g i).toLoadRect (View.loadsAt_vmem h_S128x256))
  Prog.lift (.store A.wt (wblk g i) (shapeCast S128x256 v shapeCasts_S128x256_S128x256) Finset.univ
    (View.stores_vmem h_S128x256 (A.wtW.storeExact_slice rfl _ (packed_wblk g i)) (fun _ => rfl)) (.inl rfl))

/-- Column tile `i` of the chunk, all eight groups. -/
def deqP (A : Args) (s : FVec F S8x1280 .f32) (i : Fin 5) : KProg F PUnit := do
  let w : Vec F S256x512 .i8 ← Prog.lift (.load A.wr (wrow i).toLoadRect (View.loadsAt_vmem h_S256x512))
  stW A 0 i (deqV s w 0 i)
  stW A 1 i (deqV s w 1 i)
  stW A 2 i (deqV s w 2 i)
  stW A 3 i (deqV s w 3 i)
  stW A 4 i (deqV s w 4 i)
  stW A 5 i (deqV s w 5 i)
  stW A 6 i (deqV s w 6 i)
  stW A 7 i (deqV s w 7 i)

def uV (codes : FVec F S256x1024 .fp8e4m3) (w : FVec F S1280x1024 .fp8e4m3) (ws : FVec F S1x1280 .f32) : FVec F S256x1280 .f32 :=
  mulf (matmul dot_S256x1024_S1280x1024_S256x1280_1_1_0_0_n_n none (shapeCast S256x1024 codes shapeCasts_S256x1024_S256x1024) w
      (constant S256x1280 .f32 0x00000000#32))
    (broadcastTo S256x1280 (shapeCast S1x1280 ws shapeCasts_S1x1280_S1x1280) broadcasts_S1x1280_S256x1280)

def zV (xr : FVec F S256x1024 .bf16) (wt : FVec F S1024x1280 .bf16) : FVec F S256x1280 .f32 :=
  matmul dot_S256x1024_S1024x1280_S256x1280_1_0_0_1_n_n none xr wt (constant S256x1280 .f32 0x00000000#32)

/-- Write a whole logit buffer. -/
def stU (m : Memref sig .tc .vmem S256x1280 .f32) (v : FVec F S256x1280 .f32) : KProg F PUnit := do
  let _ : Vec F S256x1280 .f32 ← Prog.lift (.load m (Rect.unit (s := S256x1280) ![0, 0] S256x1280.size inb_S256x1280_S256x1280_0_0).toLoadRect
    (View.loadsAt_vmem h_S256x1280))
  Prog.lift (.store m (Rect.unit (s := S256x1280) ![0, 0] S256x1280.size inb_S256x1280_S256x1280_0_0)
    (shapeCast S256x1280 v shapeCasts_S256x1280_S256x1280) Finset.univ (View.stores_vmem_bits_univ h_S256x1280 rfl) (.inl rfl))

/-- The chunk's weights unpacked and both products. -/
def matP (A : Args) : KProg F PUnit := do
  let s : Vec F S8x1280 .f32 ← Prog.lift (.load A.sr (Rect.unit (s := S8x1280) ![0, 0] S8x1280.size inb_S8x1280_S8x1280_0_0).toLoadRect
    (View.loadsAt_vmem h_S8x1280))
  deqP A (shapeCast S8x1280 s shapeCasts_S8x1280_S8x1280) 0
  deqP A (shapeCast S8x1280 s shapeCasts_S8x1280_S8x1280) 1
  deqP A (shapeCast S8x1280 s shapeCasts_S8x1280_S8x1280) 2
  deqP A (shapeCast S8x1280 s shapeCasts_S8x1280_S8x1280) 3
  deqP A (shapeCast S8x1280 s shapeCasts_S8x1280_S8x1280) 4
  let codes : Vec F S256x1024 .fp8e4m3 ← Prog.lift (.load A.codes
    (Rect.unit (s := S256x1024) ![0, 0] S256x1024.size inb_S256x1024_S256x1024_0_0).toLoadRect (View.loadsAt_vmem h_S256x1024))
  let w : Vec F S1280x1024 .fp8e4m3 ← Prog.lift (.load A.wp
    (Rect.unit (s := S1280x1024) ![0, 0] S1280x1024.size inb_S1280x1024_S1280x1024_0_0).toLoadRect (View.loadsAt_vmem h_S1280x1024))
  let ws : Vec F S1x1280 .f32 ← Prog.lift (.load A.ws
    (Rect.unit (s := S1x1280) ![0, 0] S1x1280.size inb_S1x1280_S1x1280_0_0).toLoadRect (View.loadsAt_vmem h_S1x1280))
  stU A.u (uV codes w ws)
  let xr : Vec F S256x1024 .bf16 ← Prog.lift (.load A.xr
    (Rect.unit (s := S256x1024) ![0, 0] S256x1024.size inb_S256x1024_S256x1024_0_0).toLoadRect (View.loadsAt_vmem h_S256x1024))
  let wt : Vec F S1024x1280 .bf16 ← Prog.lift (.load A.wt
    (Rect.unit (s := S1024x1280) ![0, 0] S1024x1280.size inb_S1024x1280_S1024x1280_0_0).toLoadRect (View.loadsAt_vmem h_S1024x1280))
  stU A.z (zV xr wt)

/-! ## The first point -/

/-- The tokens' absolute values' maxima over 448. -/
def topV (x : FVec F S256x1024 .bf16) : FVec F S256x1 .f32 :=
  mulf (shapeCast S256x1 (multiReduction .maximumf [1] S256
      (absf (extf .f32 (shapeCast S256x1024 x shapeCasts_S256x1024_S256x1024) bitsLt_bf16_f32)) 0xFF800000#32 reduces_S256x1024_S256 (.inl rfl) rfl)
      shapeCasts_S256_S256x1)
    (broadcast S256x1 (Scalar.ofBits .f32 0x3B124925#32))

/-- How many of the powers of two from `2 ^ (-126)` to `2 ^ 127` are at most `q`. -/
def expoV (q : FVec F S256x1 .f32) : IVec S256 32 :=
  multiReductionI .add [1] S256
    (select
      (ori
        (cmpf .olt (broadcastTo S256x256 q broadcasts_S256x1_S256x256)
          (bitcastToFloat .f32 (shli (minsi (addi (iota .tc S256x256 32 [1] iota_S256x256_d1_w32) (broadcast S256x256 1#32))
            (broadcast S256x256 255#32)) (broadcast S256x256 23#32))))
        (cmpi .eq (iota .tc S256x256 32 [1] iota_S256x256_d1_w32) (broadcast S256x256 255#32)))
      (broadcast S256x256 0#32) (broadcast S256x256 1#32))
    0#32 reduces_S256x256_S256 rfl

/-- The exponent of the scale: none of the powers, or the count less 126. -/
def eV (n : IVec S256 32) : IVec S256x128 32 :=
  select
    (cmpi .eq (broadcastTo S256x128 (shapeCast S256x1 (shapeCast S256x1 n shapeCasts_S256_S256x1) shapeCasts_S256x1_S256x1) broadcasts_S256x1_S256x128)
      (broadcast S256x128 0#32))
    (broadcast S256x128 0#32)
    (subi (broadcastTo S256x128 (shapeCast S256x1 (shapeCast S256x1 n shapeCasts_S256_S256x1) shapeCasts_S256x1_S256x1) broadcasts_S256x1_S256x128)
      (broadcast S256x128 126#32))

/-- `2 ^ e` by its bits. -/
def powV (e : IVec S256x128 32) : FVec F S256x128 .f32 :=
  bitcastToFloat .f32 (shli (addi e (broadcast S256x128 127#32)) (broadcast S256x128 23#32))

def negV (e : IVec S256x128 32) : IVec S256x128 32 := subi (broadcast S256x128 0#32) e

def codesV (x : FVec F S256x1024 .bf16) (inv : FVec F S256x128 .f32) : FVec F S256x1024 .fp8e4m3 :=
  truncf .fp8e4m3
    (minimumf (broadcast S256x1024 (Scalar.ofBits .f32 0x43E00000#32))
      (maximumf (broadcast S256x1024 (Scalar.ofBits .f32 0xC3E00000#32))
        (mulf (extf .f32 (shapeCast S256x1024 x shapeCasts_S256x1024_S256x1024) bitsLt_bf16_f32)
          (broadcastTo S256x1024 (extractStridedSlice S256x1 ![0, 0] inv slices_S256x128_o0_0_S256x1) broadcasts_S256x1_S256x1024))))
    bitsLt_fp8e4m3_f32

theorem slices_half : ∀ h : Fin 2, S256x128.Slices ![128 * h.val, 0] S128x128 := by decide

/-- Half `h` of the scales, along the lanes. -/
def scalesV (xs : FVec F S256x128 .f32) (h : Fin 2) : FVec F S1x128 .f32 :=
  extractStridedSlice S1x128 ![0, 0]
    (transpose S128x128 [1, 0] (extractStridedSlice S128x128 ![128 * h.val, 0] xs (slices_half h)) transposes_S128x128_p1_0_S128x128)
    slices_S128x128_o0_0_S1x128

/-- A row of 128 target indices down the sublanes, the same on every lane. -/
def tgtV (t : IVec S1x128 32) : IVec S128x128 32 :=
  transpose S128x128 [1, 0] (broadcastTo S128x128 (shapeCast S1x128 t shapeCasts_S1x128_S1x128) broadcasts_S1x128_S128x128)
    transposes_S128x128_p1_0_S128x128

/-- Row `h` of a `[2, 128]` buffer. -/
abbrev orow (h : Fin 2) : Rect S2x128 :=
  Rect.unit (s := S2x128) ![h.val, 0] S1x128.size (Rect.inb₂ (by show h.val + 1 ≤ 2; omega) (Nat.le_refl 128))

/-- Tokens `128 h` to `128 h + 127` of a statistic. -/
abbrev half (h : Fin 2) : Rect S256x128 :=
  Rect.unit (s := S256x128) ![128 * h.val, 0] S128x128.size (Rect.inb₂ (by show 128 * h.val + 128 ≤ 256; omega) (Nat.le_refl 128))

/-- Write a whole statistic. -/
def stS (m : Memref sig .tc .vmem S256x128 .f32) (v : FVec F S256x128 .f32) : KProg F PUnit := do
  let _ : Vec F S256x128 .f32 ← Prog.lift (.load m (Rect.unit (s := S256x128) ![0, 0] S256x128.size inb_S256x128_S256x128_0_0).toLoadRect
    (View.loadsAt_vmem h_S256x128))
  Prog.lift (.store m (Rect.unit (s := S256x128) ![0, 0] S256x128.size inb_S256x128_S256x128_0_0)
    (shapeCast S256x128 v shapeCasts_S256x128_S256x128) Finset.univ (View.stores_vmem_bits_univ h_S256x128 rfl) (.inl rfl))

/-- Write row `h` of a `[2, 128]` result. -/
def stO (m : Memref sig .tc .vmem S2x128 .f32) (h : Fin 2) (v : FVec F S1x128 .f32) : KProg F PUnit := do
  let _ : Vec F S1x128 .f32 ← Prog.lift (.load m (orow h).toLoadRect (View.loadsAt_vmem h_S1x128))
  Prog.lift (.store m (orow h) v Finset.univ (View.stores_vmem_bits_univ h_S1x128 rfl) (.inl rfl))

/-- Half `h` of the scales and of the targets. -/
def halfP (A : Args) (xs : FVec F S256x128 .f32) (h : Fin 2) : KProg F PUnit := do
  stO A.scales h (scalesV xs h)
  let t : Vec F S1x128 .i32 ← Prog.lift (.load A.tgt (orow h).toLoadRect (View.loadsAt_vmem h_S1x128))
  let _ : Vec F S128x128 .i32 ← Prog.lift (.load A.tt (half h).toLoadRect (View.loadsAt_vmem h_S128x128))
  Prog.lift (.store A.tt (half h) (shapeCast S128x128 (tgtV t) shapeCasts_S128x128_S128x128) Finset.univ
    (View.stores_vmem_bits_univ h_S128x128 rfl) (.inl rfl))

def initP (A : Args) : KProg F PUnit := do
  let xr : Vec F S256x1024 .bf16 ← Prog.lift (.load A.xrin
    (Rect.unit (s := S256x1024) ![0, 0] S256x1024.size inb_S256x1024_S256x1024_0_0).toLoadRect (View.loadsAt_vmem h_S256x1024))
  let _ : Vec F S256x1024 .bf16 ← Prog.lift (.load A.xr
    (Rect.unit (s := S256x1024) ![0, 0] S256x1024.size inb_S256x1024_S256x1024_0_0).toLoadRect (View.loadsAt_vmem h_S256x1024))
  let _ ← Prog.lift (.store A.xr (Rect.unit (s := S256x1024) ![0, 0] S256x1024.size inb_S256x1024_S256x1024_0_0)
    (shapeCast S256x1024 (shapeCast S256x1024 xr shapeCasts_S256x1024_S256x1024) shapeCasts_S256x1024_S256x1024) Finset.univ
    (View.stores_vmem h_S256x1024 (A.xrW.storeExact_slice rfl _ packedbf16_S256x1024_S256x1024_0_0) (fun _ => rfl)) (.inl rfl))
  let x : Vec F S256x1024 .bf16 ← Prog.lift (.load A.x
    (Rect.unit (s := S256x1024) ![0, 0] S256x1024.size inb_S256x1024_S256x1024_0_0).toLoadRect (View.loadsAt_vmem h_S256x1024))
  let e : IVec S256x128 32 := eV (expoV (topV x))
  stS A.xsl (mulf (powV e) (broadcast S256x128 (Scalar.ofBits .f32 0x3FB8AA3B#32)))
  let _ : Vec F S256x1024 .fp8e4m3 ← Prog.lift (.load A.codes
    (Rect.unit (s := S256x1024) ![0, 0] S256x1024.size inb_S256x1024_S256x1024_0_0).toLoadRect (View.loadsAt_vmem h_S256x1024))
  let _ ← Prog.lift (.store A.codes (Rect.unit (s := S256x1024) ![0, 0] S256x1024.size inb_S256x1024_S256x1024_0_0)
    (codesV x (powV (negV e))) Finset.univ
    (View.stores_vmem h_S256x1024 (A.codesW.storeExact_slice rfl _ packedfp8e4m3_S256x1024_S256x1024_0_0) (fun _ => rfl)) (.inl rfl))
  halfP A (powV e) 0
  halfP A (powV e) 1
  stS A.mp (broadcast S256x128 (Scalar.ofBits .f32 0xFF61B1E6#32))
  stS A.mq (broadcast S256x128 (Scalar.ofBits .f32 0xFF61B1E6#32))
  stS A.sp (broadcast S256x128 (Scalar.ofBits .f32 0x00000000#32))
  stS A.sq (broadcast S256x128 (Scalar.ofBits .f32 0x00000000#32))
  stS A.ta (broadcast S256x128 (Scalar.ofBits .f32 0x00000000#32))

/-! ## The last point -/

def ldH {e : EltTy} (m : Memref sig .tc .vmem S256x128 e) (h : Fin 2) : KProg F (Vec F S128x128 e) :=
  Prog.lift (.load m (half h).toLoadRect (View.loadsAt_vmem h_S128x128))

def maxV (m : FVec F S128x128 .f32) : FVec F S128x1 .f32 :=
  shapeCast S128x1 (multiReduction .maximumf [1] S128 m 0xFF800000#32 reduces_S128x128_S128 (.inl rfl) rfl) shapeCasts_S128_S128x1

def addV (m : FVec F S128x128 .f32) : FVec F S128x1 .f32 :=
  shapeCast S128x1 (multiReduction .add [1] S128 m 0x00000000#32 reduces_S128x128_S128 (.inl rfl) rfl) shapeCasts_S128_S128x1

/-- The factor each lane's sums are rescaled by. -/
def facV (m : FVec F S128x128 .f32) (top : FVec F S128x1 .f32) : FVec F S128x128 .f32 :=
  exp2 (subf m (broadcastTo S128x128 top broadcasts_S128x1_S128x128))

def selV (tg : IVec S128x128 32) (s : FVec F S128x128 .f32) : FVec F S128x1 .f32 :=
  addV (select (cmpi .eq (iota .tc S128x128 32 [1] iota_S128x128_d1_w32) (andi tg (broadcast S128x128 127#32))) s
    (broadcast S128x128 (Scalar.ofBits .f32 0x00000000#32)))

def lseV (m s : FVec F S128x1 .f32) : FVec F S128x1 .f32 := addf m (mulf (log s) (broadcast S128x1 (Scalar.ofBits .f32 0x3FB8AA3B#32)))

def outV (v : FVec F S128x1 .f32) : FVec F S1x128 .f32 :=
  extractStridedSlice S1x128 ![0, 0]
    (transpose S128x128 [1, 0]
      (broadcastTo S128x128 (shapeCast S128x1 (mulf v (broadcast S128x1 (Scalar.ofBits .f32 0x3F317218#32))) shapeCasts_S128x1_S128x1)
        broadcasts_S128x1_S128x128) transposes_S128x128_p1_0_S128x128)
    slices_S128x128_o0_0_S1x128

def finP (A : Args) (h : Fin 2) : KProg F PUnit := do
  let tg ← ldH A.tt h
  let mp ← ldH A.mp h
  let mq ← ldH A.mq h
  let mp' ← ldH A.mp h
  let mq' ← ldH A.mq h
  let sp ← ldH A.sp h
  let sq ← ldH A.sq h
  let ta ← ldH A.ta h
  let selp ← ldH A.selp h
  let selq ← ldH A.selq h
  let s : FVec F S128x1 .f32 := addV (mulf sp (facV mp' (maxV mp)))
  let lp : FVec F S128x1 .f32 := lseV (maxV mp) s
  let lq : FVec F S128x1 .f32 := lseV (maxV mq) (addV (mulf sq (facV mq' (maxV mq))))
  stO A.lp h (outV (subf (selV tg selp) lp))
  stO A.lq h (outV (subf (selV tg selq) lq))
  stO A.kl h (outV (addf (subf (divf (addV (mulf ta (facV mp' (maxV mp)))) s) lp) lq))

/-! ## Gluing -/

theorem opc {E : Type → Type} {α β : Type} (e : E β) {k k' : β → Prog E α} (h : ∀ x, k x = k' x) : Prog.op e k = Prog.op e k' :=
  congrArg _ (funext h)

theorem bind_step {E : Type → Type} {α : Type} {p : Prog E α} (q : Prog E PUnit) {k : Prog E α} {R : PUnit → Prog E α}
    (h1 : p = q.bind fun _ => k) (h2 : k = R ⟨⟩) : p = q.bind R := by
  subst h2; exact h1

theorem rows_step {A : Args} {c : BitVec 32} {n r : ℕ} (h : r + (n + 1) ≤ 32) {α : Type} {p k : KProg F α} {R : PUnit → KProg F α}
    (h1 : p = (row A c r (by omega)).bind fun _ => k) (h2 : k = (rowsP A c n (r + 1) (by omega)).bind R) :
    p = (rowsP A c (n + 1) r h).bind R := by
  rw [h1, h2, rowsP]; exact (Prog.bind_assoc _ _ _).symm

theorem rows_end {A : Args} {c : BitVec 32} {r : ℕ} (h : r + 0 ≤ 32) {α : Type} {p : KProg F α} {R : PUnit → KProg F α}
    (h1 : p = R ⟨⟩) : p = (rowsP A c 0 r h).bind R := h1

theorem dpos {c : Prop} [Decidable c] (h : c) {α : Sort*} {a : c → α} {b : ¬ c → α} {R : α} (e : a h = R) : dite c a b = R := by
  rw [dif_pos h]; exact e

theorem dneg {c : Prop} [Decidable c] (h : ¬ c) {α : Sort*} {a : c → α} {b : ¬ c → α} {R : α} (e : b h = R) : dite c a b = R := by
  rw [dif_neg h]; exact e

/-- The condition of the middle points, as the kernel computes it. -/
def cond2 (i : grid0.Coords) : BitVec 1 :=
  Scalar.cmpi .ne (Scalar.extui (Scalar.andi (Scalar.cmpi .sgt (BitVec.ofNat 32 (i 0).val) 0#32) (Scalar.cmpi .slt (BitVec.ofNat 32 (i 0).val) 25#32)) : BitVec 32) 0#32

end Cert.Kernel.Hand
-- ==== Proof.Word.Soft.lean ====
/-
  What the online softmax of one chunk does to the statistics, entry by entry: row group after row group, the entries of
  the rows done are `newMem`'s and the others are as they were (`mixM`), so after all 32 groups every entry is new.
-/
module
public import proofs.«01_k».proof.Proof.Word.Body
public import Idealize.ShloMosaic.Lib.Pipeline.Value
public import Idealize.ShloMosaic.Lib.ValueIdxCoords

@[expose] public section
noncomputable section

namespace Cert.Kernel.Hand

open Cert.Kernel
open Idealize.ShloMosaic Idealize.SL.Sem Idealize.ShloMosaic.ValueIdx

variable {F : FTy → Type} [FloatOps F] [Facts]
open Facts₀ Facts

/-! ## One entry -/

/-- The running maximum of one entry with the ten tiles' logits. -/
def maxE (m : F .f32) (a : Fin 10 → F .f32) : F .f32 :=
  FloatOps.maximumf (FloatOps.maximumf (FloatOps.maximumf (FloatOps.maximumf (FloatOps.maximumf (FloatOps.maximumf (FloatOps.maximumf (FloatOps.maximumf (FloatOps.maximumf (FloatOps.maximumf m (a 0)) (a 1)) (a 2)) (a 3)) (a 4)) (a 5)) (a 6)) (a 7)) (a 8)) (a 9)

/-- The sum over the ten tiles. -/
def sumE (a : Fin 10 → F .f32) : F .f32 :=
  FloatOps.addf (FloatOps.addf (FloatOps.addf (FloatOps.addf (FloatOps.addf (FloatOps.addf (FloatOps.addf (FloatOps.addf (FloatOps.addf (a 0) (a 1)) (a 2)) (a 3)) (a 4)) (a 5)) (a 6)) (a 7)) (a 8)) (a 9)

/-- Whether the target `t` lies in tile `j` of chunk `c`. -/
def hitE (t c : BitVec 32) (j : ℕ) : BitVec 1 :=
  IntOp.cmpi .eq (IntOp.shrsi .vector t 7#32) (Scalar.addi (Scalar.muli c 10#32) (BitVec.ofNat 32 j))

/-- The tile's logit where the target's tile is among the ten, the old value elsewhere. -/
def selE (t c : BitVec 32) (a : Fin 10 → F .f32) (x : F .f32) : F .f32 :=
  if hitE t c 9 = 1 then a 9 else if hitE t c 8 = 1 then a 8 else if hitE t c 7 = 1 then a 7 else if hitE t c 6 = 1 then a 6 else
  if hitE t c 5 = 1 then a 5 else if hitE t c 4 = 1 then a 4 else if hitE t c 3 = 1 then a 3 else if hitE t c 2 = 1 then a 2 else
  if hitE t c 1 = 1 then a 1 else if hitE t c 0 = 1 then a 0 else x

/-- A running sum rescaled from the maximum `m` to `m'`, and the chunk's own `d` added. -/
def stepE (s m m' d : F .f32) : F .f32 := FloatOps.addf (FloatOps.mulf s (FloatOps.exp2 (FloatOps.subf m m'))) d

/-- The ten tiles of a token's logits on one lane. -/
def onLane (v : Vec F S256x1280 .f32) (y : S256x128.Idx) (j : Fin 10) : F .f32 :=
  v (ix2 (y 0) (⟨128 * j.val + (y 1).val, by have := (y 1).isLt; have : (y 1).val < 128 := this; omega⟩ : Fin 1280))

/-- The policy's logits, in units of `log 2`. -/
def aE (S : Mem F) (y : S256x128.Idx) (j : Fin 10) : F .f32 := FloatOps.mulf (onLane S.u y j) (S.xsl y)
/-- The reference model's logits, in units of `log 2`. -/
def bE (S : Mem F) (y : S256x128.Idx) (j : Fin 10) : F .f32 := FloatOps.mulf (onLane S.z y j) (Scalar.ofBits .f32 0x3FB8AA3B#32)

/-- The statistics after chunk `c`, whose logits are in `S.u` and `S.z`. -/
def softM (c : BitVec 32) (S : Mem F) : Mem F := { S with
  mp := fun y => maxE (S.mp y) (aE S y)
  mq := fun y => maxE (S.mq y) (bE S y)
  sp := fun y => stepE (S.sp y) (S.mp y) (maxE (S.mp y) (aE S y))
    (sumE fun j => FloatOps.exp2 (FloatOps.subf (aE S y j) (maxE (S.mp y) (aE S y))))
  ta := fun y => stepE (S.ta y) (S.mp y) (maxE (S.mp y) (aE S y))
    (sumE fun j => FloatOps.mulf (FloatOps.exp2 (FloatOps.subf (aE S y j) (maxE (S.mp y) (aE S y)))) (FloatOps.subf (aE S y j) (bE S y j)))
  sq := fun y => stepE (S.sq y) (S.mq y) (maxE (S.mq y) (bE S y))
    (sumE fun j => FloatOps.exp2 (FloatOps.subf (bE S y j) (maxE (S.mq y) (bE S y))))
  selp := fun y => selE (S.tt y) c (aE S y) (S.selp y)
  selq := fun y => selE (S.tt y) c (bE S y) (S.selq y) }

/-! ## Rows done and rows to come -/

/-- `N` on the rows of the first `r` groups, `X` on the others. -/
def mixR {α : Type} (r : ℕ) (X N : S256x128.Idx → α) : S256x128.Idx → α := fun y => if (y 0).val < 8 * r then N y else X y

theorem emb_grp (r : ℕ) (hr : r < 32) (x : S8x128.Idx) : ((grp r hr).emb x 0).val = 8 * r + (x 0).val := by
  rw [Rect.emb_apply]; show 8 * r + 1 * _ = _; omega

theorem lt_grp (r : ℕ) (hr : r < 32) (x : S8x128.Idx) : ¬ ((grp r hr).emb x 0).val < 8 * r := by
  rw [emb_grp]; omega

/-- A row group stored whole moves it from `X` to `N`. -/
theorem put_mixR {α : Type} (r : ℕ) (hr : r < 32) (X N : S256x128.Idx → α) (w : S8x128.Idx → α)
    (h : ∀ x, w x = N ((grp r hr).emb x)) : put (grp r hr) (mixR r X N) w Finset.univ = mixR (r + 1) X N := by
  funext y
  by_cases hy : ∃ x, (grp r hr).emb x = y
  · obtain ⟨x, rfl⟩ := hy
    rw [put_emb, if_pos (Finset.mem_univ _), h]
    unfold mixR
    rw [if_pos]
    have : (x 0).val < 8 := (x 0).isLt
    rw [emb_grp]; omega
  · rw [put_off _ _ _ _ (fun x hx => hy ⟨x, hx⟩)]
    unfold mixR
    by_cases h1 : (y 0).val < 8 * r
    · rw [if_pos h1, if_pos (by omega)]
    · rw [if_neg h1, if_neg]
      intro h2
      apply hy
      refine ⟨ix2 (⟨(y 0).val - 8 * r, by omega⟩ : Fin 8) (y 1), ?_⟩
      funext a
      apply Fin.ext
      rw [Rect.emb_apply]
      match a with
      | 0 => show 8 * r + 1 * ((y 0).val - 8 * r) = (y 0).val; omega
      | 1 => show 0 + 1 * (y 1).val = (y 1).val; omega

/-- What a masked store of a row group does to an entry of the group. -/
theorem put_on (r : ℕ) (hr : r < 32) {α : Type} (X : S256x128.Idx → α) (w : S8x128.Idx → α) (k : IVec S8x128 1) (x : S8x128.Idx) :
    put (grp r hr) X w (IVec.on k) ((grp r hr).emb x) = if k x = 1 then w x else X ((grp r hr).emb x) := by
  rw [put_emb]; simp [IVec.on]

/-- The statistics with the first `r` row groups done. -/
def mixM (c : BitVec 32) (r : ℕ) (S : Mem F) : Mem F := { S with
  mp := mixR r S.mp (softM c S).mp
  mq := mixR r S.mq (softM c S).mq
  sp := mixR r S.sp (softM c S).sp
  ta := mixR r S.ta (softM c S).ta
  sq := mixR r S.sq (softM c S).sq
  selp := mixR r S.selp (softM c S).selp
  selq := mixR r S.selq (softM c S).selq }

theorem mixM_zero (c : BitVec 32) (S : Mem F) : mixM c 0 S = S := by
  have h : ∀ {α : Type} (X N : S256x128.Idx → α), mixR 0 X N = X := fun X N => by funext y; simp [mixR]
  simp only [mixM, h]

theorem mixM_all (c : BitVec 32) (S : Mem F) : mixM c 32 S = softM c S := by
  have h : ∀ {α : Type} (X N : S256x128.Idx → α), mixR 32 X N = N := fun X N => by
    funext y; have : (y 0).val < 256 := (y 0).isLt; simp only [mixR]; rw [if_pos (by omega)]
  simp only [mixM, h]; rfl

/-! ## One row group -/

/-- Ten masked stores of the tiles of a row group. -/
def putHits (r : ℕ) (hr : r < 32) (tg : IVec S8x128 32) (c : BitVec 32) (a : Tiles F) (X : S256x128.Idx → F .f32) : S256x128.Idx → F .f32 :=
  let p (j : Fin 10) (X : S256x128.Idx → F .f32) : S256x128.Idx → F .f32 :=
    put (grp r hr) X (shapeCast S8x128 (a j) shapeCasts_S8x128_S8x128) (IVec.on (shapeCast S8x128 (hitT tg c j.val) shapeCasts_S8x128_S8x128))
  p 9 (p 8 (p 7 (p 6 (p 5 (p 4 (p 3 (p 2 (p 1 (p 0 X)))))))))

/-- The contents after row group `r` of chunk `c`, as the program makes them. -/
def rowM (c : BitVec 32) (r : ℕ) (hr : r < 32) (S : Mem F) : Mem F :=
  let ld {α : Type} (X : S256x128.Idx → α) : S8x128.Idx → α := fun x => X ((grp r hr).toLoadRect.idx x)
  let tl (X : S256x1280.Idx → F .f32) (j : ℕ) (hj : j < 10) : S8x128.Idx → F .f32 := fun x => X ((tile r hr j hj).toLoadRect.idx x)
  let tls (X : S256x1280.Idx → F .f32) : Tiles F := ![tl X 0 (by decide), tl X 1 (by decide), tl X 2 (by decide), tl X 3 (by decide),
    tl X 4 (by decide), tl X 5 (by decide), tl X 6 (by decide), tl X 7 (by decide), tl X 8 (by decide), tl X 9 (by decide)]
  let st (X : S256x128.Idx → F .f32) (v : FVec F S8x128 .f32) : S256x128.Idx → F .f32 :=
    put (grp r hr) X (shapeCast S8x128 v shapeCasts_S8x128_S8x128) Finset.univ
  let a : Tiles F := aT (ld S.xsl) (tls S.u)
  let b : Tiles F := bT (tls S.z)
  let mp' := maxT (ld S.mp) a
  let mq' := maxT (ld S.mq) b
  { S with
    selp := putHits r hr (ld S.tt) c a S.selp
    selq := putHits r hr (ld S.tt) c b S.selq
    mp := st S.mp mp'
    mq := st S.mq mq'
    sp := st S.sp (addf (mulf (ld S.sp) (exp2 (subf (ld S.mp) mp'))) (sumT (eT mp' a)))
    ta := st S.ta (addf (mulf (ld S.ta) (exp2 (subf (ld S.mp) mp'))) (sumT (dT mp' a b)))
    sq := st S.sq (addf (mulf (ld S.sq) (exp2 (subf (ld S.mq) mq'))) (sumT (eT mq' b))) }

theorem ldG_runs {A : Args} {α : Type} {e : EltTy} (L : Cell F A S256x128 e) (r : ℕ) (hr : r < 32) {k : Vec F S8x128 e → KProg F α} {S S' : Mem F}
    {v : α} (h : Runs A (k fun x => L.get S ((grp r hr).toLoadRect.idx x)) S v S') : Runs A ((ldG L.ref r hr).bind k) S v S' :=
  Runs.load L h

theorem ldT_runs {A : Args} {α : Type} (L : Cell F A S256x1280 .f32) (r : ℕ) (hr : r < 32) (j : ℕ) (hj : j < 10)
    {k : Vec F S8x128 .f32 → KProg F α} {S S' : Mem F}
    {v : α} (h : Runs A (k fun x => L.get S ((tile r hr j hj).toLoadRect.idx x)) S v S') : Runs A ((ldT L.ref r hr j hj).bind k) S v S' :=
  Runs.load L h

theorem stG_runs {A : Args} {α : Type} (L : Cell F A S256x128 .f32) (r : ℕ) (hr : r < 32) (w : FVec F S8x128 .f32)
    {k : PUnit → KProg F α} {S S' : Mem F} {v : α}
    (h : Runs A (k ⟨⟩) (L.set S (put (grp r hr) (L.get S) (shapeCast S8x128 w shapeCasts_S8x128_S8x128) Finset.univ)) v S') :
    Runs A ((stG L.ref r hr w).bind k) S v S' :=
  Runs.load L (Runs.store L h)

theorem stG_last {A : Args} (L : Cell F A S256x128 .f32) (r : ℕ) (hr : r < 32) (w : FVec F S8x128 .f32) (S : Mem F) :
    Runs A (stG L.ref r hr w) S ⟨⟩ (L.set S (put (grp r hr) (L.get S) (shapeCast S8x128 w shapeCasts_S8x128_S8x128) Finset.univ)) :=
  Runs.load L (Runs.store L (Runs.ret _ _))

/-- The statistics replaced, everything else as in `S`. -/
def withRow (S : Mem F) (selp selq mp mq sp ta sq : Vec F S256x128 .f32) : Mem F :=
  { S with selp := selp, selq := selq, mp := mp, mq := mq, sp := sp, ta := ta, sq := sq }

theorem stHit_runs {A : Args} {α : Type} (r : ℕ) (hr : r < 32) (tg : IVec S8x128 32) (c : BitVec 32) (j : Fin 10) (a b : Tiles F)
    {k : PUnit → KProg F α} {S S' : Mem F} {selp selq mp mq sp ta sq : Vec F S256x128 .f32} {v : α}
    (h : Runs A (k ⟨⟩) (withRow S
      (put (grp r hr) selp (shapeCast S8x128 (a j) shapeCasts_S8x128_S8x128) (IVec.on (shapeCast S8x128 (hitT tg c j.val) shapeCasts_S8x128_S8x128)))
      (put (grp r hr) selq (shapeCast S8x128 (b j) shapeCasts_S8x128_S8x128) (IVec.on (shapeCast S8x128 (hitT tg c j.val) shapeCasts_S8x128_S8x128)))
      mp mq sp ta sq) v S') :
    Runs A ((stHit A r hr tg c j a b).bind k) (withRow S selp selq mp mq sp ta sq) v S' :=
  Runs.load (c_selp A) (Runs.store (c_selp A) (Runs.load (c_selq A) (Runs.store (c_selq A) h)))

/-- The last part of a row group: the five statistics' stores. -/
def tailP (A : Args) (r : ℕ) (hr : r < 32) (a b : Tiles F) (mp0 mq0 : FVec F S8x128 .f32) : KProg F PUnit := do
  stG A.mp r hr (maxT mp0 a)
  stG A.mq r hr (maxT mq0 b)
  let s0 ← ldG A.sp r hr
  stG A.sp r hr (addf (mulf s0 (exp2 (subf mp0 (maxT mp0 a)))) (sumT (eT (maxT mp0 a) a)))
  let t0 ← ldG A.ta r hr
  stG A.ta r hr (addf (mulf t0 (exp2 (subf mp0 (maxT mp0 a)))) (sumT (dT (maxT mp0 a) a b)))
  let q0 ← ldG A.sq r hr
  stG A.sq r hr (addf (mulf q0 (exp2 (subf mq0 (maxT mq0 b)))) (sumT (eT (maxT mq0 b) b)))

/-- Row group `r` of a statistic. -/
def ldX {α : Type} (r : ℕ) (hr : r < 32) (X : S256x128.Idx → α) : S8x128.Idx → α := fun x => X ((grp r hr).toLoadRect.idx x)
/-- A statistic with row group `r` stored. -/
def stX (r : ℕ) (hr : r < 32) (X : S256x128.Idx → F .f32) (v : FVec F S8x128 .f32) : S256x128.Idx → F .f32 :=
  put (grp r hr) X (shapeCast S8x128 v shapeCasts_S8x128_S8x128) Finset.univ

theorem tail_runs (A : Args) (r : ℕ) (hr : r < 32) (a b : Tiles F) (mp0 mq0 : FVec F S8x128 .f32)
    (S : Mem F) (selp selq mp mq sp ta sq : Vec F S256x128 .f32) :
    Runs A (tailP A r hr a b mp0 mq0) (withRow S selp selq mp mq sp ta sq) ⟨⟩ (withRow S selp selq
      (stX r hr mp (maxT mp0 a)) (stX r hr mq (maxT mq0 b))
      (stX r hr sp (addf (mulf (ldX r hr sp) (exp2 (subf mp0 (maxT mp0 a)))) (sumT (eT (maxT mp0 a) a))))
      (stX r hr ta (addf (mulf (ldX r hr ta) (exp2 (subf mp0 (maxT mp0 a)))) (sumT (dT (maxT mp0 a) a b))))
      (stX r hr sq (addf (mulf (ldX r hr sq) (exp2 (subf mq0 (maxT mq0 b)))) (sumT (eT (maxT mq0 b) b))))) := by
  have e1 (X : Vec F S256x128 .f32) : (c_mp A).set (withRow S selp selq mp mq sp ta sq) X = withRow S selp selq X mq sp ta sq := rfl
  have e2 (m X : Vec F S256x128 .f32) : (c_mq A).set (withRow S selp selq m mq sp ta sq) X = withRow S selp selq m X sp ta sq := rfl
  have e3 (m m' X : Vec F S256x128 .f32) : (c_sp A).set (withRow S selp selq m m' sp ta sq) X = withRow S selp selq m m' X ta sq := rfl
  have e4 (m m' s X : Vec F S256x128 .f32) : (c_ta A).set (withRow S selp selq m m' s ta sq) X = withRow S selp selq m m' s X sq := rfl
  have e5 (m m' s t X : Vec F S256x128 .f32) : (c_sq A).set (withRow S selp selq m m' s t sq) X = withRow S selp selq m m' s t X := rfl
  unfold tailP
  refine stG_runs (c_mp A) r hr _ ?_
  rw [e1]
  refine stG_runs (c_mq A) r hr _ ?_
  rw [e2]
  refine ldG_runs (c_sp A) r hr ?_
  refine stG_runs (c_sp A) r hr _ ?_
  rw [e3]
  refine ldG_runs (c_ta A) r hr ?_
  refine stG_runs (c_ta A) r hr _ ?_
  rw [e4]
  refine ldG_runs (c_sq A) r hr ?_
  refine Runs.of_eq rfl (stG_last (c_sq A) r hr _ _) ?_
  rw [e5]
  rfl

theorem row_runs (A : Args) (c : BitVec 32) (r : ℕ) (hr : r < 32) (S : Mem F) : Runs A (row A c r hr) S ⟨⟩ (rowM c r hr S) := by
  unfold row
  refine ldG_runs (c_xsl A) r hr ?_
  refine ldG_runs (c_tt A) r hr ?_
  iterate 10 refine ldT_runs (c_u A) r hr _ _ ?_
  iterate 10 refine ldT_runs (c_z A) r hr _ _ ?_
  refine ldG_runs (c_mp A) r hr ?_
  refine ldG_runs (c_mq A) r hr ?_
  refine Runs.of_eq rfl (S := withRow S S.selp S.selq S.mp S.mq S.sp S.ta S.sq) ?_ rfl
  iterate 10 refine stHit_runs r hr _ c _ _ _ ?_
  exact tail_runs A r hr _ _ _ _ S _ _ S.mp S.mq S.sp S.ta S.sq

theorem onLane_emb (v : Vec F S256x1280 .f32) (r : ℕ) (hr : r < 32) (x : S8x128.Idx) (j : ℕ) (hj : j < 10) :
    v ((tile r hr j hj).toLoadRect.idx x) = onLane v ((grp r hr).emb x) ⟨j, hj⟩ := by
  unfold onLane
  congr 1
  funext a
  apply Fin.ext
  match a with
  | 0 => rfl
  | 1 => show 128 * j + 1 * (x 1).val = 128 * j + (0 + 1 * (x 1).val); omega

theorem tiles_emb (v : Vec F S256x1280 .f32) (r : ℕ) (hr : r < 32) (x : S8x128.Idx) (j : Fin 10) :
    (![fun x => v ((tile r hr 0 (by decide)).toLoadRect.idx x), fun x => v ((tile r hr 1 (by decide)).toLoadRect.idx x),
      fun x => v ((tile r hr 2 (by decide)).toLoadRect.idx x), fun x => v ((tile r hr 3 (by decide)).toLoadRect.idx x),
      fun x => v ((tile r hr 4 (by decide)).toLoadRect.idx x), fun x => v ((tile r hr 5 (by decide)).toLoadRect.idx x),
      fun x => v ((tile r hr 6 (by decide)).toLoadRect.idx x), fun x => v ((tile r hr 7 (by decide)).toLoadRect.idx x),
      fun x => v ((tile r hr 8 (by decide)).toLoadRect.idx x), fun x => v ((tile r hr 9 (by decide)).toLoadRect.idx x)] : Tiles F) j x
      = onLane v ((grp r hr).emb x) j := by
  fin_cases j <;> exact onLane_emb v r hr x _ _

theorem putHits_mix (r : ℕ) (hr : r < 32) (tg : IVec S8x128 32) (c : BitVec 32) (a : Tiles F) (X N : S256x128.Idx → F .f32)
    (h : ∀ x, N ((grp r hr).emb x) = selE (tg x) c (fun j => a j x) (X ((grp r hr).emb x))) :
    putHits r hr tg c a (mixR r X N) = mixR (r + 1) X N := by
  funext y
  by_cases hy : ∃ x, (grp r hr).emb x = y
  · obtain ⟨x, rfl⟩ := hy
    have hx : (x 0).val < 8 := (x 0).isLt
    unfold putHits
    simp only [shapeCast_self, put_on]
    unfold mixR
    rw [if_neg (lt_grp r hr x), if_pos (show ((grp r hr).emb x 0).val < 8 * (r + 1) by rw [emb_grp]; omega), h]
    rfl
  · unfold putHits
    simp only [put_off _ _ _ _ (fun x hx => hy ⟨x, hx⟩)]
    have e := congrFun (put_mixR r hr X N (fun x => N ((grp r hr).emb x)) fun _ => rfl) y
    rw [put_off _ _ _ _ (fun x hx => hy ⟨x, hx⟩)] at e
    exact e

theorem mixR_emb {α : Type} (r : ℕ) (hr : r < 32) (X N : S256x128.Idx → α) (x : S8x128.Idx) :
    mixR r X N ((grp r hr).toLoadRect.idx x) = X ((grp r hr).emb x) := if_neg (lt_grp r hr x)

theorem step_at {M s m : FVec F S8x128 .f32} {d : Tiles F} (M₀ s₀ m₀ : F .f32) (d₀ : Fin 10 → F .f32) (x : S8x128.Idx)
    (hM : M x = M₀) (hs : s x = s₀) (hm : m x = m₀) (hd : ∀ j, d j x = d₀ j) :
    addf (mulf s (exp2 (subf m M))) (sumT d) x = stepE s₀ m₀ M₀ (sumE d₀) := by
  subst hM hs hm
  rw [← funext hd]; rfl

theorem row_mix (c : BitVec 32) (r : ℕ) (hr : r < 32) (S : Mem F) : rowM c r hr (mixM c r S) = mixM c (r + 1) S := by
  have ea (x : S8x128.Idx) (j : Fin 10) : aT (fun x => S.xsl ((grp r hr).toLoadRect.idx x))
      ![fun x => S.u ((tile r hr 0 (by decide)).toLoadRect.idx x), fun x => S.u ((tile r hr 1 (by decide)).toLoadRect.idx x),
      fun x => S.u ((tile r hr 2 (by decide)).toLoadRect.idx x), fun x => S.u ((tile r hr 3 (by decide)).toLoadRect.idx x),
      fun x => S.u ((tile r hr 4 (by decide)).toLoadRect.idx x), fun x => S.u ((tile r hr 5 (by decide)).toLoadRect.idx x),
      fun x => S.u ((tile r hr 6 (by decide)).toLoadRect.idx x), fun x => S.u ((tile r hr 7 (by decide)).toLoadRect.idx x),
      fun x => S.u ((tile r hr 8 (by decide)).toLoadRect.idx x), fun x => S.u ((tile r hr 9 (by decide)).toLoadRect.idx x)] j x
      = aE S ((grp r hr).emb x) j := congrArg (FloatOps.mulf · _) (tiles_emb S.u r hr x j)
  have eb (x : S8x128.Idx) (j : Fin 10) : bT
      ![fun x => S.z ((tile r hr 0 (by decide)).toLoadRect.idx x), fun x => S.z ((tile r hr 1 (by decide)).toLoadRect.idx x),
      fun x => S.z ((tile r hr 2 (by decide)).toLoadRect.idx x), fun x => S.z ((tile r hr 3 (by decide)).toLoadRect.idx x),
      fun x => S.z ((tile r hr 4 (by decide)).toLoadRect.idx x), fun x => S.z ((tile r hr 5 (by decide)).toLoadRect.idx x),
      fun x => S.z ((tile r hr 6 (by decide)).toLoadRect.idx x), fun x => S.z ((tile r hr 7 (by decide)).toLoadRect.idx x),
      fun x => S.z ((tile r hr 8 (by decide)).toLoadRect.idx x), fun x => S.z ((tile r hr 9 (by decide)).toLoadRect.idx x)] j x
      = bE S ((grp r hr).emb x) j := congrArg (FloatOps.mulf · _) (tiles_emb S.z r hr x j)
  have em (m : S256x128.Idx → F .f32) (a : Tiles F) (x : S8x128.Idx) (X : S256x128.Idx → F .f32) (e : Fin 10 → F .f32) (h : ∀ j, a j x = e j) :
      maxT (fun x => mixR r m X ((grp r hr).toLoadRect.idx x)) a x = maxE (m ((grp r hr).emb x)) e := by
    rw [← funext h]; unfold maxE; rw [← mixR_emb r hr m X x]; rfl
  unfold rowM mixM
  dsimp only
  congr 1
  · refine put_mixR r hr _ _ _ fun x => ?_
    rw [shapeCast_self]
    exact em _ _ x _ _ (ea x)
  · refine put_mixR r hr _ _ _ fun x => ?_
    rw [shapeCast_self]
    exact em _ _ x _ _ (eb x)
  · refine put_mixR r hr _ _ _ fun x => ?_
    rw [shapeCast_self]
    refine step_at _ _ _ _ x (em _ _ x _ _ (ea x)) (mixR_emb r hr _ _ x) (mixR_emb r hr _ _ x) fun j => ?_
    exact congrArg FloatOps.exp2 (congrArg₂ FloatOps.subf (ea x j) (em _ _ x _ _ (ea x)))
  · refine put_mixR r hr _ _ _ fun x => ?_
    rw [shapeCast_self]
    refine step_at _ _ _ _ x (em _ _ x _ _ (eb x)) (mixR_emb r hr _ _ x) (mixR_emb r hr _ _ x) fun j => ?_
    exact congrArg FloatOps.exp2 (congrArg₂ FloatOps.subf (eb x j) (em _ _ x _ _ (eb x)))
  · refine put_mixR r hr _ _ _ fun x => ?_
    rw [shapeCast_self]
    refine step_at _ _ _ _ x (em _ _ x _ _ (ea x)) (mixR_emb r hr _ _ x) (mixR_emb r hr _ _ x) fun j => ?_
    exact congrArg₂ FloatOps.mulf (congrArg FloatOps.exp2 (congrArg₂ FloatOps.subf (ea x j) (em _ _ x _ _ (ea x)))) (congrArg₂ FloatOps.subf (ea x j) (eb x j))
  · exact putHits_mix r hr _ c _ _ _ fun x => congrArg (selE _ c · _) (funext fun j => (ea x j).symm)
  · exact putHits_mix r hr _ c _ _ _ fun x => congrArg (selE _ c · _) (funext fun j => (eb x j).symm)

theorem rows_runs (A : Args) (c : BitVec 32) (S : Mem F) : ∀ (n r : ℕ) (h : r + n ≤ 32),
    Runs A (rowsP A c n r h) (mixM c r S) ⟨⟩ (mixM c (r + n) S)
  | 0, _, _ => Runs.ret _ _
  | n + 1, r, h => by
    unfold rowsP
    refine Runs.bind (Runs.of_eq rfl (row_runs A c r (by omega) _) (row_mix c r (by omega) S)) ?_
    have e : r + (n + 1) = r + 1 + n := by omega
    rw [e]; exact rows_runs A c S n (r + 1) (by omega)

/-- The online softmax of one chunk, all 32 row groups. -/
theorem soft_runs (A : Args) (c : BitVec 32) (S : Mem F) : Runs A (rowsP A c 32 0 (by decide)) S ⟨⟩ (softM c S) := by
  have h := rows_runs A c S 32 0 (by decide)
  rw [mixM_zero] at h
  exact Runs.of_eq rfl h (mixM_all c S)

end Cert.Kernel.Hand
-- ==== Proof.Word.Steps.lean ====
/-
  What the other pieces of the body do to the contents: the first point's quantisation, a chunk's dequantisation and
  products, and the last point's joining of the lanes.
-/
module
public import proofs.«01_k».proof.Proof.Word.Soft

@[expose] public section
noncomputable section

namespace Cert.Kernel.Hand

open Cert.Kernel
open Idealize.ShloMosaic Idealize.SL.Sem Idealize.ShloMosaic.ValueIdx

variable {F : FTy → Type} [FloatOps F] [Facts]
open Facts₀ Facts

/-! ## Whole buffers -/

theorem whole_idx {n0 n1 : ℕ} (h : ∀ a, (![0, 0] : Fin 2 → ℕ) a + (⟨2, ![n0, n1]⟩ : Shape).size a ≤ (⟨2, ![n0, n1]⟩ : Shape).size a)
    (x : (⟨2, ![n0, n1]⟩ : Shape).Idx) :
    (Rect.unit (s := ⟨2, ![n0, n1]⟩) ![0, 0] (⟨2, ![n0, n1]⟩ : Shape).size h).toLoadRect.idx x = x := by
  funext a
  apply Fin.ext
  match a with
  | 0 => show 0 + 1 * (x 0).val = (x 0).val; omega
  | 1 => show 0 + 1 * (x 1).val = (x 1).val; omega

theorem put_whole {n0 n1 : ℕ} {α : Type} (h : ∀ a, (![0, 0] : Fin 2 → ℕ) a + (⟨2, ![n0, n1]⟩ : Shape).size a ≤ (⟨2, ![n0, n1]⟩ : Shape).size a)
    (X w : (⟨2, ![n0, n1]⟩ : Shape).Idx → α) :
    put (Rect.unit (s := ⟨2, ![n0, n1]⟩) ![0, 0] (⟨2, ![n0, n1]⟩ : Shape).size h) X w Finset.univ = w := by
  funext y
  have e := put_emb (Rect.unit (s := ⟨2, ![n0, n1]⟩) ![0, 0] (⟨2, ![n0, n1]⟩ : Shape).size h) X w Finset.univ y
  rw [if_pos (Finset.mem_univ _)] at e
  exact (congrArg _ (whole_idx h y).symm).trans e

theorem ldW_runs {A : Args} {α : Type} {n0 n1 : ℕ} {e : EltTy} (L : Cell F A ⟨2, ![n0, n1]⟩ e)
    {h : ∀ a, (![0, 0] : Fin 2 → ℕ) a + (⟨2, ![n0, n1]⟩ : Shape).size a ≤ (⟨2, ![n0, n1]⟩ : Shape).size a}
    {hl : L.ref.view.LoadsAt (Rect.unit (s := ⟨2, ![n0, n1]⟩) ![0, 0] (⟨2, ![n0, n1]⟩ : Shape).size h).toLoadRect}
    {k : Vec F ⟨2, ![n0, n1]⟩ e → KProg F α} {S S' : Mem F} {v : α} (hk : Runs A (k (L.get S)) S v S') :
    Runs A (.op (.load L.ref (Rect.unit (s := ⟨2, ![n0, n1]⟩) ![0, 0] (⟨2, ![n0, n1]⟩ : Shape).size h).toLoadRect hl) k) S v S' := by
  refine Runs.load L ?_
  have e : (fun x => L.get S ((Rect.unit (s := ⟨2, ![n0, n1]⟩) ![0, 0] (⟨2, ![n0, n1]⟩ : Shape).size h).toLoadRect.idx x)) = L.get S :=
    funext fun x => congrArg _ (whole_idx h x)
  rw [e]; exact hk

theorem stW_runs' {A : Args} {α : Type} {n0 n1 : ℕ} {e : EltTy} (L : Cell F A ⟨2, ![n0, n1]⟩ e)
    {h : ∀ a, (![0, 0] : Fin 2 → ℕ) a + (⟨2, ![n0, n1]⟩ : Shape).size a ≤ (⟨2, ![n0, n1]⟩ : Shape).size a} {w : Vec F ⟨2, ![n0, n1]⟩ e}
    {hx : (L.ref.access (Rect.unit (s := ⟨2, ![n0, n1]⟩) ![0, 0] (⟨2, ![n0, n1]⟩ : Shape).size h)).Stores Finset.univ}
    {hm : (Finset.univ : Finset (⟨2, ![n0, n1]⟩ : Shape).Idx) = Finset.univ ∨
      ∀ a, (Rect.unit (s := ⟨2, ![n0, n1]⟩) ![0, 0] (⟨2, ![n0, n1]⟩ : Shape).size h).stride a = 1}
    {k : PUnit → KProg F α} {S S' : Mem F} {v : α} (hk : Runs A (k ⟨⟩) (L.set S w) v S') :
    Runs A (.op (.store L.ref (Rect.unit (s := ⟨2, ![n0, n1]⟩) ![0, 0] (⟨2, ![n0, n1]⟩ : Shape).size h) w Finset.univ hx hm) k) S v S' := by
  refine Runs.store L ?_
  rw [put_whole]; exact hk

theorem stS_runs {A : Args} {α : Type} (L : Cell F A S256x128 .f32) (w : FVec F S256x128 .f32)
    {k : PUnit → KProg F α} {S S' : Mem F} {v : α} (hk : Runs A (k ⟨⟩) (L.set S w) v S') : Runs A ((stS L.ref w).bind k) S v S' := by
  refine Runs.load L (stW_runs' L ?_)
  rw [shapeCast_self]; exact hk

theorem stU_runs {A : Args} {α : Type} (L : Cell F A S256x1280 .f32) (w : FVec F S256x1280 .f32)
    {k : PUnit → KProg F α} {S S' : Mem F} {v : α} (hk : Runs A (k ⟨⟩) (L.set S w) v S') : Runs A ((stU L.ref w).bind k) S v S' := by
  refine Runs.load L (stW_runs' L ?_)
  rw [shapeCast_self]; exact hk

/-! ## Dequantisation and products -/

/-- One dequantised weight of the chunk. -/
def wtE (S : Mem F) (y : S1024x1280.Idx) : F .bf16 :=
  let g : Fin 8 := ⟨(y 0).val / 128, by have : (y 0).val < 1024 := (y 0).isLt; omega⟩
  let i : Fin 5 := ⟨(y 1).val / 256, by have : (y 1).val < 1280 := (y 1).isLt; omega⟩
  deqV S.sr (fun x => S.wr ((wrow i).toLoadRect.idx x)) g i
    (ix2 (⟨(y 0).val % 128, Nat.mod_lt _ (by decide)⟩ : Fin 128) (⟨(y 1).val % 256, Nat.mod_lt _ (by decide)⟩ : Fin 256))

/-- The contents after a chunk's dequantisation and products. -/
def matM (S : Mem F) : Mem F := { S with wt := wtE S, u := uV S.codes S.wp S.ws, z := zV S.xr (wtE S) }

/-- Blocks before the `n`-th hold `N`, the others `X`; the blocks go through the groups of a column tile first. -/
def mixW {α : Type} (n : ℕ) (X N : S1024x1280.Idx → α) : S1024x1280.Idx → α := fun y =>
  if 8 * ((y 1).val / 256) + (y 0).val / 128 < n then N y else X y

theorem put_mixW {α : Type} (g : Fin 8) (i : Fin 5) (X N : S1024x1280.Idx → α) (w : S128x256.Idx → α)
    (h : ∀ x, w x = N ((wblk g i).emb x)) :
    put (wblk g i) (mixW (8 * i.val + g.val) X N) w Finset.univ = mixW (8 * i.val + g.val + 1) X N := by
  have e0 (x : S128x256.Idx) : ((wblk g i).emb x 0).val = 128 * g.val + (x 0).val := by
    rw [Rect.emb_apply]; show 128 * g.val + 1 * _ = _; omega
  have e1 (x : S128x256.Idx) : ((wblk g i).emb x 1).val = 256 * i.val + (x 1).val := by
    rw [Rect.emb_apply]; show 256 * i.val + 1 * _ = _; omega
  funext y
  by_cases hy : ∃ x, (wblk g i).emb x = y
  · obtain ⟨x, rfl⟩ := hy
    rw [put_emb, if_pos (Finset.mem_univ _), h]
    unfold mixW
    have h0 : (x 0).val < 128 := (x 0).isLt
    have h1 : (x 1).val < 256 := (x 1).isLt
    have hg := g.isLt
    rw [if_pos]
    rw [e0, e1]; omega
  · rw [put_off _ _ _ _ (fun x hx => hy ⟨x, hx⟩)]
    unfold mixW
    have hg := g.isLt
    have h0 : (y 0).val < 1024 := (y 0).isLt
    by_cases hc : 8 * ((y 1).val / 256) + (y 0).val / 128 < 8 * i.val + g.val
    · rw [if_pos hc, if_pos (by omega)]
    · rw [if_neg hc, if_neg]
      intro h2
      apply hy
      have hi : (y 1).val / 256 = i.val := by omega
      have hg' : (y 0).val / 128 = g.val := by omega
      refine ⟨ix2 (⟨(y 0).val % 128, Nat.mod_lt _ (by decide)⟩ : Fin 128) (⟨(y 1).val % 256, Nat.mod_lt _ (by decide)⟩ : Fin 256), ?_⟩
      funext a
      apply Fin.ext
      match a with
      | 0 => exact (e0 _).trans (by show 128 * g.val + (y 0).val % 128 = (y 0).val; omega)
      | 1 => exact (e1 _).trans (by show 256 * i.val + (y 1).val % 256 = (y 1).val; omega)

theorem wtE_emb (S : Mem F) (g : Fin 8) (i : Fin 5) (x : S128x256.Idx) :
    deqV S.sr (fun x => S.wr ((wrow i).toLoadRect.idx x)) g i x = wtE S ((wblk g i).emb x) := by
  have h0 : (x 0).val < 128 := (x 0).isLt
  have h1 : (x 1).val < 256 := (x 1).isLt
  have e0 : ((wblk g i).emb x 0).val = 128 * g.val + (x 0).val := by
    rw [Rect.emb_apply]; show 128 * g.val + 1 * _ = _; omega
  have e1 : ((wblk g i).emb x 1).val = 256 * i.val + (x 1).val := by
    rw [Rect.emb_apply]; show 256 * i.val + 1 * _ = _; omega
  have eg : (⟨((wblk g i).emb x 0).val / 128, by have : ((wblk g i).emb x 0).val < 1024 := ((wblk g i).emb x 0).isLt; omega⟩ : Fin 8) = g :=
    Fin.ext (by show _ / 128 = _; rw [e0]; omega)
  have ei : (⟨((wblk g i).emb x 1).val / 256, by have : ((wblk g i).emb x 1).val < 1280 := ((wblk g i).emb x 1).isLt; omega⟩ : Fin 5) = i :=
    Fin.ext (by show _ / 256 = _; rw [e1]; omega)
  have ex : (ix2 (⟨((wblk g i).emb x 0).val % 128, Nat.mod_lt _ (by decide)⟩ : Fin 128)
      (⟨((wblk g i).emb x 1).val % 256, Nat.mod_lt _ (by decide)⟩ : Fin 256) : S128x256.Idx) = x := by
    funext a
    apply Fin.ext
    match a with
    | 0 => show _ % 128 = (x 0).val; rw [e0]; omega
    | 1 => show _ % 256 = (x 1).val; rw [e1]; omega
  unfold wtE
  dsimp only
  rw [eg, ei, ex]

theorem stW_runs {A : Args} {α : Type} (g : Fin 8) (i : Fin 5) (S : Mem F) (N : S1024x1280.Idx → F .bf16) (w : FVec F S128x256 .bf16)
    (h : ∀ x, w x = N ((wblk g i).emb x)) {k : PUnit → KProg F α} {S' : Mem F} {v : α} (n : ℕ) (hn : n = 8 * i.val + g.val)
    (hk : Runs A (k ⟨⟩) { S with wt := mixW (n + 1) S.wt N } v S') :
    Runs A ((stW A g i w).bind k) { S with wt := mixW n S.wt N } v S' := by
  subst hn
  refine Runs.load (c_wt A) (Runs.store (c_wt A) ?_)
  rw [shapeCast_self]
  have e : put (wblk g i) ((c_wt A).get { S with wt := mixW (8 * i.val + g.val) S.wt N }) w Finset.univ
      = mixW (8 * i.val + g.val + 1) S.wt N := put_mixW g i S.wt N w h
  rw [e]; exact hk

theorem deq_runs {A : Args} (i : Fin 5) (S : Mem F) :
    Runs A (deqP A S.sr i) { S with wt := mixW (8 * i.val) S.wt (wtE S) } ⟨⟩ { S with wt := mixW (8 * i.val + 8) S.wt (wtE S) } := by
  unfold deqP
  refine Runs.load (c_wr A) ?_
  iterate 7 refine stW_runs _ i S (wtE S) _ (fun x => wtE_emb S _ i x) _ rfl ?_
  refine Runs.of_eq (q := (stW A 7 i _).bind Prog.ret) ?_ (stW_runs 7 i S (wtE S) _ (fun x => wtE_emb S _ i x) _ rfl (Runs.ret _ _)) rfl
  rfl

theorem mixW_zero {α : Type} (X N : S1024x1280.Idx → α) : mixW 0 X N = X := by funext y; simp [mixW]
theorem mixW_all {α : Type} (X N : S1024x1280.Idx → α) : mixW 40 X N = N := by
  funext y
  have h0 : (y 0).val < 1024 := (y 0).isLt
  have h1 : (y 1).val < 1280 := (y 1).isLt
  unfold mixW; rw [if_pos (by omega)]

theorem deqs_runs {A : Args} {α : Type} (S : Mem F) (s : FVec F S8x1280 .f32) (hs : s = S.sr) {k : PUnit → KProg F α} {S' : Mem F} {v : α}
    (hk : Runs A (k ⟨⟩) { S with wt := wtE S } v S') :
    Runs A ((deqP A s 0).bind fun _ => (deqP A s 1).bind fun _ => (deqP A s 2).bind fun _ => (deqP A s 3).bind fun _ => (deqP A s 4).bind k) S v S' := by
  subst hs
  have h0 : Runs A (deqP A S.sr 0) S ⟨⟩ { S with wt := mixW 8 S.wt (wtE S) } := by
    have h := deq_runs (A := A) 0 S
    rw [show 8 * (0 : Fin 5).val = 0 from rfl, mixW_zero] at h
    exact h
  have h4 : Runs A (deqP A S.sr 4) { S with wt := mixW 32 S.wt (wtE S) } ⟨⟩ { S with wt := wtE S } := by
    have h := deq_runs (A := A) 4 S
    rw [show 8 * (4 : Fin 5).val + 8 = 40 from rfl, mixW_all] at h
    exact h
  exact h0.bind ((deq_runs 1 S).bind ((deq_runs 2 S).bind ((deq_runs 3 S).bind (h4.bind hk))))

theorem mat_runs (A : Args) (S : Mem F) : Runs A (matP A) S ⟨⟩ (matM S) := by
  unfold matP
  refine ldW_runs (c_sr A) ?_
  refine deqs_runs S _ (shapeCast_self _ _) ?_
  refine ldW_runs (c_codes A) ?_
  refine ldW_runs (c_wp A) ?_
  refine ldW_runs (c_ws A) ?_
  refine stU_runs (c_u A) _ ?_
  refine ldW_runs (c_xr A) ?_
  refine ldW_runs (c_wt A) ?_
  refine Runs.of_eq (q := (stU A.z _).bind Prog.ret) ?_ (stU_runs (c_z A) _ (Runs.ret _ _)) rfl
  rfl

/-! ## The first point -/

theorem put_orows {α : Type} (X : S2x128.Idx → α) (w : Fin 2 → S1x128.Idx → α) :
    put (orow 1) (put (orow 0) X (w 0) Finset.univ) (w 1) Finset.univ = fun y => w (y 0) (ix2 (0 : Fin 1) (y 1)) := by
  have e (h : Fin 2) (x : S1x128.Idx) : ((orow h).emb x 0).val = h.val := by
    have : (x 0).val < 1 := (x 0).isLt
    rw [Rect.emb_apply]; show h.val + 1 * (x 0).val = _; omega
  have er (h : Fin 2) (y : S2x128.Idx) (hy : y 0 = h) : (orow h).emb (ix2 (0 : Fin 1) (y 1)) = y := by
    funext a
    apply Fin.ext
    match a with
    | 0 => exact (e h _).trans (congrArg Fin.val hy.symm)
    | 1 => show 0 + 1 * (y 1).val = (y 1).val; omega
  have hp (h : Fin 2) (X : S2x128.Idx → α) (v : S1x128.Idx → α) (y : S2x128.Idx) (hy : y 0 = h) :
      put (orow h) X v Finset.univ y = v (ix2 (0 : Fin 1) (y 1)) := by
    have e' := put_emb (orow h) X v Finset.univ (ix2 (0 : Fin 1) (y 1))
    rw [if_pos (Finset.mem_univ _), er h y hy] at e'
    exact e'
  funext y
  by_cases h1 : y 0 = (1 : Fin 2)
  · rw [hp 1 _ _ y h1]
    have : ∀ z : Fin 2, z = 1 → w 1 = w z := fun z hz => by rw [hz]
    rw [this (y 0) h1]
  · have h0 : y 0 = (0 : Fin 2) := by
      have : ∀ z : Fin 2, ¬ z = 1 → z = 0 := by decide
      exact this (y 0) h1
    rw [put_off _ _ _ _ (fun x hx => h1 (Fin.ext ((congrArg (fun z : S2x128.Idx => (z 0).val) hx.symm).trans (e 1 x)))), hp 0 _ _ y h0]
    have : ∀ z : Fin 2, z = 0 → w 0 = w z := fun z hz => by rw [hz]
    rw [this (y 0) h0]

/-- The half a token lies in. -/
def hf (y : S256x128.Idx) : Fin 2 := ⟨(y 0).val / 128, by have : (y 0).val < 256 := (y 0).isLt; omega⟩
/-- A token's place in its half. -/
def inH (y : S256x128.Idx) : S128x128.Idx := ix2 (⟨(y 0).val % 128, Nat.mod_lt _ (by decide)⟩ : Fin 128) (y 1)

theorem put_halves {α : Type} (X : S256x128.Idx → α) (w : Fin 2 → S128x128.Idx → α) :
    put (half 1) (put (half 0) X (w 0) Finset.univ) (w 1) Finset.univ = fun y => w (hf y) (inH y) := by
  have e (h : Fin 2) (x : S128x128.Idx) : ((half h).emb x 0).val = 128 * h.val + (x 0).val := by
    rw [Rect.emb_apply]; show 128 * h.val + 1 * (x 0).val = _; omega
  have er (h : Fin 2) (y : S256x128.Idx) (hy : hf y = h) : (half h).emb (inH y) = y := by
    funext a
    apply Fin.ext
    match a with
    | 0 =>
      refine (e h _).trans ?_
      have : (y 0).val / 128 = h.val := congrArg Fin.val hy
      show 128 * h.val + (y 0).val % 128 = (y 0).val
      omega
    | 1 => show 0 + 1 * (y 1).val = (y 1).val; omega
  have hp (h : Fin 2) (X : S256x128.Idx → α) (v : S128x128.Idx → α) (y : S256x128.Idx) (hy : hf y = h) :
      put (half h) X v Finset.univ y = v (inH y) := by
    have e' := put_emb (half h) X v Finset.univ (inH y)
    rw [if_pos (Finset.mem_univ _), er h y hy] at e'
    exact e'
  funext y
  by_cases h1 : hf y = (1 : Fin 2)
  · rw [hp 1 _ _ y h1, h1]
  · have h0 : hf y = (0 : Fin 2) := by
      have : ∀ z : Fin 2, ¬ z = 1 → z = 0 := by decide
      exact this _ h1
    rw [put_off _ _ _ _ (fun x hx => h1 ?_), hp 0 _ _ y h0, h0]
    have hx0 : (x 0).val < 128 := (x 0).isLt
    have := (congrArg (fun z : S256x128.Idx => (z 0).val) hx.symm).trans (e 1 x)
    exact Fin.ext (by show (y 0).val / 128 = 1; have h2 : (y 0).val = 128 * 1 + (x 0).val := this; omega)

/-- The tokens' exponents. -/
def expM (S : Mem F) : IVec S256x128 32 := eV (expoV (topV S.x))

/-- The contents after the first point's quantisation. -/
def initM (S : Mem F) : Mem F := { S with
  xr := S.xrin
  xsl := mulf (powV (expM S)) (broadcast S256x128 (Scalar.ofBits .f32 0x3FB8AA3B#32))
  codes := codesV S.x (powV (negV (expM S)))
  scales := fun y => scalesV (powV (expM S)) (y 0) (ix2 (0 : Fin 1) (y 1))
  tt := fun y => tgtV (fun x => S.tgt ((orow (hf y)).toLoadRect.idx x)) (inH y)
  mp := broadcast S256x128 (Scalar.ofBits .f32 0xFF61B1E6#32)
  mq := broadcast S256x128 (Scalar.ofBits .f32 0xFF61B1E6#32)
  sp := broadcast S256x128 (Scalar.ofBits .f32 0x00000000#32)
  sq := broadcast S256x128 (Scalar.ofBits .f32 0x00000000#32)
  ta := broadcast S256x128 (Scalar.ofBits .f32 0x00000000#32) }

/-- The scales' and targets' buffers replaced. -/
def withHalf (S : Mem F) (scales : Vec F S2x128 .f32) (tt : Vec F S256x128 .i32) : Mem F := { S with scales := scales, tt := tt }

theorem half_runs {A : Args} {α : Type} (xs : FVec F S256x128 .f32) (h : Fin 2) (S : Mem F) (scales : Vec F S2x128 .f32) (tt : Vec F S256x128 .i32)
    {k : PUnit → KProg F α} {S' : Mem F} {v : α}
    (hk : Runs A (k ⟨⟩) (withHalf S (put (orow h) scales (scalesV xs h) Finset.univ)
      (put (half h) tt (tgtV (fun x => S.tgt ((orow h).toLoadRect.idx x))) Finset.univ)) v S') :
    Runs A ((halfP A xs h).bind k) (withHalf S scales tt) v S' := by
  have e1 (X : Vec F S2x128 .f32) : (c_scales A).set (withHalf S scales tt) X = withHalf S X tt := rfl
  have e2 (s : Vec F S2x128 .f32) (X : Vec F S256x128 .i32) : (c_tt A).set (withHalf S s tt) X = withHalf S s X := rfl
  refine Runs.load (c_scales A) (Runs.store (c_scales A) ?_)
  rw [e1]
  refine Runs.load (c_tgt A) (Runs.load (c_tt A) (Runs.store (c_tt A) ?_))
  rw [e2, shapeCast_self]
  exact hk

theorem halves_runs {A : Args} {α : Type} (xs : FVec F S256x128 .f32) (S : Mem F)
    {k : PUnit → KProg F α} {S' : Mem F} {v : α}
    (hk : Runs A (k ⟨⟩) { S with
      scales := fun y => scalesV xs (y 0) (ix2 (0 : Fin 1) (y 1))
      tt := fun y => tgtV (fun x => S.tgt ((orow (hf y)).toLoadRect.idx x)) (inH y) } v S') :
    Runs A ((halfP A xs 0).bind fun _ => (halfP A xs 1).bind k) S v S' := by
  refine Runs.of_eq rfl (S := withHalf S S.scales S.tt) ?_ rfl
  refine half_runs xs 0 S _ _ (half_runs xs 1 S _ _ ?_)
  rw [put_orows S.scales (scalesV xs), put_halves S.tt fun h => tgtV (fun x => S.tgt ((orow h).toLoadRect.idx x))]
  exact hk

/-- The statistics set. -/
def resetP (A : Args) : KProg F PUnit := do
  stS A.mp (broadcast S256x128 (Scalar.ofBits .f32 0xFF61B1E6#32))
  stS A.mq (broadcast S256x128 (Scalar.ofBits .f32 0xFF61B1E6#32))
  stS A.sp (broadcast S256x128 (Scalar.ofBits .f32 0x00000000#32))
  stS A.sq (broadcast S256x128 (Scalar.ofBits .f32 0x00000000#32))
  stS A.ta (broadcast S256x128 (Scalar.ofBits .f32 0x00000000#32))

theorem reset_runs (A : Args) (S : Mem F) : Runs A (resetP A) S ⟨⟩ { S with
    mp := broadcast S256x128 (Scalar.ofBits .f32 0xFF61B1E6#32)
    mq := broadcast S256x128 (Scalar.ofBits .f32 0xFF61B1E6#32)
    sp := broadcast S256x128 (Scalar.ofBits .f32 0x00000000#32)
    sq := broadcast S256x128 (Scalar.ofBits .f32 0x00000000#32)
    ta := broadcast S256x128 (Scalar.ofBits .f32 0x00000000#32) } := by
  have e0 : S = withRow S S.selp S.selq S.mp S.mq S.sp S.ta S.sq := rfl
  have e1 (X : Vec F S256x128 .f32) : (c_mp A).set (withRow S S.selp S.selq S.mp S.mq S.sp S.ta S.sq) X = withRow S S.selp S.selq X S.mq S.sp S.ta S.sq := rfl
  have e2 (m X : Vec F S256x128 .f32) : (c_mq A).set (withRow S S.selp S.selq m S.mq S.sp S.ta S.sq) X = withRow S S.selp S.selq m X S.sp S.ta S.sq := rfl
  have e3 (m m' X : Vec F S256x128 .f32) : (c_sp A).set (withRow S S.selp S.selq m m' S.sp S.ta S.sq) X = withRow S S.selp S.selq m m' X S.ta S.sq := rfl
  have e4 (m m' s X : Vec F S256x128 .f32) : (c_sq A).set (withRow S S.selp S.selq m m' s S.ta S.sq) X = withRow S S.selp S.selq m m' s S.ta X := rfl
  have e5 (m m' s t X : Vec F S256x128 .f32) : (c_ta A).set (withRow S S.selp S.selq m m' s S.ta t) X = withRow S S.selp S.selq m m' s X t := rfl
  refine Runs.of_eq (q := (stS A.mp _).bind fun _ => (stS A.mq _).bind fun _ => (stS A.sp _).bind fun _ => (stS A.sq _).bind fun _ => (stS A.ta _).bind Prog.ret)
    rfl (S := withRow S S.selp S.selq S.mp S.mq S.sp S.ta S.sq) ?_ rfl
  refine stS_runs (c_mp A) _ ?_
  rw [e1]
  refine stS_runs (c_mq A) _ ?_
  rw [e2]
  refine stS_runs (c_sp A) _ ?_
  rw [e3]
  refine stS_runs (c_sq A) _ ?_
  rw [e4]
  refine stS_runs (c_ta A) _ ?_
  rw [e5]
  exact Runs.ret _ _

theorem init_runs (A : Args) (S : Mem F) : Runs A (initP A) S ⟨⟩ (initM S) := by
  unfold initP
  refine ldW_runs (c_xrin A) ?_
  refine Runs.load (c_xr A) ?_
  refine stW_runs' (c_xr A) ?_
  rw [shapeCast_self, shapeCast_self]
  refine ldW_runs (c_x A) ?_
  refine stS_runs (c_xsl A) _ ?_
  refine Runs.load (c_codes A) ?_
  refine stW_runs' (c_codes A) ?_
  refine halves_runs _ _ ?_
  exact reset_runs A _

/-! ## The last point -/

/-- The three results of half `h`, and the policy's two. -/
def sumH (S : Mem F) (h : Fin 2) (s m : Vec F S256x128 .f32) : FVec F S128x1 .f32 :=
  addV (mulf (fun x => s ((half h).toLoadRect.idx x)) (facV (fun x => m ((half h).toLoadRect.idx x)) (maxV fun x => m ((half h).toLoadRect.idx x))))
def lseH (S : Mem F) (h : Fin 2) (s m : Vec F S256x128 .f32) : FVec F S128x1 .f32 :=
  lseV (maxV fun x => m ((half h).toLoadRect.idx x)) (sumH S h s m)
def logpH (S : Mem F) (h : Fin 2) (sel s m : Vec F S256x128 .f32) : FVec F S1x128 .f32 :=
  outV (subf (selV (fun x => S.tt ((half h).toLoadRect.idx x)) fun x => sel ((half h).toLoadRect.idx x)) (lseH S h s m))
def klH (S : Mem F) (h : Fin 2) : FVec F S1x128 .f32 :=
  outV (addf (subf (divf (sumH S h S.ta S.mp) (sumH S h S.sp S.mp)) (lseH S h S.sp S.mp)) (lseH S h S.sq S.mq))

/-- The contents after the last point's end. -/
def finM (S : Mem F) : Mem F := { S with
  lp := fun y => logpH S (y 0) S.selp S.sp S.mp (ix2 (0 : Fin 1) (y 1))
  lq := fun y => logpH S (y 0) S.selq S.sq S.mq (ix2 (0 : Fin 1) (y 1))
  kl := fun y => klH S (y 0) (ix2 (0 : Fin 1) (y 1)) }

/-- The three results replaced. -/
def withOut (S : Mem F) (lp lq kl : Vec F S2x128 .f32) : Mem F := { S with lp := lp, lq := lq, kl := kl }

theorem fin_runs' (A : Args) (h : Fin 2) (S : Mem F) (lp lq kl : Vec F S2x128 .f32) :
    Runs A (finP A h) (withOut S lp lq kl) ⟨⟩ (withOut S (put (orow h) lp (logpH S h S.selp S.sp S.mp) Finset.univ)
      (put (orow h) lq (logpH S h S.selq S.sq S.mq) Finset.univ) (put (orow h) kl (klH S h) Finset.univ)) := by
  have e1 (X : Vec F S2x128 .f32) : (c_lp A).set (withOut S lp lq kl) X = withOut S X lq kl := rfl
  have e2 (m X : Vec F S2x128 .f32) : (c_lq A).set (withOut S m lq kl) X = withOut S m X kl := rfl
  have e3 (m m' X : Vec F S2x128 .f32) : (c_kl A).set (withOut S m m' kl) X = withOut S m m' X := rfl
  unfold finP
  refine Runs.load (c_tt A) (Runs.load (c_mp A) (Runs.load (c_mq A) (Runs.load (c_mp A) (Runs.load (c_mq A) (Runs.load (c_sp A)
    (Runs.load (c_sq A) (Runs.load (c_ta A) (Runs.load (c_selp A) (Runs.load (c_selq A) ?_)))))))))
  refine Runs.load (c_lp A) (Runs.store (c_lp A) ?_)
  rw [e1]
  refine Runs.load (c_lq A) (Runs.store (c_lq A) ?_)
  rw [e2]
  refine Runs.load (c_kl A) (Runs.store (c_kl A) ?_)
  rw [e3]
  exact Runs.ret _ _

theorem fin_runs {A : Args} (S : Mem F) : Runs A ((finP A 0).bind fun _ => finP A 1) S ⟨⟩ (finM S) := by
  refine Runs.of_eq rfl (S := withOut S S.lp S.lq S.kl) ((fin_runs' A 0 S _ _ _).bind (fin_runs' A 1 S _ _ _)) ?_
  rw [put_orows S.lp fun h => logpH S h S.selp S.sp S.mp, put_orows S.lq fun h => logpH S h S.selq S.sq S.mq, put_orows S.kl (klH S)]
  rfl

end Cert.Kernel.Hand
-- ==== Proof.Word.Glue1.lean ====
/- The first point of the grid: the printed body is the quantisation, then the first chunk's products. -/
module
public import proofs.«01_k».proof.Proof.Word.Body

@[expose] public section

namespace Cert.Kernel.Hand

open Cert.Kernel
open Idealize.ShloMosaic Idealize.SL.Sem

variable {F : FTy → Type} [FloatOps F] [Facts]
open Facts₀ Facts

set_option maxHeartbeats 20000000
set_option pp.maxSteps 400

set_option maxRecDepth 20000 in
theorem glue1 (i : grid0.Coords) (A : Args) (c1 : k0_cond1 i = 1#1) (c2 : ¬ cond2 i = 1#1) (c3 : ¬ k0_cond3 i = 1#1) :
    cc0_ppo_logprob_kl (F := F) i A.x A.xW A.xrin A.xrinW A.wp A.wpW A.ws A.wsW A.wr A.wrW A.sr A.srW A.tgt A.tgtW A.lp A.lpW A.lq A.lqW A.kl A.klW A.codes A.codesW A.scales A.scalesW A.xr A.xrW A.wt A.wtW A.u A.uW A.z A.zW A.xsl A.xslW A.tt A.ttW A.mp A.mpW A.mq A.mqW A.sp A.spW A.sq A.sqW A.ta A.taW A.selp A.selpW A.selq A.selqW = (initP A).bind fun _ => matP A := by
  unfold cc0_ppo_logprob_kl
  refine dpos c1 ?_
  apply bind_step
  · iterate 28 (refine opc _ ?_; intro _)
    exact rfl
  iterate 95 (refine opc _ ?_; intro _)
  exact (dneg c2 (dneg c3 rfl))

end Cert.Kernel.Hand
-- ==== Proof.Word.Glue2.lean ====
/- The points between: the printed body is the softmax of the chunk before, then the chunk's products. -/
module
public import proofs.«01_k».proof.Proof.Word.Body

@[expose] public section

namespace Cert.Kernel.Hand

open Cert.Kernel
open Idealize.ShloMosaic Idealize.SL.Sem

variable {F : FTy → Type} [FloatOps F] [Facts]
open Facts₀ Facts

set_option maxHeartbeats 20000000
set_option pp.maxSteps 400

set_option maxRecDepth 20000 in
theorem glue2 (i : grid0.Coords) (A : Args) (c1 : ¬ k0_cond1 i = 1#1) (c2 : cond2 i = 1#1) (c3 : ¬ k0_cond3 i = 1#1) :
    cc0_ppo_logprob_kl (F := F) i A.x A.xW A.xrin A.xrinW A.wp A.wpW A.ws A.wsW A.wr A.wrW A.sr A.srW A.tgt A.tgtW A.lp A.lpW A.lq A.lqW A.kl A.klW A.codes A.codesW A.scales A.scalesW A.xr A.xrW A.wt A.wtW A.u A.uW A.z A.zW A.xsl A.xslW A.tt A.ttW A.mp A.mpW A.mq A.mqW A.sp A.spW A.sq A.sqW A.ta A.taW A.selp A.selpW A.selq A.selqW =
      (rowsP A (Scalar.subi (BitVec.ofNat 32 (i 0).val) 1#32) 32 0 (by decide)).bind fun _ => matP A := by
  unfold cc0_ppo_logprob_kl
  refine dneg c1 ?_
  refine dpos c2 ?_
  iterate 32
    apply rows_step
    · iterate 77 (refine opc _ ?_; intro _)
      exact rfl
  apply rows_end
  iterate 95 (refine opc _ ?_; intro _)
  exact dneg c3 rfl

end Cert.Kernel.Hand
-- ==== Proof.Word.Glue3.lean ====
/- The last point of the grid: the printed body is the softmax of the last chunk, then both halves of the results. -/
module
public import proofs.«01_k».proof.Proof.Word.Body

@[expose] public section

namespace Cert.Kernel.Hand

open Cert.Kernel
open Idealize.ShloMosaic Idealize.SL.Sem

variable {F : FTy → Type} [FloatOps F] [Facts]
open Facts₀ Facts

set_option maxHeartbeats 20000000
set_option pp.maxSteps 400

set_option maxRecDepth 20000 in
theorem glue3 (i : grid0.Coords) (A : Args) (c1 : ¬ k0_cond1 i = 1#1) (c2 : ¬ cond2 i = 1#1) (c3 : k0_cond3 i = 1#1) :
    cc0_ppo_logprob_kl (F := F) i A.x A.xW A.xrin A.xrinW A.wp A.wpW A.ws A.wsW A.wr A.wrW A.sr A.srW A.tgt A.tgtW A.lp A.lpW A.lq A.lqW A.kl A.klW A.codes A.codesW A.scales A.scalesW A.xr A.xrW A.wt A.wtW A.u A.uW A.z A.zW A.xsl A.xslW A.tt A.ttW A.mp A.mpW A.mq A.mqW A.sp A.spW A.sq A.sqW A.ta A.taW A.selp A.selpW A.selq A.selqW =
      (rowsP A (Scalar.subi (BitVec.ofNat 32 (i 0).val) 1#32) 32 0 (by decide)).bind fun _ => (finP A 0).bind fun _ => finP A 1 := by
  unfold cc0_ppo_logprob_kl
  refine dneg c1 ?_
  refine dneg c2 ?_
  refine dpos c3 ?_
  iterate 32
    apply rows_step
    · iterate 77 (refine opc _ ?_; intro _)
      exact rfl
  apply rows_end
  apply bind_step
  · iterate 16 (refine opc _ ?_; intro _)
    exact rfl
  iterate 16 (refine opc _ ?_; intro _)
  exact rfl

end Cert.Kernel.Hand
-- ==== Proof.Word.Run.lean ====
/-
  The whole run of the kernel. `stepM t` is what the body does to the contents at grid point `t`; `run` says that whatever
  holds of the scratch buffers and the result buffers and is kept by `stepM` (`Spec`, `Spec.Ok`) holds of the results when
  the kernel ends, which it always does, with its arguments unchanged.
-/
module
public import proofs.«01_k».proof.Proof.Word.Steps
public import Idealize.ShloMosaic.Lib.Pipeline.DatRel
public import Idealize.ShloMosaic.Lib.Pipeline.ArrRel
public import proofs.«01_k».proof.Proof.Word.Glue1
public import proofs.«01_k».proof.Proof.Word.Glue2
public import proofs.«01_k».proof.Proof.Word.Glue3

@[expose] public section
noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

variable {F : FTy → Type} [FloatOps F]
local notation "𝕄" => MT nD τ sig Unit (Elt F) ℕ (UR sig nD τ) ℕ

variable (m : (ℓ : Loc nD τ sig) → Buf (Elt F) ℓ) (ρ : Dev nD → PrngReg)

/-! ## One grid point -/

/-- The chunk whose softmax point `t` takes. -/
def chunk (t : ℕ) : BitVec 32 := Scalar.subi (BitVec.ofNat 32 t) 1#32

/-- What the body does to the contents at point `t`. -/
def stepM (t : ℕ) (S : Mem F) : Mem F :=
  if t = 0 then matM (initM S) else if t < 25 then matM (softM (chunk t) S) else finM (softM (chunk t) S)

theorem coord_0 : ∀ t : Fin cfg0.N, ((grid0.coords t) 0).val = t.val := by decide +kernel
theorem cond1_iff : ∀ t : Fin cfg0.N, k0_cond1 (grid0.coords t) = 1#1 ↔ t.val = 0 := by decide +kernel
theorem cond3_iff : ∀ t : Fin cfg0.N, k0_cond3 (grid0.coords t) = 1#1 ↔ t.val = 25 := by decide +kernel
theorem cond2_iff : ∀ t : Fin cfg0.N, cond2 (grid0.coords t) = 1#1 ↔ t.val ≠ 0 ∧ t.val < 25 := by decide +kernel

theorem body_runs (t : Fin cfg0.N) (A : Args) (S : Mem F) :
    Runs A (cc0_ppo_logprob_kl (F := F) (grid0.coords t) A.x A.xW A.xrin A.xrinW A.wp A.wpW A.ws A.wsW A.wr A.wrW A.sr A.srW A.tgt A.tgtW A.lp A.lpW A.lq A.lqW A.kl A.klW A.codes A.codesW A.scales A.scalesW A.xr A.xrW A.wt A.wtW A.u A.uW A.z A.zW A.xsl A.xslW A.tt A.ttW A.mp A.mpW A.mq A.mqW A.sp A.spW A.sq A.sqW A.ta A.taW A.selp A.selpW A.selq A.selqW) S ⟨⟩ (stepM t.val S) := by
  have hN : t.val < 26 := t.isLt
  unfold stepM
  by_cases h0 : t.val = 0
  · rw [if_pos h0]
    refine Runs.of_eq (glue1 _ A ((cond1_iff t).mpr h0) (fun h => ((cond2_iff t).mp h).1 h0)
      (fun h => by have := (cond3_iff t).mp h; omega)) ((init_runs A S).bind (mat_runs A _)) rfl
  · rw [if_neg h0]
    have hc : chunk t.val = Scalar.subi (BitVec.ofNat 32 ((grid0.coords t) 0).val) 1#32 := by rw [coord_0]; rfl
    rw [hc]
    by_cases h1 : t.val < 25
    · rw [if_pos h1]
      exact Runs.of_eq (glue2 _ A (fun h => h0 ((cond1_iff t).mp h)) ((cond2_iff t).mpr ⟨h0, h1⟩)
        (fun h => by have := (cond3_iff t).mp h; omega)) ((soft_runs A _ S).bind (mat_runs A _)) rfl
    · rw [if_neg h1]
      exact Runs.of_eq (glue3 _ A (fun h => h0 ((cond1_iff t).mp h)) (fun h => h1 ((cond2_iff t).mp h).2)
        ((cond3_iff t).mpr (by omega))) ((soft_runs A _ S).bind (fin_runs _)) rfl

/-! ## What is known between the points -/

variable (F) in
/-- What is known of the scratch buffers before each point, and of each result's buffer after each point. -/
structure Spec where
  inv : Dev nD → ℕ → Mem F → Prop
  lp : Dev nD → ℕ → Vec F S2x128 .f32 → Prop
  lq : Dev nD → ℕ → Vec F S2x128 .f32 → Prop
  kl : Dev nD → ℕ → Vec F S2x128 .f32 → Prop
  codes : Dev nD → ℕ → Vec F S256x1024 .fp8e4m3 → Prop
  scales : Dev nD → ℕ → Vec F S2x128 .f32 → Prop

/-- The contents before point `t`, as far as they are known. -/
structure Spec.Before (P : Spec F) (c : Dev nD) (t : Fin cfg0.N) (S : Mem F) : Prop where
  inv : P.inv c t.val S
  x : S.x = iblk m c 0 t
  xrin : S.xrin = iblk m c 1 t
  wp : S.wp = iblk m c 2 t
  ws : S.ws = iblk m c 3 t
  wr : S.wr = iblk m c 4 t
  sr : S.sr = iblk m c 5 t
  tgt : S.tgt = iblk m c 6 t
  lp : t.val ≠ 0 → P.lp c (t.val - 1) S.lp
  lq : t.val ≠ 0 → P.lq c (t.val - 1) S.lq
  kl : t.val ≠ 0 → P.kl c (t.val - 1) S.kl
  codes : t.val ≠ 0 → P.codes c (t.val - 1) S.codes
  scales : t.val ≠ 0 → P.scales c (t.val - 1) S.scales

/-- The contents after point `t`. -/
structure Spec.After (P : Spec F) (c : Dev nD) (t : ℕ) (S : Mem F) : Prop where
  inv : P.inv c (t + 1) S
  lp : P.lp c t S.lp
  lq : P.lq c t S.lq
  kl : P.kl c t S.kl
  codes : P.codes c t S.codes
  scales : P.scales c t S.scales

/-- `P` holds at the start, is kept by every point, and speaks of the scratch buffers only. -/
structure Spec.Ok (P : Spec F) : Prop where
  init : ∀ c S, P.inv c 0 S
  step : ∀ c t S, P.Before m c t S → P.After c t.val (stepM t.val S)
  scr : ∀ c n S S', S.xr = S'.xr → S.wt = S'.wt → S.u = S'.u → S.z = S'.z → S.xsl = S'.xsl → S.tt = S'.tt → S.mp = S'.mp → S.mq = S'.mq →
    S.sp = S'.sp → S.sq = S'.sq → S.ta = S'.ta → S.selp = S'.selp → S.selq = S'.selq → P.inv c n S → P.inv c n S'

variable (P : Spec F)

/-- The scratch buffers, owned at what `S` says they hold. -/
def scr (c : Dev nD) (S : Mem F) : sProp 𝕄 :=
  iprop(owns (c : Thread nD τ) (Memref.whole cc0_scratch0) fullShare S.xr ∗ owns (c : Thread nD τ) (Memref.whole cc0_scratch1) fullShare S.wt
    ∗ owns (c : Thread nD τ) (Memref.whole cc0_scratch2) fullShare S.u ∗ owns (c : Thread nD τ) (Memref.whole cc0_scratch3) fullShare S.z
    ∗ owns (c : Thread nD τ) (Memref.whole cc0_scratch4) fullShare S.xsl ∗ owns (c : Thread nD τ) (Memref.whole cc0_scratch5) fullShare S.tt
    ∗ owns (c : Thread nD τ) (Memref.whole cc0_scratch6) fullShare S.mp ∗ owns (c : Thread nD τ) (Memref.whole cc0_scratch7) fullShare S.mq
    ∗ owns (c : Thread nD τ) (Memref.whole cc0_scratch8) fullShare S.sp ∗ owns (c : Thread nD τ) (Memref.whole cc0_scratch9) fullShare S.sq
    ∗ owns (c : Thread nD τ) (Memref.whole cc0_scratch10) fullShare S.ta ∗ owns (c : Thread nD τ) (Memref.whole cc0_scratch11) fullShare S.selp
    ∗ owns (c : Thread nD τ) (Memref.whole cc0_scratch12) fullShare S.selq)

/-- What the core holds before point `n` besides the windows. -/
def ΦS (c : Dev nD) (n : ℕ) : sProp 𝕄 := iprop((∃ S, ⌜P.inv c n S⌝ ∗ scr c S) ∗ ∃ r, prngReg c r)

/-- The windows' arrays and blocks, for the frame run. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
  Φ t := ΦS P c t.val
  q _ := fullShare
  owed _ := 0

/-- The result windows. -/
def fgt : Fin cfg0.W → Bool
  | 7 | 8 | 9 | 10 | 11 => true
  | _ => false

def Rl (c : Dev nD) (w : Fin cfg0.W) (t : Fin cfg0.N) : ((cfg0.win w).block.Idx → Elt F (cfg0.win w).elt) → Prop :=
  match w with
  | 7 => P.lp c t.val
  | 8 => P.lq c t.val
  | 9 => P.kl c t.val
  | 10 => P.codes c t.val
  | 11 => P.scales c t.val
  | _ => fun _ => True

def rdat (c : Dev nD) : RDat τ (Elt F) Unit ℕ (UR sig nD τ) ℕ cfg0 c := (dat m P c).toRRel fgt (Rl P c)

/-- The buffers the body is called on at point `t`. -/
def args (t : Fin cfg0.N) : Args where
  x := win0_0.stage (cfg0.slots t 0)
  xW := hstage0_0 ((cfg0.slots t 0).cast nbuf0_0)
  xrin := win0_1.stage (cfg0.slots t 1)
  xrinW := hstage0_1 ((cfg0.slots t 1).cast nbuf0_1)
  wp := win0_2.stage (cfg0.slots t 2)
  wpW := hstage0_2 ((cfg0.slots t 2).cast nbuf0_2)
  ws := win0_3.stage (cfg0.slots t 3)
  wsW := hstage0_3 ((cfg0.slots t 3).cast nbuf0_3)
  wr := win0_4.stage (cfg0.slots t 4)
  wrW := hstage0_4 ((cfg0.slots t 4).cast nbuf0_4)
  sr := win0_5.stage (cfg0.slots t 5)
  srW := hstage0_5 ((cfg0.slots t 5).cast nbuf0_5)
  tgt := win0_6.stage (cfg0.slots t 6)
  tgtW := hstage0_6 ((cfg0.slots t 6).cast nbuf0_6)
  lp := win0_7.stage (cfg0.slots t 7)
  lpW := hstage0_7 ((cfg0.slots t 7).cast nbuf0_7)
  lq := win0_8.stage (cfg0.slots t 8)
  lqW := hstage0_8 ((cfg0.slots t 8).cast nbuf0_8)
  kl := win0_9.stage (cfg0.slots t 9)
  klW := hstage0_9 ((cfg0.slots t 9).cast nbuf0_9)
  codes := win0_10.stage (cfg0.slots t 10)
  codesW := hstage0_10 ((cfg0.slots t 10).cast nbuf0_10)
  scales := win0_11.stage (cfg0.slots t 11)
  scalesW := hstage0_11 ((cfg0.slots t 11).cast nbuf0_11)
  xr := Memref.whole cc0_scratch0
  xrW := Memref.isWhole_whole _
  wt := Memref.whole cc0_scratch1
  wtW := Memref.isWhole_whole _
  u := Memref.whole cc0_scratch2
  uW := Memref.isWhole_whole _
  z := Memref.whole cc0_scratch3
  zW := Memref.isWhole_whole _
  xsl := Memref.whole cc0_scratch4
  xslW := Memref.isWhole_whole _
  tt := Memref.whole cc0_scratch5
  ttW := Memref.isWhole_whole _
  mp := Memref.whole cc0_scratch6
  mpW := Memref.isWhole_whole _
  mq := Memref.whole cc0_scratch7
  mqW := Memref.isWhole_whole _
  sp := Memref.whole cc0_scratch8
  spW := Memref.isWhole_whole _
  sq := Memref.whole cc0_scratch9
  sqW := Memref.isWhole_whole _
  ta := Memref.whole cc0_scratch10
  taW := Memref.isWhole_whole _
  selp := Memref.whole cc0_scratch11
  selpW := Memref.isWhole_whole _
  selq := Memref.whole cc0_scratch12
  selqW := Memref.isWhole_whole _

theorem defs₀_row (t : Fin cfg0.N) :
    defs₀ (F := F) .tc cfg0.body (cfg0.bodyArgs t (cfg0.slots t)) = bodyAt0 t := by
  unfold defs₀; rw [Defs.onTc_tc]

/-- The windows' buffers, owned at what `S` says they hold. -/
def wins (c : Dev nD) (t : Fin cfg0.N) (S : Mem F) : sProp 𝕄 :=
  iprop(owns (c : Thread nD τ) (st0_0 t) fullShare S.x ∗ owns (c : Thread nD τ) (st0_1 t) fullShare S.xrin
    ∗ owns (c : Thread nD τ) (st0_2 t) fullShare S.wp ∗ owns (c : Thread nD τ) (st0_3 t) fullShare S.ws
    ∗ owns (c : Thread nD τ) (st0_4 t) fullShare S.wr ∗ owns (c : Thread nD τ) (st0_5 t) fullShare S.sr
    ∗ owns (c : Thread nD τ) (st0_6 t) fullShare S.tgt ∗ owns (c : Thread nD τ) (st0_7 t) fullShare S.lp
    ∗ owns (c : Thread nD τ) (st0_8 t) fullShare S.lq ∗ owns (c : Thread nD τ) (st0_9 t) fullShare S.kl
    ∗ owns (c : Thread nD τ) (st0_10 t) fullShare S.codes ∗ owns (c : Thread nD τ) (st0_11 t) fullShare S.scales)

theorem sep_flat (X Y Z : sProp 𝕄) : iprop((X ∗ Y) ∗ Z) = iprop(X ∗ Y ∗ Z) :=
  equiv_iff.mp ⟨Idealize.SL.BI.sep_assoc, Idealize.SL.BI.sep_assoc'⟩

theorem own_eq (c : Dev nD) (t : Fin cfg0.N) (S : Mem F) : (Own c (args t) S : sProp 𝕄) = iprop(wins c t S ∗ scr c S) := by
  have e : (Own c (args t) S : sProp 𝕄) = _ :=
    bigSep_univ_eq_bigSepL [0, 1, 2, 3, 4, 5, 6, 7, 8, 9, 10, 11, 12, 13, 14, 15, 16, 17, 18, 19, 20, 21, 22, 23, 24] (by decide) (by decide)
      (part c (args t) S)
  rw [e]
  unfold wins scr
  simp only [sep_flat]
  rfl

/-- Every buffer of the body put together from its windows and its scratch, and back. -/
theorem own_split (c : Dev nD) (t : Fin cfg0.N) (S : Mem F) : (Own c (args t) S : sProp 𝕄) ⊢ iprop(wins c t S ∗ scr c S) :=
  Entails.of_eq (own_eq c t S)
theorem own_join (c : Dev nD) (t : Fin cfg0.N) (S : Mem F) : iprop(wins c t S ∗ scr c S) ⊢ (Own c (args t) S : sProp 𝕄) :=
  Entails.of_eq (own_eq c t S).symm

/-! ## The proof data of the run -/

theorem fetch_out : ∀ w : Fin cfg0.W, 7 ≤ w.val → ∀ t, (cfg0.win w).fetch t = false := by decide +kernel
theorem flush_out : ∀ w : Fin cfg0.W, 7 ≤ w.val → ∀ t : Fin cfg0.N, (cfg0.win w).flush t = true ↔ t.val = 25 := by decide +kernel

/-- A result's buffer holds before a point what the point before left. -/
theorem found (c : Dev nD) (w : Fin cfg0.W) (hw : fgt w = true) (h7 : 7 ≤ w.val) (t : Fin cfg0.N) (Y) (ht : t.val ≠ 0)
    (h : ((dat m P c).toRRel fgt (Rl P c)).Finds w t Y) :
    Rl P c w ⟨t.val - 1, Nat.lt_of_le_of_lt (Nat.sub_le _ _) t.isLt⟩ Y := by
  rcases (RDat.finds_of_pos _ (fetch_out w h7 t) ht Y).mp h with h | h
  · have := (flush_out w h7 _).mp h
    have h26 : t.val < 26 := t.isLt
    simp only at this; omega
  · exact (dat m P c).toRRel_leaves hw h

/-- The contents a point starts on: the inputs' blocks, what the results' buffers were found at, the scratch. -/
def entry (c : Dev nD) (t : Fin cfg0.N) (S : Mem F) (Y7 Y8 Y9 : Vec F S2x128 .f32) (Y10 : Vec F S256x1024 .fp8e4m3) (Y11 : Vec F S2x128 .f32) : Mem F :=
  { S with
    x := iblk m c 0 t
    xrin := iblk m c 1 t
    wp := iblk m c 2 t
    ws := iblk m c 3 t
    wr := iblk m c 4 t
    sr := iblk m c 5 t
    tgt := iblk m c 6 t
    lp := Y7, lq := Y8, kl := Y9, codes := Y10, scales := Y11 }

theorem before_in (c : Dev nD) (t : Fin cfg0.N) :
    (∀ d, (dat m P c).before 0 t d = iblk m c 0 t) ∧ (∀ d, (dat m P c).before 1 t d = iblk m c 1 t)
    ∧ (∀ d, (dat m P c).before 2 t d = iblk m c 2 t) ∧ (∀ d, (dat m P c).before 3 t d = iblk m c 3 t)
    ∧ (∀ d, (dat m P c).before 4 t d = iblk m c 4 t) ∧ (∀ d, (dat m P c).before 5 t d = iblk m c 5 t)
    ∧ (∀ d, (dat m P c).before 6 t d = iblk m c 6 t) :=
  ⟨fun d => before0_0_of m _ rfl (fun _ => rfl) t d, fun d => before0_1_of m _ rfl (fun _ => rfl) t d,
   fun d => before0_2_of m _ rfl (fun _ => rfl) t d, fun d => before0_3_of m _ rfl (fun _ => rfl) t d,
   fun d => before0_4_of m _ rfl (fun _ => rfl) t d, fun d => before0_5_of m _ rfl (fun _ => rfl) t d,
   fun d => before0_6_of m _ rfl (fun _ => rfl) t d⟩

theorem keeps (t : ℕ) (S : Mem F) : (stepM t S).x = S.x ∧ (stepM t S).xrin = S.xrin ∧ (stepM t S).wp = S.wp ∧ (stepM t S).ws = S.ws
    ∧ (stepM t S).wr = S.wr ∧ (stepM t S).sr = S.sr ∧ (stepM t S).tgt = S.tgt := by
  unfold stepM
  split
  · exact ⟨rfl, rfl, rfl, rfl, rfl, rfl, rfl⟩
  · split
    · exact ⟨rfl, rfl, rfl, rfl, rfl, rfl, rfl⟩
    · exact ⟨rfl, rfl, rfl, rfl, rfl, rfl, rfl⟩

def bodyPre (c : Dev nD) (t : Fin cfg0.N) : sProp 𝕄 :=
  iprop(ΦS P c t.val ∗ (dat m P c).owesAt () t.castSucc
    ∗ (∃ d, owns (c : Thread nD τ) (st0_0 t) fullShare ((dat m P c).before 0 t d))
    ∗ (∃ d, owns (c : Thread nD τ) (st0_1 t) fullShare ((dat m P c).before 1 t d))
    ∗ (∃ d, owns (c : Thread nD τ) (st0_2 t) fullShare ((dat m P c).before 2 t d))
    ∗ (∃ d, owns (c : Thread nD τ) (st0_3 t) fullShare ((dat m P c).before 3 t d))
    ∗ (∃ d, owns (c : Thread nD τ) (st0_4 t) fullShare ((dat m P c).before 4 t d))
    ∗ (∃ d, owns (c : Thread nD τ) (st0_5 t) fullShare ((dat m P c).before 5 t d))
    ∗ (∃ d, owns (c : Thread nD τ) (st0_6 t) fullShare ((dat m P c).before 6 t d))
    ∗ (∃ Y, ⌜(rdat m P c).Finds 7 t Y⌝ ∗ owns (c : Thread nD τ) (st0_7 t) fullShare Y)
    ∗ (∃ Y, ⌜(rdat m P c).Finds 8 t Y⌝ ∗ owns (c : Thread nD τ) (st0_8 t) fullShare Y)
    ∗ (∃ Y, ⌜(rdat m P c).Finds 9 t Y⌝ ∗ owns (c : Thread nD τ) (st0_9 t) fullShare Y)
    ∗ (∃ Y, ⌜(rdat m P c).Finds 10 t Y⌝ ∗ owns (c : Thread nD τ) (st0_10 t) fullShare Y)
    ∗ (∃ Y, ⌜(rdat m P c).Finds 11 t Y⌝ ∗ owns (c : Thread nD τ) (st0_11 t) fullShare Y))

def bodyPost (c : Dev nD) (t : Fin cfg0.N) : sProp 𝕄 :=
  iprop(ΦS P c (t.val + 1) ∗ (dat m P c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ (∃ X, ⌜P.lp c t.val X⌝ ∗ owns (c : Thread nD τ) (st0_7 t) fullShare X)
    ∗ (∃ X, ⌜P.lq c t.val X⌝ ∗ owns (c : Thread nD τ) (st0_8 t) fullShare X)
    ∗ (∃ X, ⌜P.kl c t.val X⌝ ∗ owns (c : Thread nD τ) (st0_9 t) fullShare X)
    ∗ (∃ X, ⌜P.codes c t.val X⌝ ∗ owns (c : Thread nD τ) (st0_10 t) fullShare X)
    ∗ (∃ X, ⌜P.scales c t.val X⌝ ∗ owns (c : Thread nD τ) (st0_11 t) fullShare X))

theorem before_entry (h : P.Ok m) (c : Dev nD) (t : Fin cfg0.N) (S : Mem F) (hS : P.inv c t.val S) (Y7 Y8 Y9 : Vec F S2x128 .f32)
    (Y10 : Vec F S256x1024 .fp8e4m3) (Y11 : Vec F S2x128 .f32) (h7 : (rdat m P c).Finds 7 t Y7) (h8 : (rdat m P c).Finds 8 t Y8)
    (h9 : (rdat m P c).Finds 9 t Y9) (h10 : (rdat m P c).Finds 10 t Y10) (h11 : (rdat m P c).Finds 11 t Y11) :
    P.Before m c t (entry m c t S Y7 Y8 Y9 Y10 Y11) where
  inv := h.scr c _ S _ rfl rfl rfl rfl rfl rfl rfl rfl rfl rfl rfl rfl rfl hS
  x := rfl
  xrin := rfl
  wp := rfl
  ws := rfl
  wr := rfl
  sr := rfl
  tgt := rfl
  lp ht := found m P c 7 (by decide) (by decide) t _ ht h7
  lq ht := found m P c 8 (by decide) (by decide) t _ ht h8
  kl ht := found m P c 9 (by decide) (by decide) t _ ht h9
  codes ht := found m P c 10 (by decide) (by decide) t _ ht h10
  scales ht := found m P c 11 (by decide) (by decide) t _ ht h11

theorem sound_body (h : P.Ok m) (c : Dev nD) (t : Fin cfg0.N) :
    bodyPre m P c t ⊢ wp frame (wpE (defs₀ (F := F)) Variants.none c none) Set.univ (bodyAt0 t) (fun _ => bodyPost m P c t) := by
  obtain ⟨b0, b1, b2, b3, b4, b5, b6⟩ := before_in m P c t
  unfold bodyPre bodyPost ΦS Dat.owesAt Pipeline.owesWithin
  rw [show (dat m P c).owed t.castSucc = 0 from rfl, show (dat m P c).owed t.succ = 0 from rfl]
  simp only [b0, b1, b2, b3, b4, b5, b6]
  iintro ⟨⟨⟨%S, %hS, HS⟩, Hg⟩, ⟨%W, -, HW⟩, ⟨%d0, H0⟩, ⟨%d1, H1⟩, ⟨%d2, H2⟩, ⟨%d3, H3⟩, ⟨%d4, H4⟩, ⟨%d5, H5⟩, ⟨%d6, H6⟩,
    ⟨%Y7, %h7, H7⟩, ⟨%Y8, %h8, H8⟩, ⟨%Y9, %h9, H9⟩, ⟨%Y10, %h10, H10⟩, ⟨%Y11, %h11, H11⟩⟩
  have hB := before_entry m P h c t S hS Y7 Y8 Y9 Y10 Y11 h7 h8 h9 h10 h11
  have hA := h.step c t _ hB
  have hk := keeps t.val (entry m c t S Y7 Y8 Y9 Y10 Y11)
  have hr := (body_runs t (args t) (entry m c t S Y7 Y8 Y9 Y10 Y11)).wp c Variants.none Set.univ
  generalize hT : stepM t.val (entry m c t S Y7 Y8 Y9 Y10 Y11) = T at hA hk hr
  obtain ⟨k0, k1, k2, k3, k4, k5, k6⟩ := hk
  iapply hr
  isplitl [HS H0 H1 H2 H3 H4 H5 H6 H7 H8 H9 H10 H11]
  · iapply own_join c t
    isplitl [H0 H1 H2 H3 H4 H5 H6 H7 H8 H9 H10 H11]
    · unfold wins entry
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · unfold entry scr; iexact HS
  iintro HT
  ihave HT := own_split c t T $$ HT
  icases HT with ⟨HT, HS⟩
  unfold wins
  rw [k0, k1, k2, k3, k4, k5, k6]
  icases HT with ⟨H0, H1, H2, H3, H4, H5, H6, H7, H8, H9, H10, H11⟩
  isplitl [HS Hg]
  · isplitl [HS]
    · iexists T
      isplitr; · ipureintro; exact hA.inv
      iexact HS
    · iexact Hg
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists T.lp; isplitr; · ipureintro; exact hA.lp
    iexact H7
  isplitl [H8]
  · iexists T.lq; isplitr; · ipureintro; exact hA.lq
    iexact H8
  isplitl [H9]
  · iexists T.kl; isplitr; · ipureintro; exact hA.kl
    iexact H9
  isplitl [H10]
  · iexists T.codes; isplitr; · ipureintro; exact hA.codes
    iexact H10
  iexists T.scales; isplitr; · ipureintro; exact hA.scales
  iexact H11

theorem body_obligation (h : P.Ok m) (c : Dev nD) :
    Pipeline.BodyObligationRel (dat m P c) (defs₀ (F := F)) Variants.none () Set.univ fgt (Rl P c) := fun t => by
  rw [bigSep_W0, bigSep_W0, defs₀_row]
  refine triple_restated (sound_body m P h c t) rfl ?_ ?_
  · exact Entails.of_eq rfl
  · intro _
    exact Entails.of_eq rfl

/-- The first grid point. -/
def t₀ : Fin cfg0.N := ⟨0, by decide⟩

theorem phi_in (h : P.Ok m) (c : Dev nD) : Pipeline.ΦA spec0 c ⊢ (ΦS P c 0 : sProp 𝕄) := by
  unfold Pipeline.ΦA ΦS
  rw [scopedRest0_eq]
  iintro ⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩,
    ⟨%f12, H12⟩⟩, Hg⟩
  isplitr [Hg]
  · iexists (⟨iblk m c 0 t₀, iblk m c 1 t₀, iblk m c 2 t₀, iblk m c 3 t₀, iblk m c 4 t₀, iblk m c 5 t₀, iblk m c 6 t₀, iblk m c 7 t₀, iblk m c 8 t₀, iblk m c 9 t₀, iblk m c 10 t₀, iblk m c 11 t₀,
      f0, f1, f2, f3, f4, f5, f6, f7, f8, f9, f10, f11, f12⟩ : Mem F)
    isplitr; · ipureintro; exact h.init c _
    unfold scr
    simp only [owns_whole]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · iexact Hg

theorem phi_out (c : Dev nD) (n : ℕ) : (ΦS P c n : sProp 𝕄) ⊢ Pipeline.ΦA spec0 c := by
  unfold Pipeline.ΦA ΦS scr
  rw [scopedRest0_eq]
  simp only [owns_whole]
  iintro ⟨⟨%S, -, ⟨H0, H1, H2, H3, H4, H5, H6, H7, H8, H9, H10, H11, H12⟩⟩, Hg⟩
  isplitr [Hg]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iexists _; iexact H12
  · iexact Hg

set_option backward.isDefEq.respectTransparency.types false in
/-- The kernel runs from every start, and its arrays end as the proof data say. -/
theorem run_post (h : P.Ok m) : θ_run defs (onTc (τ := τ) (main (F := F))) (s₀ m ρ)
    (fun r => Pipeline.RDat.FramePost cfg0 (rdat m P) (V m) r ∧ r.2.sem = fun _ => 0) :=
  RDat.θ_run_frame_track (Q' := _) cfgs (0 : Fin 1) launch0 defs₀ Variants.none (rdat m P) m ρ main
    (hbody := fun c => (body_obligation m P h c).toRRel) (hshare := fun c => (dat m P c).share_full fun _ => rfl)
    (howed := fun _ _ => rfl) (V := V m) (hmain := hmain m Variants.none) (hA := fun _ _ => rfl)
    (hin := phi_in m P h) (hout := fun c => phi_out P c _)

theorem out_lp (c : Dev nD) (G : Buf (Elt F) ((c : Thread nD τ).loc main_v4_0)) (h : (rdat m P c).ArrAt 7 cfg0.N G) : P.lp c 25 G := by
  obtain ⟨X, hX, hG⟩ := RDat.ArrAt.emb_eq_of_wholeAt h (t₀ := ⟨25, by decide⟩) (by decide +kernel)
  have e : G = X := funext fun j => hG j
  rw [e]
  exact (dat m P c).toRRel_leaves (w := 7) (by decide) hX

theorem out_lq (c : Dev nD) (G : Buf (Elt F) ((c : Thread nD τ).loc main_v4_1)) (h : (rdat m P c).ArrAt 8 cfg0.N G) : P.lq c 25 G := by
  obtain ⟨X, hX, hG⟩ := RDat.ArrAt.emb_eq_of_wholeAt h (t₀ := ⟨25, by decide⟩) (by decide +kernel)
  have e : G = X := funext fun j => hG j
  rw [e]
  exact (dat m P c).toRRel_leaves (w := 8) (by decide) hX

theorem out_kl (c : Dev nD) (G : Buf (Elt F) ((c : Thread nD τ).loc main_v4_2)) (h : (rdat m P c).ArrAt 9 cfg0.N G) : P.kl c 25 G := by
  obtain ⟨X, hX, hG⟩ := RDat.ArrAt.emb_eq_of_wholeAt h (t₀ := ⟨25, by decide⟩) (by decide +kernel)
  have e : G = X := funext fun j => hG j
  rw [e]
  exact (dat m P c).toRRel_leaves (w := 9) (by decide) hX

theorem out_codes (c : Dev nD) (G : Buf (Elt F) ((c : Thread nD τ).loc main_v4_3)) (h : (rdat m P c).ArrAt 10 cfg0.N G) : P.codes c 25 G := by
  obtain ⟨X, hX, hG⟩ := RDat.ArrAt.emb_eq_of_wholeAt h (t₀ := ⟨25, by decide⟩) (by decide +kernel)
  have e : G = X := funext fun j => hG j
  rw [e]
  exact (dat m P c).toRRel_leaves (w := 10) (by decide) hX

theorem out_scales (c : Dev nD) (G : Buf (Elt F) ((c : Thread nD τ).loc main_v4_4)) (h : (rdat m P c).ArrAt 11 cfg0.N G) : P.scales c 25 G := by
  obtain ⟨X, hX, hG⟩ := RDat.ArrAt.emb_eq_of_wholeAt h (t₀ := ⟨25, by decide⟩) (by decide +kernel)
  have e : G = X := funext fun j => hG j
  rw [e]
  exact (dat m P c).toRRel_leaves (w := 11) (by decide) hX

/-- The kernel runs from every start: it ends with its arguments as they were, its semaphores at zero, and what `P` says
    of its results. -/
theorem run (h : P.Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ (∀ c : Dev nD, P.lp c 25 (r.2.mem ((c.tc : Thread nD τ).loc main_v4_0)) ∧ P.lq c 25 (r.2.mem ((c.tc : Thread nD τ).loc main_v4_1))
        ∧ P.kl c 25 (r.2.mem ((c.tc : Thread nD τ).loc main_v4_2)) ∧ P.codes c 25 (r.2.mem ((c.tc : Thread nD τ).loc main_v4_3))
        ∧ P.scales c 25 (r.2.mem ((c.tc : Thread nD τ).loc main_v4_4)))
      ∧ r.2.sem = fun _ => 0) :=
  (θ_run defs _ _).mono (fun r ⟨h, hs⟩ => ⟨fun c => ⟨
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      (h.arr_in c 2 rfl).trans (V_main_arg2 m c),
      ((h c).2 main_arg3 (Pipeline.mem_restRefs_of main_arg3 (by decide) (by decide))).trans (V_main_arg3 m c),
      (h.arr_in c 4 rfl).trans (V_main_arg4 m c),
      ((h c).2 main_arg5 (Pipeline.mem_restRefs_of main_arg5 (by decide) (by decide))).trans (V_main_arg5 m c),
      (h.arr_in c 6 rfl).trans (V_main_arg6 m c)⟩,
    fun c => ⟨out_lp m P c _ ((h c).1 7), out_lq m P c _ ((h c).1 8), out_kl m P c _ ((h c).1 9), out_codes m P c _ ((h c).1 10),
      out_scales m P c _ ((h c).1 11)⟩, hs⟩) (run_post m ρ P h)

variable (F) in
/-- Nothing known of any buffer: what is left is the frame. -/
def free : Spec F := ⟨fun _ _ _ => True, fun _ _ _ => True, fun _ _ _ => True, fun _ _ _ => True, fun _ _ _ => True, fun _ _ _ => True⟩

theorem free_ok : (free F).Ok m := ⟨fun _ _ => trivial, fun _ _ _ _ => ⟨trivial, trivial, trivial, trivial, trivial, trivial⟩, fun _ _ _ _ _ _ _ _ _ _ _ _ _ _ _ _ _ _ => trivial⟩

/-- The frame: the kernel runs from every start and leaves its arguments alone. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨h.1, h.2.2⟩) (run m ρ (free F) (free_ok m))

end Cert.Kernel.Hand
-- ==== Proof.Ideal.Mem.lean ====
/-
  What the kernel's body does to its buffers, as a relation between contents: `Mem` holds the contents of the twelve
  staging buffers and the thirteen scratch buffers, and `Runs A p S a S'` says that the piece `p` of the body, started on
  contents `S`, runs without a fault to the result `a` and contents `S'`. `Runs.wp` turns such a run into a weakest
  precondition once and for all, so that everything after it is a statement about contents.
-/
module
public import proofs.«01_k».proof.Proof.Gen.KernelIdeal.Frame

@[expose] public section
noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
local notation "𝕄" => MT nD τ sig Unit (Elt F) ℕ (UR sig nD τ) ℕ

/-- A piece of the kernel's body. -/
abbrev KProg (F : FTy → Type) (α : Type) := Prog (TpuEff nD τ sig (Elt F) Λ₀ .tc) α

/-- The buffers the body is called on. -/
structure Args where
  x : Memref sig .tc .vmem S256x1024 .bf16
  xW : x.IsWhole
  xrin : Memref sig .tc .vmem S256x1024 .bf16
  xrinW : xrin.IsWhole
  wp : Memref sig .tc .vmem S1280x1024 .fp8e4m3
  wpW : wp.IsWhole
  ws : Memref sig .tc .vmem S1x1280 .f32
  wsW : ws.IsWhole
  wr : Memref sig .tc .vmem S1280x512 .i8
  wrW : wr.IsWhole
  sr : Memref sig .tc .vmem S8x1280 .f32
  srW : sr.IsWhole
  tgt : Memref sig .tc .vmem S2x128 .i32
  tgtW : tgt.IsWhole
  lp : Memref sig .tc .vmem S2x128 .f32
  lpW : lp.IsWhole
  lq : Memref sig .tc .vmem S2x128 .f32
  lqW : lq.IsWhole
  kl : Memref sig .tc .vmem S2x128 .f32
  klW : kl.IsWhole
  codes : Memref sig .tc .vmem S256x1024 .fp8e4m3
  codesW : codes.IsWhole
  scales : Memref sig .tc .vmem S2x128 .f32
  scalesW : scales.IsWhole
  xr : Memref sig .tc .vmem S256x1024 .bf16
  xrW : xr.IsWhole
  wt : Memref sig .tc .vmem S1024x1280 .bf16
  wtW : wt.IsWhole
  u : Memref sig .tc .vmem S256x1280 .f32
  uW : u.IsWhole
  z : Memref sig .tc .vmem S256x1280 .f32
  zW : z.IsWhole
  xsl : Memref sig .tc .vmem S256x128 .f32
  xslW : xsl.IsWhole
  tt : Memref sig .tc .vmem S256x128 .i32
  ttW : tt.IsWhole
  mp : Memref sig .tc .vmem S256x128 .f32
  mpW : mp.IsWhole
  mq : Memref sig .tc .vmem S256x128 .f32
  mqW : mq.IsWhole
  sp : Memref sig .tc .vmem S256x128 .f32
  spW : sp.IsWhole
  sq : Memref sig .tc .vmem S256x128 .f32
  sqW : sq.IsWhole
  ta : Memref sig .tc .vmem S256x128 .f32
  taW : ta.IsWhole
  selp : Memref sig .tc .vmem S256x128 .f32
  selpW : selp.IsWhole
  selq : Memref sig .tc .vmem S256x128 .f32
  selqW : selq.IsWhole

/-- What the buffers hold. -/
structure Mem (F : FTy → Type) where
  x : Vec F S256x1024 .bf16
  xrin : Vec F S256x1024 .bf16
  wp : Vec F S1280x1024 .fp8e4m3
  ws : Vec F S1x1280 .f32
  wr : Vec F S1280x512 .i8
  sr : Vec F S8x1280 .f32
  tgt : Vec F S2x128 .i32
  lp : Vec F S2x128 .f32
  lq : Vec F S2x128 .f32
  kl : Vec F S2x128 .f32
  codes : Vec F S256x1024 .fp8e4m3
  scales : Vec F S2x128 .f32
  xr : Vec F S256x1024 .bf16
  wt : Vec F S1024x1280 .bf16
  u : Vec F S256x1280 .f32
  z : Vec F S256x1280 .f32
  xsl : Vec F S256x128 .f32
  tt : Vec F S256x128 .i32
  mp : Vec F S256x128 .f32
  mq : Vec F S256x128 .f32
  sp : Vec F S256x128 .f32
  sq : Vec F S256x128 .f32
  ta : Vec F S256x128 .f32
  selp : Vec F S256x128 .f32
  selq : Vec F S256x128 .f32

/-- Buffer `k` of the body, owned at what `S` says it holds. -/
def part (c : Dev nD) (A : Args) (S : Mem F) : Fin 25 → sProp 𝕄
  | 0 => owns (c : Thread nD τ) A.x fullShare S.x
  | 1 => owns (c : Thread nD τ) A.xrin fullShare S.xrin
  | 2 => owns (c : Thread nD τ) A.wp fullShare S.wp
  | 3 => owns (c : Thread nD τ) A.ws fullShare S.ws
  | 4 => owns (c : Thread nD τ) A.wr fullShare S.wr
  | 5 => owns (c : Thread nD τ) A.sr fullShare S.sr
  | 6 => owns (c : Thread nD τ) A.tgt fullShare S.tgt
  | 7 => owns (c : Thread nD τ) A.lp fullShare S.lp
  | 8 => owns (c : Thread nD τ) A.lq fullShare S.lq
  | 9 => owns (c : Thread nD τ) A.kl fullShare S.kl
  | 10 => owns (c : Thread nD τ) A.codes fullShare S.codes
  | 11 => owns (c : Thread nD τ) A.scales fullShare S.scales
  | 12 => owns (c : Thread nD τ) A.xr fullShare S.xr
  | 13 => owns (c : Thread nD τ) A.wt fullShare S.wt
  | 14 => owns (c : Thread nD τ) A.u fullShare S.u
  | 15 => owns (c : Thread nD τ) A.z fullShare S.z
  | 16 => owns (c : Thread nD τ) A.xsl fullShare S.xsl
  | 17 => owns (c : Thread nD τ) A.tt fullShare S.tt
  | 18 => owns (c : Thread nD τ) A.mp fullShare S.mp
  | 19 => owns (c : Thread nD τ) A.mq fullShare S.mq
  | 20 => owns (c : Thread nD τ) A.sp fullShare S.sp
  | 21 => owns (c : Thread nD τ) A.sq fullShare S.sq
  | 22 => owns (c : Thread nD τ) A.ta fullShare S.ta
  | 23 => owns (c : Thread nD τ) A.selp fullShare S.selp
  | _ => owns (c : Thread nD τ) A.selq fullShare S.selq

/-- Every buffer of the body, owned at what `S` says it holds. -/
def Own (c : Dev nD) (A : Args) (S : Mem F) : sProp 𝕄 := bigSep Finset.univ (part c A S)

variable (F) in
/-- One buffer among the twenty-five. -/
structure Cell (A : Args) (s : Shape) (e : EltTy) where
  ref : Memref sig .tc .vmem s e
  get : Mem F → Vec F s e
  set : Mem F → Vec F s e → Mem F
  idx : Fin 25
  here : ∀ c S, part c A S idx = (owns (c : Thread nD τ) ref fullShare (get S) : sProp 𝕄)
  get_set : ∀ S X, get (set S X) = X
  rest : ∀ c S X j, j ≠ idx → part c A (set S X) j = part c A S j

theorem Cell.take {A : Args} {s : Shape} {e : EltTy} (L : Cell F A s e) (c : Dev nD) (S : Mem F) :
    Own c A S ⊢ iprop(owns (c : Thread nD τ) L.ref fullShare (L.get S) ∗ bigSep (Finset.univ.erase L.idx) (part c A S)) := by
  have e := bigSep_erase (Φ := part c A S) (Finset.mem_univ L.idx)
  rw [L.here c S] at e
  exact Entails.of_eq e

theorem Cell.give {A : Args} {s : Shape} {e : EltTy} (L : Cell F A s e) (c : Dev nD) (S : Mem F) (X : Vec F s e) :
    iprop(owns (c : Thread nD τ) L.ref fullShare X ∗ bigSep (Finset.univ.erase L.idx) (part c A S)) ⊢ Own c A (L.set S X) := by
  have h : bigSep (Finset.univ.erase L.idx) (part c A S) = bigSep (Finset.univ.erase L.idx) (part c A (L.set S X)) :=
    bigSep_congr fun j hj => (L.rest c S X j (Finset.ne_of_mem_erase hj)).symm
  have e := bigSep_erase (Φ := part c A (L.set S X)) (Finset.mem_univ L.idx)
  rw [L.here, L.get_set] at e
  rw [h]; exact Entails.of_eq e.symm

theorem Cell.keep {A : Args} {s : Shape} {e : EltTy} (L : Cell F A s e) (c : Dev nD) (S : Mem F) :
    iprop(owns (c : Thread nD τ) L.ref fullShare (L.get S) ∗ bigSep (Finset.univ.erase L.idx) (part c A S)) ⊢ Own c A S := by
  have e := bigSep_erase (Φ := part c A S) (Finset.mem_univ L.idx)
  rw [L.here c S] at e
  exact Entails.of_eq e.symm

/-- Contents `X` after the store of `w` through the rectangle `r` under the mask `M`. -/
def put {s : Shape} {α : Type} (r : Rect s) (X : s.Idx → α) (w : r.shape.Idx → α) (M : Finset r.shape.Idx) : s.Idx → α := fun y =>
  match preimage? r.emb y with
  | some x => if x ∈ M then w x else X y
  | none => X y

theorem put_emb {s : Shape} {α : Type} (r : Rect s) (X : s.Idx → α) (w : r.shape.Idx → α) (M : Finset r.shape.Idx) (x : r.shape.Idx) :
    put r X w M (r.emb x) = if x ∈ M then w x else X (r.emb x) := by
  simp [put, preimage?_emb]

theorem put_off {s : Shape} {α : Type} (r : Rect s) (X : s.Idx → α) (w : r.shape.Idx → α) (M : Finset r.shape.Idx) {y : s.Idx}
    (h : ∀ x, r.emb x ≠ y) : put r X w M y = X y := by
  simp [put, preimage?_eq_none h]

/-- Reading the whole memref after a store through one of its rectangles. -/
theorem read_access_write {s : Shape} {e : EltTy} (v : View sig .tc .vmem s e) (r : Rect s) (f : v.ty.Contents (Elt F))
    (w : r.shape.Idx → Elt F e) (M : Finset r.shape.Idx) :
    v.read (Elt F) ((v.slice r).write (Elt F) f w M) = put r (v.read (Elt F) f) w M := by
  funext y
  by_cases hy : ∃ x, r.emb x = y
  · obtain ⟨x, rfl⟩ := hy
    rw [put_emb]
    split
    · next h => exact View.read_slice_write_emb r f w h
    · next h =>
      refine View.read_slice_write_of_not_mem r f w M fun hm => h ?_
      obtain ⟨x', hx', e'⟩ := Finset.mem_map.mp hm
      rwa [r.emb.injective e'] at hx'
  · rw [put_off r _ _ _ (fun x hx => hy ⟨x, hx⟩)]
    refine View.read_slice_write_of_not_mem r f w M fun hm => hy ?_
    obtain ⟨x', -, e'⟩ := Finset.mem_map.mp hm
    exact ⟨x', e'⟩

/-- The piece `p` of the body, started on contents `S`, runs to the result `a` and contents `S'`. -/
inductive Runs (A : Args) : {α : Type} → KProg F α → Mem F → α → Mem F → Prop
  | ret {α : Type} (a : α) (S : Mem F) : Runs A (.ret a) S a S
  | load {α : Type} {s : Shape} {e : EltTy} (L : Cell F A s e) {r : LoadRect s} {hl : L.ref.view.LoadsAt r}
      {k : (r.shape.Idx → Elt F e) → KProg F α} {S S' : Mem F} {a : α} (h : Runs A (k fun x => L.get S (r.idx x)) S a S') :
      Runs A (.op (.load L.ref r hl) k) S a S'
  | store {α : Type} {s : Shape} {e : EltTy} (L : Cell F A s e) {r : Rect s} {w : r.shape.Idx → Elt F e} {M : Finset r.shape.Idx}
      {hx : (L.ref.access r).Stores M} {hm : M = Finset.univ ∨ ∀ a, r.stride a = 1} {k : PUnit → KProg F α} {S S' : Mem F} {a : α}
      (h : Runs A (k ⟨⟩) (L.set S (put r (L.get S) w M)) a S') :
      Runs A (.op (.store L.ref r w M hx hm) k) S a S'

theorem Runs.bind {A : Args} {α β : Type} {p : KProg F α} {k : α → KProg F β} {S S' S'' : Mem F} {a : α} {b : β}
    (h : Runs A p S a S') (h' : Runs A (k a) S' b S'') : Runs A (p.bind k) S b S'' := by
  induction h with
  | ret => exact h'
  | load L h ih => exact Runs.load L (ih h')
  | store L h ih => exact Runs.store L (ih h')

theorem Runs.of_eq {A : Args} {α : Type} {p q : KProg F α} {S S' S'' : Mem F} {a : α}
    (e : p = q) (h : Runs A q S a S') (e' : S' = S'') : Runs A p S a S'' := by subst e e'; exact h

/-- A run is a weakest precondition. -/
theorem Runs.wp {A : Args} {α : Type} {p : KProg F α} {S S' : Mem F} {a : α} (h : Runs A p S a S') (c : Dev nD) (𝒱₀ : Variants)
    (E : Set ℕ) (Q : α → sProp 𝕄) :
    iprop(Own c A S ∗ (Own c A S' -∗ Q a)) ⊢ wp frame (wpE (defs₀ (F := F)) 𝒱₀ c none) E p Q := by
  induction h with
  | ret a S =>
    rw [wp_ret]; iintro ⟨HS, Hk⟩; imodintro; iapply Hk; iexact HS
  | load L h ih =>
    rename_i r hl k S S' a
    iintro ⟨HS, Hk⟩
    ihave H := L.take c S $$ HS
    icases H with ⟨H1, Hr⟩
    unfold owns
    icases H1 with ⟨%f, %hf, Hf⟩
    iapply wp_load 𝒱₀ c none E (View.setOn_subset_set _ _) $$ Hf
    iintro Hf
    have e : L.ref.view.readAt (Elt F) r f = fun x => L.get S (r.idx x) := by rw [← hf]; rfl
    rw [e]
    iapply ih
    isplitr [Hk]
    · iapply L.keep c S
      isplitr [Hr]
      · unfold owns
        iexists f
        isplitr [Hf]
        · ipureintro; exact hf
        · iexact Hf
      · iexact Hr
    · iexact Hk
  | store L h ih =>
    rename_i r w M hx hm k S S' a
    iintro ⟨HS, Hk⟩
    ihave H := L.take c S $$ HS
    icases H with ⟨H1, Hr⟩
    unfold owns
    icases H1 with ⟨%f, %hf, Hf⟩
    have hS : (L.ref.access r).setOn M ⊆ L.ref.view.set :=
      ((L.ref.access r).setOn_subset_set M).trans (View.set_slice_subset L.ref.view r)
    have hw := wp_store (defs := defs₀ (F := F)) (Γ := .empty) (c := (c : Thread nD τ)) (m := L.ref) (r := r) (w := w) (Mk := M) (hx := hx) (hm := hm)
      (k := k) (Q := Q) 𝒱₀ none E (S := L.ref.view.set) (f := f) hS
    iapply hw $$ Hf
    iintro Hf
    iapply ih
    isplitr [Hk]
    · iapply L.give c S (put r (L.get S) w M)
      isplitr [Hr]
      · unfold owns
        iexists ((L.ref.access r).write (Elt F) f w M)
        isplitr [Hf]
        · ipureintro; exact (read_access_write L.ref.view r f w M).trans (by rw [hf])
        · iexact Hf
      · iexact Hr
    · iexact Hk

def c_x (A : Args) : Cell F A S256x1024 .bf16 where
  ref := A.x
  get S := S.x
  set S X := { S with x := X }
  idx := 0
  here _ _ := rfl
  get_set _ _ := rfl
  rest c S X j hj := by fin_cases j <;> first | rfl | exact absurd rfl hj

def c_xrin (A : Args) : Cell F A S256x1024 .bf16 where
  ref := A.xrin
  get S := S.xrin
  set S X := { S with xrin := X }
  idx := 1
  here _ _ := rfl
  get_set _ _ := rfl
  rest c S X j hj := by fin_cases j <;> first | rfl | exact absurd rfl hj

def c_wp (A : Args) : Cell F A S1280x1024 .fp8e4m3 where
  ref := A.wp
  get S := S.wp
  set S X := { S with wp := X }
  idx := 2
  here _ _ := rfl
  get_set _ _ := rfl
  rest c S X j hj := by fin_cases j <;> first | rfl | exact absurd rfl hj

def c_ws (A : Args) : Cell F A S1x1280 .f32 where
  ref := A.ws
  get S := S.ws
  set S X := { S with ws := X }
  idx := 3
  here _ _ := rfl
  get_set _ _ := rfl
  rest c S X j hj := by fin_cases j <;> first | rfl | exact absurd rfl hj

def c_wr (A : Args) : Cell F A S1280x512 .i8 where
  ref := A.wr
  get S := S.wr
  set S X := { S with wr := X }
  idx := 4
  here _ _ := rfl
  get_set _ _ := rfl
  rest c S X j hj := by fin_cases j <;> first | rfl | exact absurd rfl hj

def c_sr (A : Args) : Cell F A S8x1280 .f32 where
  ref := A.sr
  get S := S.sr
  set S X := { S with sr := X }
  idx := 5
  here _ _ := rfl
  get_set _ _ := rfl
  rest c S X j hj := by fin_cases j <;> first | rfl | exact absurd rfl hj

def c_tgt (A : Args) : Cell F A S2x128 .i32 where
  ref := A.tgt
  get S := S.tgt
  set S X := { S with tgt := X }
  idx := 6
  here _ _ := rfl
  get_set _ _ := rfl
  rest c S X j hj := by fin_cases j <;> first | rfl | exact absurd rfl hj

def c_lp (A : Args) : Cell F A S2x128 .f32 where
  ref := A.lp
  get S := S.lp
  set S X := { S with lp := X }
  idx := 7
  here _ _ := rfl
  get_set _ _ := rfl
  rest c S X j hj := by fin_cases j <;> first | rfl | exact absurd rfl hj

def c_lq (A : Args) : Cell F A S2x128 .f32 where
  ref := A.lq
  get S := S.lq
  set S X := { S with lq := X }
  idx := 8
  here _ _ := rfl
  get_set _ _ := rfl
  rest c S X j hj := by fin_cases j <;> first | rfl | exact absurd rfl hj

def c_kl (A : Args) : Cell F A S2x128 .f32 where
  ref := A.kl
  get S := S.kl
  set S X := { S with kl := X }
  idx := 9
  here _ _ := rfl
  get_set _ _ := rfl
  rest c S X j hj := by fin_cases j <;> first | rfl | exact absurd rfl hj

def c_codes (A : Args) : Cell F A S256x1024 .fp8e4m3 where
  ref := A.codes
  get S := S.codes
  set S X := { S with codes := X }
  idx := 10
  here _ _ := rfl
  get_set _ _ := rfl
  rest c S X j hj := by fin_cases j <;> first | rfl | exact absurd rfl hj

def c_scales (A : Args) : Cell F A S2x128 .f32 where
  ref := A.scales
  get S := S.scales
  set S X := { S with scales := X }
  idx := 11
  here _ _ := rfl
  get_set _ _ := rfl
  rest c S X j hj := by fin_cases j <;> first | rfl | exact absurd rfl hj

def c_xr (A : Args) : Cell F A S256x1024 .bf16 where
  ref := A.xr
  get S := S.xr
  set S X := { S with xr := X }
  idx := 12
  here _ _ := rfl
  get_set _ _ := rfl
  rest c S X j hj := by fin_cases j <;> first | rfl | exact absurd rfl hj

def c_wt (A : Args) : Cell F A S1024x1280 .bf16 where
  ref := A.wt
  get S := S.wt
  set S X := { S with wt := X }
  idx := 13
  here _ _ := rfl
  get_set _ _ := rfl
  rest c S X j hj := by fin_cases j <;> first | rfl | exact absurd rfl hj

def c_u (A : Args) : Cell F A S256x1280 .f32 where
  ref := A.u
  get S := S.u
  set S X := { S with u := X }
  idx := 14
  here _ _ := rfl
  get_set _ _ := rfl
  rest c S X j hj := by fin_cases j <;> first | rfl | exact absurd rfl hj

def c_z (A : Args) : Cell F A S256x1280 .f32 where
  ref := A.z
  get S := S.z
  set S X := { S with z := X }
  idx := 15
  here _ _ := rfl
  get_set _ _ := rfl
  rest c S X j hj := by fin_cases j <;> first | rfl | exact absurd rfl hj

def c_xsl (A : Args) : Cell F A S256x128 .f32 where
  ref := A.xsl
  get S := S.xsl
  set S X := { S with xsl := X }
  idx := 16
  here _ _ := rfl
  get_set _ _ := rfl
  rest c S X j hj := by fin_cases j <;> first | rfl | exact absurd rfl hj

def c_tt (A : Args) : Cell F A S256x128 .i32 where
  ref := A.tt
  get S := S.tt
  set S X := { S with tt := X }
  idx := 17
  here _ _ := rfl
  get_set _ _ := rfl
  rest c S X j hj := by fin_cases j <;> first | rfl | exact absurd rfl hj

def c_mp (A : Args) : Cell F A S256x128 .f32 where
  ref := A.mp
  get S := S.mp
  set S X := { S with mp := X }
  idx := 18
  here _ _ := rfl
  get_set _ _ := rfl
  rest c S X j hj := by fin_cases j <;> first | rfl | exact absurd rfl hj

def c_mq (A : Args) : Cell F A S256x128 .f32 where
  ref := A.mq
  get S := S.mq
  set S X := { S with mq := X }
  idx := 19
  here _ _ := rfl
  get_set _ _ := rfl
  rest c S X j hj := by fin_cases j <;> first | rfl | exact absurd rfl hj

def c_sp (A : Args) : Cell F A S256x128 .f32 where
  ref := A.sp
  get S := S.sp
  set S X := { S with sp := X }
  idx := 20
  here _ _ := rfl
  get_set _ _ := rfl
  rest c S X j hj := by fin_cases j <;> first | rfl | exact absurd rfl hj

def c_sq (A : Args) : Cell F A S256x128 .f32 where
  ref := A.sq
  get S := S.sq
  set S X := { S with sq := X }
  idx := 21
  here _ _ := rfl
  get_set _ _ := rfl
  rest c S X j hj := by fin_cases j <;> first | rfl | exact absurd rfl hj

def c_ta (A : Args) : Cell F A S256x128 .f32 where
  ref := A.ta
  get S := S.ta
  set S X := { S with ta := X }
  idx := 22
  here _ _ := rfl
  get_set _ _ := rfl
  rest c S X j hj := by fin_cases j <;> first | rfl | exact absurd rfl hj

def c_selp (A : Args) : Cell F A S256x128 .f32 where
  ref := A.selp
  get S := S.selp
  set S X := { S with selp := X }
  idx := 23
  here _ _ := rfl
  get_set _ _ := rfl
  rest c S X j hj := by fin_cases j <;> first | rfl | exact absurd rfl hj

def c_selq (A : Args) : Cell F A S256x128 .f32 where
  ref := A.selq
  get S := S.selq
  set S X := { S with selq := X }
  idx := 24
  here _ _ := rfl
  get_set _ _ := rfl
  rest c S X j hj := by fin_cases j <;> first | rfl | exact absurd rfl hj

end Cert.KernelIdeal.Hand
-- ==== Proof.Ideal.Body.lean ====
/-
  The kernel's body as a few named pieces: `initP` (quantise the tokens, set the statistics), `matP` (unpack and scale one
  chunk of four-bit weights, then both products), `row` (the online softmax on eight token rows of one chunk) and `finP`
  (join the lanes of 128 tokens and write their results). `Glue1`, `Glue2` and `Glue3` show that the printed body is these.
-/
module
public import proofs.«01_k».proof.Proof.Ideal.Mem

@[expose] public section
noncomputable section

namespace Cert.KernelIdeal.Hand

open Cert.KernelIdeal
open Idealize.ShloMosaic Idealize.SL.Sem

variable {F : FTy → Type} [FloatOps F] [Named F] [Facts]
open Facts₀ Facts

/-! ## One row group of the softmax -/

/-- The sublane group `r` of a `[256, 128]` statistic: its eight token rows. -/
abbrev grp (r : ℕ) (hr : r < 32) : Rect S256x128 :=
  Rect.unit (s := S256x128) ![8 * r, 0] S8x128.size (Rect.inb₂ (by show 8 * r + 8 ≤ 256; omega) (Nat.le_refl 128))

/-- Lane tile `j` of row group `r` of the `[256, 1280]` logit buffers. -/
abbrev tile (r : ℕ) (hr : r < 32) (j : ℕ) (hj : j < 10) : Rect S256x1280 :=
  Rect.unit (s := S256x1280) ![8 * r, 128 * j] S8x128.size
    (Rect.inb₂ (by show 8 * r + 8 ≤ 256; omega) (by show 128 * j + 128 ≤ 1280; omega))

/-- Load row group `r` of a statistic. -/
def ldG {e : EltTy} (m : Memref sig .tc .vmem S256x128 e) (r : ℕ) (hr : r < 32) : KProg F (Vec F S8x128 e) :=
  Prog.lift (.load m (grp r hr).toLoadRect (View.loadsAt_vmem h_S8x128))

/-- Load tile `j` of row group `r` of a logit buffer. -/
def ldT (m : Memref sig .tc .vmem S256x1280 .f32) (r : ℕ) (hr : r < 32) (j : ℕ) (hj : j < 10) : KProg F (Vec F S8x128 .f32) :=
  Prog.lift (.load m (tile r hr j hj).toLoadRect (View.loadsAt_vmem h_S8x128))

/-- Store row group `r` of a statistic whole (the program reads it first and drops what it read). -/
def stG (m : Memref sig .tc .vmem S256x128 .f32) (r : ℕ) (hr : r < 32) (v : FVec F S8x128 .f32) : KProg F PUnit := do
  let _ ← ldG m r hr
  Prog.lift (.store m (grp r hr) (shapeCast S8x128 v shapeCasts_S8x128_S8x128) Finset.univ
    (View.stores_vmem_bits_univ h_S8x128 rfl) (.inl rfl))

/-- Store row group `r` where the mask `k` is set. -/
def stM (m : Memref sig .tc .vmem S256x128 .f32) (r : ℕ) (hr : r < 32) (v : FVec F S8x128 .f32) (k : IVec S8x128 1) : KProg F PUnit := do
  let _ ← ldG m r hr
  Prog.lift (.store m (grp r hr) (shapeCast S8x128 v shapeCasts_S8x128_S8x128) (IVec.on (shapeCast S8x128 k shapeCasts_S8x128_S8x128))
    (View.stores_vmem_bits h_S8x128 rfl (fun h => nomatch h)) (.inr (fun _ => rfl)))

/-- The ten lane tiles of one row group of a logit buffer. -/
abbrev Tiles (F : FTy → Type) := Fin 10 → FVec F S8x128 .f32

def maxT (m : FVec F S8x128 .f32) (a : Tiles F) : FVec F S8x128 .f32 :=
  maximumf (maximumf (maximumf (maximumf (maximumf (maximumf (maximumf (maximumf (maximumf (maximumf m (a 0)) (a 1)) (a 2)) (a 3)) (a 4)) (a 5)) (a 6)) (a 7)) (a 8)) (a 9)

def sumT (a : Tiles F) : FVec F S8x128 .f32 :=
  addf (addf (addf (addf (addf (addf (addf (addf (addf (a 0) (a 1)) (a 2)) (a 3)) (a 4)) (a 5)) (a 6)) (a 7)) (a 8)) (a 9)

/-- Where the target's tile is tile `j` of chunk `c`. -/
def hitT (tg : IVec S8x128 32) (c : BitVec 32) (j : ℕ) : IVec S8x128 1 :=
  cmpi .eq (shrsi tg (broadcast S8x128 7#32)) (broadcast S8x128 (Scalar.addi (Scalar.muli c 10#32) (BitVec.ofNat 32 j)))

def aT (xl : FVec F S8x128 .f32) (u : Tiles F) : Tiles F := fun j => mulf (u j) xl
def bT (z : Tiles F) : Tiles F := fun j => mulf (z j) (broadcast S8x128 (Named.named κ "log2e" 0x3FB8AA3B#32))
def eT (m : FVec F S8x128 .f32) (a : Tiles F) : Tiles F := fun j => exp2 (subf (a j) m)
def dT (m : FVec F S8x128 .f32) (a b : Tiles F) : Tiles F := fun j => mulf (exp2 (subf (a j) m)) (subf (a j) (b j))

/-- Both masked stores of tile `j`. -/
def stHit (A : Args) (r : ℕ) (hr : r < 32) (tg : IVec S8x128 32) (c : BitVec 32) (j : Fin 10) (a b : Tiles F) : KProg F PUnit := do
  stM A.selp r hr (a j) (hitT tg c j.val)
  stM A.selq r hr (b j) (hitT tg c j.val)

/-- Row group `r` of the online softmax over chunk `c`. -/
def row (A : Args) (c : BitVec 32) (r : ℕ) (hr : r < 32) : KProg F PUnit := do
  let xl ← ldG A.xsl r hr
  let tg ← ldG A.tt r hr
  let u0 ← ldT A.u r hr 0 (by decide)
  let u1 ← ldT A.u r hr 1 (by decide)
  let u2 ← ldT A.u r hr 2 (by decide)
  let u3 ← ldT A.u r hr 3 (by decide)
  let u4 ← ldT A.u r hr 4 (by decide)
  let u5 ← ldT A.u r hr 5 (by decide)
  let u6 ← ldT A.u r hr 6 (by decide)
  let u7 ← ldT A.u r hr 7 (by decide)
  let u8 ← ldT A.u r hr 8 (by decide)
  let u9 ← ldT A.u r hr 9 (by decide)
  let z0 ← ldT A.z r hr 0 (by decide)
  let z1 ← ldT A.z r hr 1 (by decide)
  let z2 ← ldT A.z r hr 2 (by decide)
  let z3 ← ldT A.z r hr 3 (by decide)
  let z4 ← ldT A.z r hr 4 (by decide)
  let z5 ← ldT A.z r hr 5 (by decide)
  let z6 ← ldT A.z r hr 6 (by decide)
  let z7 ← ldT A.z r hr 7 (by decide)
  let z8 ← ldT A.z r hr 8 (by decide)
  let z9 ← ldT A.z r hr 9 (by decide)
  let mp0 ← ldG A.mp r hr
  let mq0 ← ldG A.mq r hr
  let a : Tiles F := aT xl ![u0, u1, u2, u3, u4, u5, u6, u7, u8, u9]
  let b : Tiles F := bT ![z0, z1, z2, z3, z4, z5, z6, z7, z8, z9]
  stHit A r hr tg c 0 a b
  stHit A r hr tg c 1 a b
  stHit A r hr tg c 2 a b
  stHit A r hr tg c 3 a b
  stHit A r hr tg c 4 a b
  stHit A r hr tg c 5 a b
  stHit A r hr tg c 6 a b
  stHit A r hr tg c 7 a b
  stHit A r hr tg c 8 a b
  stHit A r hr tg c 9 a b
  stG A.mp r hr (maxT mp0 a)
  stG A.mq r hr (maxT mq0 b)
  let s0 ← ldG A.sp r hr
  stG A.sp r hr (addf (mulf s0 (exp2 (subf mp0 (maxT mp0 a)))) (sumT (eT (maxT mp0 a) a)))
  let t0 ← ldG A.ta r hr
  stG A.ta r hr (addf (mulf t0 (exp2 (subf mp0 (maxT mp0 a)))) (sumT (dT (maxT mp0 a) a b)))
  let q0 ← ldG A.sq r hr
  stG A.sq r hr (addf (mulf q0 (exp2 (subf mq0 (maxT mq0 b)))) (sumT (eT (maxT mq0 b) b)))

/-- Row groups `r` to `r + n - 1`. -/
def rowsP (A : Args) (c : BitVec 32) : (n r : ℕ) → (h : r + n ≤ 32) → KProg F PUnit
  | 0, _, _ => .ret ⟨⟩
  | n + 1, r, h => (row A c r (by omega)).bind fun _ => rowsP A c n (r + 1) (by omega)

/-! ## One chunk's products -/

/-- Block `(g, i)` of the dequantised weights: group `g` of 128 inputs, column tile `i` of 256 classes. -/
abbrev wblk (g : Fin 8) (i : Fin 5) : Rect S1024x1280 :=
  Rect.unit (s := S1024x1280) ![128 * g.val, 256 * i.val] S128x256.size
    (Rect.inb₂ (by show 128 * g.val + 128 ≤ 1024; omega) (by show 256 * i.val + 256 ≤ 1280; omega))

theorem packed_wblk : ∀ (g : Fin 8) (i : Fin 5), (wblk g i).PackedRows (EltTy.packing .bf16) := by decide

/-- The rows of packed weights of column tile `i`. -/
abbrev wrow (i : Fin 5) : Rect S1280x512 :=
  Rect.unit (s := S1280x512) ![256 * i.val, 0] S256x512.size
    (Rect.inb₂ (by show 256 * i.val + 256 ≤ 1280; omega) (Nat.le_refl 512))

/-- The two nibbles of each packed byte, sign-extended, one above the other in the rows. -/
def nibV (w : IVec S256x512 8) : IVec S1024x256 16 :=
  bitcast S1024x256 16
    (ori
      (andi (shrsi (shli (extui 32 (transpose S512x256 [1, 0] w transposes_S256x512_p1_0_S512x256) natLt_8_32)
        (broadcast S512x256 28#32)) (broadcast S512x256 28#32)) (broadcast S512x256 65535#32))
      (shli (shrsi (shli (extui 32 (transpose S512x256 [1, 0] w transposes_S256x512_p1_0_S512x256) natLt_8_32)
        (broadcast S512x256 24#32)) (broadcast S512x256 28#32)) (broadcast S512x256 16#32)))
    bitcasts_S512x256_w32_S1024x256_w16

theorem slices_nib : ∀ g : Fin 8, S1024x256.Slices ![128 * g.val, 0] S128x256 := by decide
theorem slices_scale : ∀ (g : Fin 8) (i : Fin 5), S8x1280.Slices ![g.val, 256 * i.val] S1x256 := by decide

/-- Block `(g, i)`'s new contents. -/
def deqV (s : FVec F S8x1280 .f32) (w : IVec S256x512 8) (g : Fin 8) (i : Fin 5) : FVec F S128x256 .bf16 :=
  mulf (sitofp .bf16 (extractStridedSlice S128x256 ![128 * g.val, 0] (nibV w) (slices_nib g)))
    (broadcastTo S128x256 (extractStridedSlice S1x256 ![g.val, 256 * i.val] (truncf .bf16 s bitsLt_bf16_f32) (slices_scale g i))
      broadcasts_S1x256_S128x256)

def stW (A : Args) (g : Fin 8) (i : Fin 5) (v : FVec F S128x256 .bf16) : KProg F PUnit := do
  let _ : Vec F S128x256 .bf16 ← Prog.lift (.load A.wt (wblk g i).toLoadRect (View.loadsAt_vmem h_S128x256))
  Prog.lift (.store A.wt (wblk g i) (shapeCast S128x256 v shapeCasts_S128x256_S128x256) Finset.univ
    (View.stores_vmem h_S128x256 (A.wtW.storeExact_slice rfl _ (packed_wblk g i)) (fun _ => rfl)) (.inl rfl))

/-- Column tile `i` of the chunk, all eight groups. -/
def deqP (A : Args) (s : FVec F S8x1280 .f32) (i : Fin 5) : KProg F PUnit := do
  let w : Vec F S256x512 .i8 ← Prog.lift (.load A.wr (wrow i).toLoadRect (View.loadsAt_vmem h_S256x512))
  stW A 0 i (deqV s w 0 i)
  stW A 1 i (deqV s w 1 i)
  stW A 2 i (deqV s w 2 i)
  stW A 3 i (deqV s w 3 i)
  stW A 4 i (deqV s w 4 i)
  stW A 5 i (deqV s w 5 i)
  stW A 6 i (deqV s w 6 i)
  stW A 7 i (deqV s w 7 i)

def uV (codes : FVec F S256x1024 .fp8e4m3) (w : FVec F S1280x1024 .fp8e4m3) (ws : FVec F S1x1280 .f32) : FVec F S256x1280 .f32 :=
  mulf (matmul dot_S256x1024_S1280x1024_S256x1280_1_1_0_0_n_n none (shapeCast S256x1024 codes shapeCasts_S256x1024_S256x1024) w
      (constant S256x1280 .f32 0x00000000#32))
    (broadcastTo S256x1280 (shapeCast S1x1280 ws shapeCasts_S1x1280_S1x1280) broadcasts_S1x1280_S256x1280)

def zV (xr : FVec F S256x1024 .bf16) (wt : FVec F S1024x1280 .bf16) : FVec F S256x1280 .f32 :=
  matmul dot_S256x1024_S1024x1280_S256x1280_1_0_0_1_n_n none xr wt (constant S256x1280 .f32 0x00000000#32)

/-- Write a whole logit buffer. -/
def stU (m : Memref sig .tc .vmem S256x1280 .f32) (v : FVec F S256x1280 .f32) : KProg F PUnit := do
  let _ : Vec F S256x1280 .f32 ← Prog.lift (.load m (Rect.unit (s := S256x1280) ![0, 0] S256x1280.size inb_S256x1280_S256x1280_0_0).toLoadRect
    (View.loadsAt_vmem h_S256x1280))
  Prog.lift (.store m (Rect.unit (s := S256x1280) ![0, 0] S256x1280.size inb_S256x1280_S256x1280_0_0)
    (shapeCast S256x1280 v shapeCasts_S256x1280_S256x1280) Finset.univ (View.stores_vmem_bits_univ h_S256x1280 rfl) (.inl rfl))

/-- The chunk's weights unpacked and both products. -/
def matP (A : Args) : KProg F PUnit := do
  let s : Vec F S8x1280 .f32 ← Prog.lift (.load A.sr (Rect.unit (s := S8x1280) ![0, 0] S8x1280.size inb_S8x1280_S8x1280_0_0).toLoadRect
    (View.loadsAt_vmem h_S8x1280))
  deqP A (shapeCast S8x1280 s shapeCasts_S8x1280_S8x1280) 0
  deqP A (shapeCast S8x1280 s shapeCasts_S8x1280_S8x1280) 1
  deqP A (shapeCast S8x1280 s shapeCasts_S8x1280_S8x1280) 2
  deqP A (shapeCast S8x1280 s shapeCasts_S8x1280_S8x1280) 3
  deqP A (shapeCast S8x1280 s shapeCasts_S8x1280_S8x1280) 4
  let codes : Vec F S256x1024 .fp8e4m3 ← Prog.lift (.load A.codes
    (Rect.unit (s := S256x1024) ![0, 0] S256x1024.size inb_S256x1024_S256x1024_0_0).toLoadRect (View.loadsAt_vmem h_S256x1024))
  let w : Vec F S1280x1024 .fp8e4m3 ← Prog.lift (.load A.wp
    (Rect.unit (s := S1280x1024) ![0, 0] S1280x1024.size inb_S1280x1024_S1280x1024_0_0).toLoadRect (View.loadsAt_vmem h_S1280x1024))
  let ws : Vec F S1x1280 .f32 ← Prog.lift (.load A.ws
    (Rect.unit (s := S1x1280) ![0, 0] S1x1280.size inb_S1x1280_S1x1280_0_0).toLoadRect (View.loadsAt_vmem h_S1x1280))
  stU A.u (uV codes w ws)
  let xr : Vec F S256x1024 .bf16 ← Prog.lift (.load A.xr
    (Rect.unit (s := S256x1024) ![0, 0] S256x1024.size inb_S256x1024_S256x1024_0_0).toLoadRect (View.loadsAt_vmem h_S256x1024))
  let wt : Vec F S1024x1280 .bf16 ← Prog.lift (.load A.wt
    (Rect.unit (s := S1024x1280) ![0, 0] S1024x1280.size inb_S1024x1280_S1024x1280_0_0).toLoadRect (View.loadsAt_vmem h_S1024x1280))
  stU A.z (zV xr wt)

/-! ## The first point -/

/-- The tokens' absolute values' maxima over 448. -/
def topV (x : FVec F S256x1024 .bf16) : FVec F S256x1 .f32 :=
  mulf (shapeCast S256x1 (multiReduction .maximumf [1] S256
      (absf (extf .f32 (shapeCast S256x1024 x shapeCasts_S256x1024_S256x1024) bitsLt_bf16_f32)) 0xFF800000#32 reduces_S256x1024_S256 (.inl rfl) rfl)
      shapeCasts_S256_S256x1)
    (broadcast S256x1 (Scalar.ofBits .f32 0x3B124925#32))

/-- How many of the powers of two from `2 ^ (-126)` to `2 ^ 127` are at most `q`. -/
def expoV (q : FVec F S256x1 .f32) : IVec S256 32 :=
  multiReductionI .add [1] S256
    (select
      (ori
        (cmpf .olt (broadcastTo S256x256 q broadcasts_S256x1_S256x256)
          (bitcastToFloat .f32 (shli (minsi (addi (iota .tc S256x256 32 [1] iota_S256x256_d1_w32) (broadcast S256x256 1#32))
            (broadcast S256x256 255#32)) (broadcast S256x256 23#32))))
        (cmpi .eq (iota .tc S256x256 32 [1] iota_S256x256_d1_w32) (broadcast S256x256 255#32)))
      (broadcast S256x256 0#32) (broadcast S256x256 1#32))
    0#32 reduces_S256x256_S256 rfl

/-- The exponent of the scale: none of the powers, or the count less 126. -/
def eV (n : IVec S256 32) : IVec S256x128 32 :=
  select
    (cmpi .eq (broadcastTo S256x128 (shapeCast S256x1 (shapeCast S256x1 n shapeCasts_S256_S256x1) shapeCasts_S256x1_S256x1) broadcasts_S256x1_S256x128)
      (broadcast S256x128 0#32))
    (broadcast S256x128 0#32)
    (subi (broadcastTo S256x128 (shapeCast S256x1 (shapeCast S256x1 n shapeCasts_S256_S256x1) shapeCasts_S256x1_S256x1) broadcasts_S256x1_S256x128)
      (broadcast S256x128 126#32))

/-- `2 ^ e` by its bits. -/
def powV (e : IVec S256x128 32) : FVec F S256x128 .f32 :=
  bitcastToFloat .f32 (shli (addi e (broadcast S256x128 127#32)) (broadcast S256x128 23#32))

def negV (e : IVec S256x128 32) : IVec S256x128 32 := subi (broadcast S256x128 0#32) e

def codesV (x : FVec F S256x1024 .bf16) (inv : FVec F S256x128 .f32) : FVec F S256x1024 .fp8e4m3 :=
  truncf .fp8e4m3
    (minimumf (broadcast S256x1024 (Scalar.ofBits .f32 0x43E00000#32))
      (maximumf (broadcast S256x1024 (Scalar.ofBits .f32 0xC3E00000#32))
        (mulf (extf .f32 (shapeCast S256x1024 x shapeCasts_S256x1024_S256x1024) bitsLt_bf16_f32)
          (broadcastTo S256x1024 (extractStridedSlice S256x1 ![0, 0] inv slices_S256x128_o0_0_S256x1) broadcasts_S256x1_S256x1024))))
    bitsLt_fp8e4m3_f32

theorem slices_half : ∀ h : Fin 2, S256x128.Slices ![128 * h.val, 0] S128x128 := by decide

/-- Half `h` of the scales, along the lanes. -/
def scalesV (xs : FVec F S256x128 .f32) (h : Fin 2) : FVec F S1x128 .f32 :=
  extractStridedSlice S1x128 ![0, 0]
    (transpose S128x128 [1, 0] (extractStridedSlice S128x128 ![128 * h.val, 0] xs (slices_half h)) transposes_S128x128_p1_0_S128x128)
    slices_S128x128_o0_0_S1x128

/-- A row of 128 target indices down the sublanes, the same on every lane. -/
def tgtV (t : IVec S1x128 32) : IVec S128x128 32 :=
  transpose S128x128 [1, 0] (broadcastTo S128x128 (shapeCast S1x128 t shapeCasts_S1x128_S1x128) broadcasts_S1x128_S128x128)
    transposes_S128x128_p1_0_S128x128

/-- Row `h` of a `[2, 128]` buffer. -/
abbrev orow (h : Fin 2) : Rect S2x128 :=
  Rect.unit (s := S2x128) ![h.val, 0] S1x128.size (Rect.inb₂ (by show h.val + 1 ≤ 2; omega) (Nat.le_refl 128))

/-- Tokens `128 h` to `128 h + 127` of a statistic. -/
abbrev half (h : Fin 2) : Rect S256x128 :=
  Rect.unit (s := S256x128) ![128 * h.val, 0] S128x128.size (Rect.inb₂ (by show 128 * h.val + 128 ≤ 256; omega) (Nat.le_refl 128))

/-- Write a whole statistic. -/
def stS (m : Memref sig .tc .vmem S256x128 .f32) (v : FVec F S256x128 .f32) : KProg F PUnit := do
  let _ : Vec F S256x128 .f32 ← Prog.lift (.load m (Rect.unit (s := S256x128) ![0, 0] S256x128.size inb_S256x128_S256x128_0_0).toLoadRect
    (View.loadsAt_vmem h_S256x128))
  Prog.lift (.store m (Rect.unit (s := S256x128) ![0, 0] S256x128.size inb_S256x128_S256x128_0_0)
    (shapeCast S256x128 v shapeCasts_S256x128_S256x128) Finset.univ (View.stores_vmem_bits_univ h_S256x128 rfl) (.inl rfl))

/-- Write row `h` of a `[2, 128]` result. -/
def stO (m : Memref sig .tc .vmem S2x128 .f32) (h : Fin 2) (v : FVec F S1x128 .f32) : KProg F PUnit := do
  let _ : Vec F S1x128 .f32 ← Prog.lift (.load m (orow h).toLoadRect (View.loadsAt_vmem h_S1x128))
  Prog.lift (.store m (orow h) v Finset.univ (View.stores_vmem_bits_univ h_S1x128 rfl) (.inl rfl))

/-- Half `h` of the scales and of the targets. -/
def halfP (A : Args) (xs : FVec F S256x128 .f32) (h : Fin 2) : KProg F PUnit := do
  stO A.scales h (scalesV xs h)
  let t : Vec F S1x128 .i32 ← Prog.lift (.load A.tgt (orow h).toLoadRect (View.loadsAt_vmem h_S1x128))
  let _ : Vec F S128x128 .i32 ← Prog.lift (.load A.tt (half h).toLoadRect (View.loadsAt_vmem h_S128x128))
  Prog.lift (.store A.tt (half h) (shapeCast S128x128 (tgtV t) shapeCasts_S128x128_S128x128) Finset.univ
    (View.stores_vmem_bits_univ h_S128x128 rfl) (.inl rfl))

def initP (A : Args) : KProg F PUnit := do
  let xr : Vec F S256x1024 .bf16 ← Prog.lift (.load A.xrin
    (Rect.unit (s := S256x1024) ![0, 0] S256x1024.size inb_S256x1024_S256x1024_0_0).toLoadRect (View.loadsAt_vmem h_S256x1024))
  let _ : Vec F S256x1024 .bf16 ← Prog.lift (.load A.xr
    (Rect.unit (s := S256x1024) ![0, 0] S256x1024.size inb_S256x1024_S256x1024_0_0).toLoadRect (View.loadsAt_vmem h_S256x1024))
  let _ ← Prog.lift (.store A.xr (Rect.unit (s := S256x1024) ![0, 0] S256x1024.size inb_S256x1024_S256x1024_0_0)
    (shapeCast S256x1024 (shapeCast S256x1024 xr shapeCasts_S256x1024_S256x1024) shapeCasts_S256x1024_S256x1024) Finset.univ
    (View.stores_vmem h_S256x1024 (A.xrW.storeExact_slice rfl _ packedbf16_S256x1024_S256x1024_0_0) (fun _ => rfl)) (.inl rfl))
  let x : Vec F S256x1024 .bf16 ← Prog.lift (.load A.x
    (Rect.unit (s := S256x1024) ![0, 0] S256x1024.size inb_S256x1024_S256x1024_0_0).toLoadRect (View.loadsAt_vmem h_S256x1024))
  let e : IVec S256x128 32 := eV (expoV (topV x))
  stS A.xsl (mulf (powV e) (broadcast S256x128 (Named.named κ "log2e" 0x3FB8AA3B#32)))
  let _ : Vec F S256x1024 .fp8e4m3 ← Prog.lift (.load A.codes
    (Rect.unit (s := S256x1024) ![0, 0] S256x1024.size inb_S256x1024_S256x1024_0_0).toLoadRect (View.loadsAt_vmem h_S256x1024))
  let _ ← Prog.lift (.store A.codes (Rect.unit (s := S256x1024) ![0, 0] S256x1024.size inb_S256x1024_S256x1024_0_0)
    (codesV x (powV (negV e))) Finset.univ
    (View.stores_vmem h_S256x1024 (A.codesW.storeExact_slice rfl _ packedfp8e4m3_S256x1024_S256x1024_0_0) (fun _ => rfl)) (.inl rfl))
  halfP A (powV e) 0
  halfP A (powV e) 1
  stS A.mp (broadcast S256x128 (Scalar.ofBits .f32 0xFF61B1E6#32))
  stS A.mq (broadcast S256x128 (Scalar.ofBits .f32 0xFF61B1E6#32))
  stS A.sp (broadcast S256x128 (Scalar.ofBits .f32 0x00000000#32))
  stS A.sq (broadcast S256x128 (Scalar.ofBits .f32 0x00000000#32))
  stS A.ta (broadcast S256x128 (Scalar.ofBits .f32 0x00000000#32))

/-! ## The last point -/

def ldH {e : EltTy} (m : Memref sig .tc .vmem S256x128 e) (h : Fin 2) : KProg F (Vec F S128x128 e) :=
  Prog.lift (.load m (half h).toLoadRect (View.loadsAt_vmem h_S128x128))

def maxV (m : FVec F S128x128 .f32) : FVec F S128x1 .f32 :=
  shapeCast S128x1 (multiReduction .maximumf [1] S128 m 0xFF800000#32 reduces_S128x128_S128 (.inl rfl) rfl) shapeCasts_S128_S128x1

def addV (m : FVec F S128x128 .f32) : FVec F S128x1 .f32 :=
  shapeCast S128x1 (multiReduction .add [1] S128 m 0x00000000#32 reduces_S128x128_S128 (.inl rfl) rfl) shapeCasts_S128_S128x1

/-- The factor each lane's sums are rescaled by. -/
def facV (m : FVec F S128x128 .f32) (top : FVec F S128x1 .f32) : FVec F S128x128 .f32 :=
  exp2 (subf m (broadcastTo S128x128 top broadcasts_S128x1_S128x128))

def selV (tg : IVec S128x128 32) (s : FVec F S128x128 .f32) : FVec F S128x1 .f32 :=
  addV (select (cmpi .eq (iota .tc S128x128 32 [1] iota_S128x128_d1_w32) (andi tg (broadcast S128x128 127#32))) s
    (broadcast S128x128 (Scalar.ofBits .f32 0x00000000#32)))

def lseV (m s : FVec F S128x1 .f32) : FVec F S128x1 .f32 := addf m (mulf (log s) (broadcast S128x1 (Named.named κ "log2e" 0x3FB8AA3B#32)))

def outV (v : FVec F S128x1 .f32) : FVec F S1x128 .f32 :=
  extractStridedSlice S1x128 ![0, 0]
    (transpose S128x128 [1, 0]
      (broadcastTo S128x128 (shapeCast S128x1 (mulf v (broadcast S128x1 (Named.named κ "ln2" 0x3F317218#32))) shapeCasts_S128x1_S128x1)
        broadcasts_S128x1_S128x128) transposes_S128x128_p1_0_S128x128)
    slices_S128x128_o0_0_S1x128

def finP (A : Args) (h : Fin 2) : KProg F PUnit := do
  let tg ← ldH A.tt h
  let mp ← ldH A.mp h
  let mq ← ldH A.mq h
  let mp' ← ldH A.mp h
  let mq' ← ldH A.mq h
  let sp ← ldH A.sp h
  let sq ← ldH A.sq h
  let ta ← ldH A.ta h
  let selp ← ldH A.selp h
  let selq ← ldH A.selq h
  let s : FVec F S128x1 .f32 := addV (mulf sp (facV mp' (maxV mp)))
  let lp : FVec F S128x1 .f32 := lseV (maxV mp) s
  let lq : FVec F S128x1 .f32 := lseV (maxV mq) (addV (mulf sq (facV mq' (maxV mq))))
  stO A.lp h (outV (subf (selV tg selp) lp))
  stO A.lq h (outV (subf (selV tg selq) lq))
  stO A.kl h (outV (addf (subf (divf (addV (mulf ta (facV mp' (maxV mp)))) s) lp) lq))

/-! ## Gluing -/

theorem opc {E : Type → Type} {α β : Type} (e : E β) {k k' : β → Prog E α} (h : ∀ x, k x = k' x) : Prog.op e k = Prog.op e k' :=
  congrArg _ (funext h)

theorem bind_step {E : Type → Type} {α : Type} {p : Prog E α} (q : Prog E PUnit) {k : Prog E α} {R : PUnit → Prog E α}
    (h1 : p = q.bind fun _ => k) (h2 : k = R ⟨⟩) : p = q.bind R := by
  subst h2; exact h1

theorem rows_step {A : Args} {c : BitVec 32} {n r : ℕ} (h : r + (n + 1) ≤ 32) {α : Type} {p k : KProg F α} {R : PUnit → KProg F α}
    (h1 : p = (row A c r (by omega)).bind fun _ => k) (h2 : k = (rowsP A c n (r + 1) (by omega)).bind R) :
    p = (rowsP A c (n + 1) r h).bind R := by
  rw [h1, h2, rowsP]; exact (Prog.bind_assoc _ _ _).symm

theorem rows_end {A : Args} {c : BitVec 32} {r : ℕ} (h : r + 0 ≤ 32) {α : Type} {p : KProg F α} {R : PUnit → KProg F α}
    (h1 : p = R ⟨⟩) : p = (rowsP A c 0 r h).bind R := h1

theorem dpos {c : Prop} [Decidable c] (h : c) {α : Sort*} {a : c → α} {b : ¬ c → α} {R : α} (e : a h = R) : dite c a b = R := by
  rw [dif_pos h]; exact e

theorem dneg {c : Prop} [Decidable c] (h : ¬ c) {α : Sort*} {a : c → α} {b : ¬ c → α} {R : α} (e : b h = R) : dite c a b = R := by
  rw [dif_neg h]; exact e

/-- The condition of the middle points, as the kernel computes it. -/
def cond2 (i : grid0.Coords) : BitVec 1 :=
  Scalar.cmpi .ne (Scalar.extui (Scalar.andi (Scalar.cmpi .sgt (BitVec.ofNat 32 (i 0).val) 0#32) (Scalar.cmpi .slt (BitVec.ofNat 32 (i 0).val) 25#32)) : BitVec 32) 0#32

end Cert.KernelIdeal.Hand
-- ==== Proof.Ideal.Soft.lean ====
/-
  What the online softmax of one chunk does to the statistics, entry by entry: row group after row group, the entries of
  the rows done are `newMem`'s and the others are as they were (`mixM`), so after all 32 groups every entry is new.
-/
module
public import proofs.«01_k».proof.Proof.Ideal.Body
public import Idealize.ShloMosaic.Lib.Pipeline.Value
public import Idealize.ShloMosaic.Lib.ValueIdxCoords

@[expose] public section
noncomputable section

namespace Cert.KernelIdeal.Hand

open Cert.KernelIdeal
open Idealize.ShloMosaic Idealize.SL.Sem Idealize.ShloMosaic.ValueIdx

variable {F : FTy → Type} [FloatOps F] [Named F] [Facts]
open Facts₀ Facts

/-! ## One entry -/

/-- The running maximum of one entry with the ten tiles' logits. -/
def maxE (m : F .f32) (a : Fin 10 → F .f32) : F .f32 :=
  FloatOps.maximumf (FloatOps.maximumf (FloatOps.maximumf (FloatOps.maximumf (FloatOps.maximumf (FloatOps.maximumf (FloatOps.maximumf (FloatOps.maximumf (FloatOps.maximumf (FloatOps.maximumf m (a 0)) (a 1)) (a 2)) (a 3)) (a 4)) (a 5)) (a 6)) (a 7)) (a 8)) (a 9)

/-- The sum over the ten tiles. -/
def sumE (a : Fin 10 → F .f32) : F .f32 :=
  FloatOps.addf (FloatOps.addf (FloatOps.addf (FloatOps.addf (FloatOps.addf (FloatOps.addf (FloatOps.addf (FloatOps.addf (FloatOps.addf (a 0) (a 1)) (a 2)) (a 3)) (a 4)) (a 5)) (a 6)) (a 7)) (a 8)) (a 9)

/-- Whether the target `t` lies in tile `j` of chunk `c`. -/
def hitE (t c : BitVec 32) (j : ℕ) : BitVec 1 :=
  IntOp.cmpi .eq (IntOp.shrsi .vector t 7#32) (Scalar.addi (Scalar.muli c 10#32) (BitVec.ofNat 32 j))

/-- The tile's logit where the target's tile is among the ten, the old value elsewhere. -/
def selE (t c : BitVec 32) (a : Fin 10 → F .f32) (x : F .f32) : F .f32 :=
  if hitE t c 9 = 1 then a 9 else if hitE t c 8 = 1 then a 8 else if hitE t c 7 = 1 then a 7 else if hitE t c 6 = 1 then a 6 else
  if hitE t c 5 = 1 then a 5 else if hitE t c 4 = 1 then a 4 else if hitE t c 3 = 1 then a 3 else if hitE t c 2 = 1 then a 2 else
  if hitE t c 1 = 1 then a 1 else if hitE t c 0 = 1 then a 0 else x

/-- A running sum rescaled from the maximum `m` to `m'`, and the chunk's own `d` added. -/
def stepE (s m m' d : F .f32) : F .f32 := FloatOps.addf (FloatOps.mulf s (FloatOps.exp2 (FloatOps.subf m m'))) d

/-- The ten tiles of a token's logits on one lane. -/
def onLane (v : Vec F S256x1280 .f32) (y : S256x128.Idx) (j : Fin 10) : F .f32 :=
  v (ix2 (y 0) (⟨128 * j.val + (y 1).val, by have := (y 1).isLt; have : (y 1).val < 128 := this; omega⟩ : Fin 1280))

/-- The policy's logits, in units of `log 2`. -/
def aE (S : Mem F) (y : S256x128.Idx) (j : Fin 10) : F .f32 := FloatOps.mulf (onLane S.u y j) (S.xsl y)
/-- The reference model's logits, in units of `log 2`. -/
def bE (S : Mem F) (y : S256x128.Idx) (j : Fin 10) : F .f32 := FloatOps.mulf (onLane S.z y j) (Named.named κ "log2e" 0x3FB8AA3B#32)

/-- The statistics after chunk `c`, whose logits are in `S.u` and `S.z`. -/
def softM (c : BitVec 32) (S : Mem F) : Mem F := { S with
  mp := fun y => maxE (S.mp y) (aE S y)
  mq := fun y => maxE (S.mq y) (bE S y)
  sp := fun y => stepE (S.sp y) (S.mp y) (maxE (S.mp y) (aE S y))
    (sumE fun j => FloatOps.exp2 (FloatOps.subf (aE S y j) (maxE (S.mp y) (aE S y))))
  ta := fun y => stepE (S.ta y) (S.mp y) (maxE (S.mp y) (aE S y))
    (sumE fun j => FloatOps.mulf (FloatOps.exp2 (FloatOps.subf (aE S y j) (maxE (S.mp y) (aE S y)))) (FloatOps.subf (aE S y j) (bE S y j)))
  sq := fun y => stepE (S.sq y) (S.mq y) (maxE (S.mq y) (bE S y))
    (sumE fun j => FloatOps.exp2 (FloatOps.subf (bE S y j) (maxE (S.mq y) (bE S y))))
  selp := fun y => selE (S.tt y) c (aE S y) (S.selp y)
  selq := fun y => selE (S.tt y) c (bE S y) (S.selq y) }

/-! ## Rows done and rows to come -/

/-- `N` on the rows of the first `r` groups, `X` on the others. -/
def mixR {α : Type} (r : ℕ) (X N : S256x128.Idx → α) : S256x128.Idx → α := fun y => if (y 0).val < 8 * r then N y else X y

theorem emb_grp (r : ℕ) (hr : r < 32) (x : S8x128.Idx) : ((grp r hr).emb x 0).val = 8 * r + (x 0).val := by
  rw [Rect.emb_apply]; show 8 * r + 1 * _ = _; omega

theorem lt_grp (r : ℕ) (hr : r < 32) (x : S8x128.Idx) : ¬ ((grp r hr).emb x 0).val < 8 * r := by
  rw [emb_grp]; omega

/-- A row group stored whole moves it from `X` to `N`. -/
theorem put_mixR {α : Type} (r : ℕ) (hr : r < 32) (X N : S256x128.Idx → α) (w : S8x128.Idx → α)
    (h : ∀ x, w x = N ((grp r hr).emb x)) : put (grp r hr) (mixR r X N) w Finset.univ = mixR (r + 1) X N := by
  funext y
  by_cases hy : ∃ x, (grp r hr).emb x = y
  · obtain ⟨x, rfl⟩ := hy
    rw [put_emb, if_pos (Finset.mem_univ _), h]
    unfold mixR
    rw [if_pos]
    have : (x 0).val < 8 := (x 0).isLt
    rw [emb_grp]; omega
  · rw [put_off _ _ _ _ (fun x hx => hy ⟨x, hx⟩)]
    unfold mixR
    by_cases h1 : (y 0).val < 8 * r
    · rw [if_pos h1, if_pos (by omega)]
    · rw [if_neg h1, if_neg]
      intro h2
      apply hy
      refine ⟨ix2 (⟨(y 0).val - 8 * r, by omega⟩ : Fin 8) (y 1), ?_⟩
      funext a
      apply Fin.ext
      rw [Rect.emb_apply]
      match a with
      | 0 => show 8 * r + 1 * ((y 0).val - 8 * r) = (y 0).val; omega
      | 1 => show 0 + 1 * (y 1).val = (y 1).val; omega

/-- What a masked store of a row group does to an entry of the group. -/
theorem put_on (r : ℕ) (hr : r < 32) {α : Type} (X : S256x128.Idx → α) (w : S8x128.Idx → α) (k : IVec S8x128 1) (x : S8x128.Idx) :
    put (grp r hr) X w (IVec.on k) ((grp r hr).emb x) = if k x = 1 then w x else X ((grp r hr).emb x) := by
  rw [put_emb]; simp [IVec.on]

/-- The statistics with the first `r` row groups done. -/
def mixM (c : BitVec 32) (r : ℕ) (S : Mem F) : Mem F := { S with
  mp := mixR r S.mp (softM c S).mp
  mq := mixR r S.mq (softM c S).mq
  sp := mixR r S.sp (softM c S).sp
  ta := mixR r S.ta (softM c S).ta
  sq := mixR r S.sq (softM c S).sq
  selp := mixR r S.selp (softM c S).selp
  selq := mixR r S.selq (softM c S).selq }

theorem mixM_zero (c : BitVec 32) (S : Mem F) : mixM c 0 S = S := by
  have h : ∀ {α : Type} (X N : S256x128.Idx → α), mixR 0 X N = X := fun X N => by funext y; simp [mixR]
  simp only [mixM, h]

theorem mixM_all (c : BitVec 32) (S : Mem F) : mixM c 32 S = softM c S := by
  have h : ∀ {α : Type} (X N : S256x128.Idx → α), mixR 32 X N = N := fun X N => by
    funext y; have : (y 0).val < 256 := (y 0).isLt; simp only [mixR]; rw [if_pos (by omega)]
  simp only [mixM, h]; rfl

/-! ## One row group -/

/-- Ten masked stores of the tiles of a row group. -/
def putHits (r : ℕ) (hr : r < 32) (tg : IVec S8x128 32) (c : BitVec 32) (a : Tiles F) (X : S256x128.Idx → F .f32) : S256x128.Idx → F .f32 :=
  let p (j : Fin 10) (X : S256x128.Idx → F .f32) : S256x128.Idx → F .f32 :=
    put (grp r hr) X (shapeCast S8x128 (a j) shapeCasts_S8x128_S8x128) (IVec.on (shapeCast S8x128 (hitT tg c j.val) shapeCasts_S8x128_S8x128))
  p 9 (p 8 (p 7 (p 6 (p 5 (p 4 (p 3 (p 2 (p 1 (p 0 X)))))))))

/-- The contents after row group `r` of chunk `c`, as the program makes them. -/
def rowM (c : BitVec 32) (r : ℕ) (hr : r < 32) (S : Mem F) : Mem F :=
  let ld {α : Type} (X : S256x128.Idx → α) : S8x128.Idx → α := fun x => X ((grp r hr).toLoadRect.idx x)
  let tl (X : S256x1280.Idx → F .f32) (j : ℕ) (hj : j < 10) : S8x128.Idx → F .f32 := fun x => X ((tile r hr j hj).toLoadRect.idx x)
  let tls (X : S256x1280.Idx → F .f32) : Tiles F := ![tl X 0 (by decide), tl X 1 (by decide), tl X 2 (by decide), tl X 3 (by decide),
    tl X 4 (by decide), tl X 5 (by decide), tl X 6 (by decide), tl X 7 (by decide), tl X 8 (by decide), tl X 9 (by decide)]
  let st (X : S256x128.Idx → F .f32) (v : FVec F S8x128 .f32) : S256x128.Idx → F .f32 :=
    put (grp r hr) X (shapeCast S8x128 v shapeCasts_S8x128_S8x128) Finset.univ
  let a : Tiles F := aT (ld S.xsl) (tls S.u)
  let b : Tiles F := bT (tls S.z)
  let mp' := maxT (ld S.mp) a
  let mq' := maxT (ld S.mq) b
  { S with
    selp := putHits r hr (ld S.tt) c a S.selp
    selq := putHits r hr (ld S.tt) c b S.selq
    mp := st S.mp mp'
    mq := st S.mq mq'
    sp := st S.sp (addf (mulf (ld S.sp) (exp2 (subf (ld S.mp) mp'))) (sumT (eT mp' a)))
    ta := st S.ta (addf (mulf (ld S.ta) (exp2 (subf (ld S.mp) mp'))) (sumT (dT mp' a b)))
    sq := st S.sq (addf (mulf (ld S.sq) (exp2 (subf (ld S.mq) mq'))) (sumT (eT mq' b))) }

theorem ldG_runs {A : Args} {α : Type} {e : EltTy} (L : Cell F A S256x128 e) (r : ℕ) (hr : r < 32) {k : Vec F S8x128 e → KProg F α} {S S' : Mem F}
    {v : α} (h : Runs A (k fun x => L.get S ((grp r hr).toLoadRect.idx x)) S v S') : Runs A ((ldG L.ref r hr).bind k) S v S' :=
  Runs.load L h

theorem ldT_runs {A : Args} {α : Type} (L : Cell F A S256x1280 .f32) (r : ℕ) (hr : r < 32) (j : ℕ) (hj : j < 10)
    {k : Vec F S8x128 .f32 → KProg F α} {S S' : Mem F}
    {v : α} (h : Runs A (k fun x => L.get S ((tile r hr j hj).toLoadRect.idx x)) S v S') : Runs A ((ldT L.ref r hr j hj).bind k) S v S' :=
  Runs.load L h

theorem stG_runs {A : Args} {α : Type} (L : Cell F A S256x128 .f32) (r : ℕ) (hr : r < 32) (w : FVec F S8x128 .f32)
    {k : PUnit → KProg F α} {S S' : Mem F} {v : α}
    (h : Runs A (k ⟨⟩) (L.set S (put (grp r hr) (L.get S) (shapeCast S8x128 w shapeCasts_S8x128_S8x128) Finset.univ)) v S') :
    Runs A ((stG L.ref r hr w).bind k) S v S' :=
  Runs.load L (Runs.store L h)

theorem stG_last {A : Args} (L : Cell F A S256x128 .f32) (r : ℕ) (hr : r < 32) (w : FVec F S8x128 .f32) (S : Mem F) :
    Runs A (stG L.ref r hr w) S ⟨⟩ (L.set S (put (grp r hr) (L.get S) (shapeCast S8x128 w shapeCasts_S8x128_S8x128) Finset.univ)) :=
  Runs.load L (Runs.store L (Runs.ret _ _))

/-- The statistics replaced, everything else as in `S`. -/
def withRow (S : Mem F) (selp selq mp mq sp ta sq : Vec F S256x128 .f32) : Mem F :=
  { S with selp := selp, selq := selq, mp := mp, mq := mq, sp := sp, ta := ta, sq := sq }

theorem stHit_runs {A : Args} {α : Type} (r : ℕ) (hr : r < 32) (tg : IVec S8x128 32) (c : BitVec 32) (j : Fin 10) (a b : Tiles F)
    {k : PUnit → KProg F α} {S S' : Mem F} {selp selq mp mq sp ta sq : Vec F S256x128 .f32} {v : α}
    (h : Runs A (k ⟨⟩) (withRow S
      (put (grp r hr) selp (shapeCast S8x128 (a j) shapeCasts_S8x128_S8x128) (IVec.on (shapeCast S8x128 (hitT tg c j.val) shapeCasts_S8x128_S8x128)))
      (put (grp r hr) selq (shapeCast S8x128 (b j) shapeCasts_S8x128_S8x128) (IVec.on (shapeCast S8x128 (hitT tg c j.val) shapeCasts_S8x128_S8x128)))
      mp mq sp ta sq) v S') :
    Runs A ((stHit A r hr tg c j a b).bind k) (withRow S selp selq mp mq sp ta sq) v S' :=
  Runs.load (c_selp A) (Runs.store (c_selp A) (Runs.load (c_selq A) (Runs.store (c_selq A) h)))

/-- The last part of a row group: the five statistics' stores. -/
def tailP (A : Args) (r : ℕ) (hr : r < 32) (a b : Tiles F) (mp0 mq0 : FVec F S8x128 .f32) : KProg F PUnit := do
  stG A.mp r hr (maxT mp0 a)
  stG A.mq r hr (maxT mq0 b)
  let s0 ← ldG A.sp r hr
  stG A.sp r hr (addf (mulf s0 (exp2 (subf mp0 (maxT mp0 a)))) (sumT (eT (maxT mp0 a) a)))
  let t0 ← ldG A.ta r hr
  stG A.ta r hr (addf (mulf t0 (exp2 (subf mp0 (maxT mp0 a)))) (sumT (dT (maxT mp0 a) a b)))
  let q0 ← ldG A.sq r hr
  stG A.sq r hr (addf (mulf q0 (exp2 (subf mq0 (maxT mq0 b)))) (sumT (eT (maxT mq0 b) b)))

/-- Row group `r` of a statistic. -/
def ldX {α : Type} (r : ℕ) (hr : r < 32) (X : S256x128.Idx → α) : S8x128.Idx → α := fun x => X ((grp r hr).toLoadRect.idx x)
/-- A statistic with row group `r` stored. -/
def stX (r : ℕ) (hr : r < 32) (X : S256x128.Idx → F .f32) (v : FVec F S8x128 .f32) : S256x128.Idx → F .f32 :=
  put (grp r hr) X (shapeCast S8x128 v shapeCasts_S8x128_S8x128) Finset.univ

theorem tail_runs (A : Args) (r : ℕ) (hr : r < 32) (a b : Tiles F) (mp0 mq0 : FVec F S8x128 .f32)
    (S : Mem F) (selp selq mp mq sp ta sq : Vec F S256x128 .f32) :
    Runs A (tailP A r hr a b mp0 mq0) (withRow S selp selq mp mq sp ta sq) ⟨⟩ (withRow S selp selq
      (stX r hr mp (maxT mp0 a)) (stX r hr mq (maxT mq0 b))
      (stX r hr sp (addf (mulf (ldX r hr sp) (exp2 (subf mp0 (maxT mp0 a)))) (sumT (eT (maxT mp0 a) a))))
      (stX r hr ta (addf (mulf (ldX r hr ta) (exp2 (subf mp0 (maxT mp0 a)))) (sumT (dT (maxT mp0 a) a b))))
      (stX r hr sq (addf (mulf (ldX r hr sq) (exp2 (subf mq0 (maxT mq0 b)))) (sumT (eT (maxT mq0 b) b))))) := by
  have e1 (X : Vec F S256x128 .f32) : (c_mp A).set (withRow S selp selq mp mq sp ta sq) X = withRow S selp selq X mq sp ta sq := rfl
  have e2 (m X : Vec F S256x128 .f32) : (c_mq A).set (withRow S selp selq m mq sp ta sq) X = withRow S selp selq m X sp ta sq := rfl
  have e3 (m m' X : Vec F S256x128 .f32) : (c_sp A).set (withRow S selp selq m m' sp ta sq) X = withRow S selp selq m m' X ta sq := rfl
  have e4 (m m' s X : Vec F S256x128 .f32) : (c_ta A).set (withRow S selp selq m m' s ta sq) X = withRow S selp selq m m' s X sq := rfl
  have e5 (m m' s t X : Vec F S256x128 .f32) : (c_sq A).set (withRow S selp selq m m' s t sq) X = withRow S selp selq m m' s t X := rfl
  unfold tailP
  refine stG_runs (c_mp A) r hr _ ?_
  rw [e1]
  refine stG_runs (c_mq A) r hr _ ?_
  rw [e2]
  refine ldG_runs (c_sp A) r hr ?_
  refine stG_runs (c_sp A) r hr _ ?_
  rw [e3]
  refine ldG_runs (c_ta A) r hr ?_
  refine stG_runs (c_ta A) r hr _ ?_
  rw [e4]
  refine ldG_runs (c_sq A) r hr ?_
  refine Runs.of_eq rfl (stG_last (c_sq A) r hr _ _) ?_
  rw [e5]
  rfl

theorem row_runs (A : Args) (c : BitVec 32) (r : ℕ) (hr : r < 32) (S : Mem F) : Runs A (row A c r hr) S ⟨⟩ (rowM c r hr S) := by
  unfold row
  refine ldG_runs (c_xsl A) r hr ?_
  refine ldG_runs (c_tt A) r hr ?_
  iterate 10 refine ldT_runs (c_u A) r hr _ _ ?_
  iterate 10 refine ldT_runs (c_z A) r hr _ _ ?_
  refine ldG_runs (c_mp A) r hr ?_
  refine ldG_runs (c_mq A) r hr ?_
  refine Runs.of_eq rfl (S := withRow S S.selp S.selq S.mp S.mq S.sp S.ta S.sq) ?_ rfl
  iterate 10 refine stHit_runs r hr _ c _ _ _ ?_
  exact tail_runs A r hr _ _ _ _ S _ _ S.mp S.mq S.sp S.ta S.sq

theorem onLane_emb (v : Vec F S256x1280 .f32) (r : ℕ) (hr : r < 32) (x : S8x128.Idx) (j : ℕ) (hj : j < 10) :
    v ((tile r hr j hj).toLoadRect.idx x) = onLane v ((grp r hr).emb x) ⟨j, hj⟩ := by
  unfold onLane
  congr 1
  funext a
  apply Fin.ext
  match a with
  | 0 => rfl
  | 1 => show 128 * j + 1 * (x 1).val = 128 * j + (0 + 1 * (x 1).val); omega

theorem tiles_emb (v : Vec F S256x1280 .f32) (r : ℕ) (hr : r < 32) (x : S8x128.Idx) (j : Fin 10) :
    (![fun x => v ((tile r hr 0 (by decide)).toLoadRect.idx x), fun x => v ((tile r hr 1 (by decide)).toLoadRect.idx x),
      fun x => v ((tile r hr 2 (by decide)).toLoadRect.idx x), fun x => v ((tile r hr 3 (by decide)).toLoadRect.idx x),
      fun x => v ((tile r hr 4 (by decide)).toLoadRect.idx x), fun x => v ((tile r hr 5 (by decide)).toLoadRect.idx x),
      fun x => v ((tile r hr 6 (by decide)).toLoadRect.idx x), fun x => v ((tile r hr 7 (by decide)).toLoadRect.idx x),
      fun x => v ((tile r hr 8 (by decide)).toLoadRect.idx x), fun x => v ((tile r hr 9 (by decide)).toLoadRect.idx x)] : Tiles F) j x
      = onLane v ((grp r hr).emb x) j := by
  fin_cases j <;> exact onLane_emb v r hr x _ _

theorem putHits_mix (r : ℕ) (hr : r < 32) (tg : IVec S8x128 32) (c : BitVec 32) (a : Tiles F) (X N : S256x128.Idx → F .f32)
    (h : ∀ x, N ((grp r hr).emb x) = selE (tg x) c (fun j => a j x) (X ((grp r hr).emb x))) :
    putHits r hr tg c a (mixR r X N) = mixR (r + 1) X N := by
  funext y
  by_cases hy : ∃ x, (grp r hr).emb x = y
  · obtain ⟨x, rfl⟩ := hy
    have hx : (x 0).val < 8 := (x 0).isLt
    unfold putHits
    simp only [shapeCast_self, put_on]
    unfold mixR
    rw [if_neg (lt_grp r hr x), if_pos (show ((grp r hr).emb x 0).val < 8 * (r + 1) by rw [emb_grp]; omega), h]
    rfl
  · unfold putHits
    simp only [put_off _ _ _ _ (fun x hx => hy ⟨x, hx⟩)]
    have e := congrFun (put_mixR r hr X N (fun x => N ((grp r hr).emb x)) fun _ => rfl) y
    rw [put_off _ _ _ _ (fun x hx => hy ⟨x, hx⟩)] at e
    exact e

theorem mixR_emb {α : Type} (r : ℕ) (hr : r < 32) (X N : S256x128.Idx → α) (x : S8x128.Idx) :
    mixR r X N ((grp r hr).toLoadRect.idx x) = X ((grp r hr).emb x) := if_neg (lt_grp r hr x)

theorem step_at {M s m : FVec F S8x128 .f32} {d : Tiles F} (M₀ s₀ m₀ : F .f32) (d₀ : Fin 10 → F .f32) (x : S8x128.Idx)
    (hM : M x = M₀) (hs : s x = s₀) (hm : m x = m₀) (hd : ∀ j, d j x = d₀ j) :
    addf (mulf s (exp2 (subf m M))) (sumT d) x = stepE s₀ m₀ M₀ (sumE d₀) := by
  subst hM hs hm
  rw [← funext hd]; rfl

theorem row_mix (c : BitVec 32) (r : ℕ) (hr : r < 32) (S : Mem F) : rowM c r hr (mixM c r S) = mixM c (r + 1) S := by
  have ea (x : S8x128.Idx) (j : Fin 10) : aT (fun x => S.xsl ((grp r hr).toLoadRect.idx x))
      ![fun x => S.u ((tile r hr 0 (by decide)).toLoadRect.idx x), fun x => S.u ((tile r hr 1 (by decide)).toLoadRect.idx x),
      fun x => S.u ((tile r hr 2 (by decide)).toLoadRect.idx x), fun x => S.u ((tile r hr 3 (by decide)).toLoadRect.idx x),
      fun x => S.u ((tile r hr 4 (by decide)).toLoadRect.idx x), fun x => S.u ((tile r hr 5 (by decide)).toLoadRect.idx x),
      fun x => S.u ((tile r hr 6 (by decide)).toLoadRect.idx x), fun x => S.u ((tile r hr 7 (by decide)).toLoadRect.idx x),
      fun x => S.u ((tile r hr 8 (by decide)).toLoadRect.idx x), fun x => S.u ((tile r hr 9 (by decide)).toLoadRect.idx x)] j x
      = aE S ((grp r hr).emb x) j := congrArg (FloatOps.mulf · _) (tiles_emb S.u r hr x j)
  have eb (x : S8x128.Idx) (j : Fin 10) : bT
      ![fun x => S.z ((tile r hr 0 (by decide)).toLoadRect.idx x), fun x => S.z ((tile r hr 1 (by decide)).toLoadRect.idx x),
      fun x => S.z ((tile r hr 2 (by decide)).toLoadRect.idx x), fun x => S.z ((tile r hr 3 (by decide)).toLoadRect.idx x),
      fun x => S.z ((tile r hr 4 (by decide)).toLoadRect.idx x), fun x => S.z ((tile r hr 5 (by decide)).toLoadRect.idx x),
      fun x => S.z ((tile r hr 6 (by decide)).toLoadRect.idx x), fun x => S.z ((tile r hr 7 (by decide)).toLoadRect.idx x),
      fun x => S.z ((tile r hr 8 (by decide)).toLoadRect.idx x), fun x => S.z ((tile r hr 9 (by decide)).toLoadRect.idx x)] j x
      = bE S ((grp r hr).emb x) j := congrArg (FloatOps.mulf · _) (tiles_emb S.z r hr x j)
  have em (m : S256x128.Idx → F .f32) (a : Tiles F) (x : S8x128.Idx) (X : S256x128.Idx → F .f32) (e : Fin 10 → F .f32) (h : ∀ j, a j x = e j) :
      maxT (fun x => mixR r m X ((grp r hr).toLoadRect.idx x)) a x = maxE (m ((grp r hr).emb x)) e := by
    rw [← funext h]; unfold maxE; rw [← mixR_emb r hr m X x]; rfl
  unfold rowM mixM
  dsimp only
  congr 1
  · refine put_mixR r hr _ _ _ fun x => ?_
    rw [shapeCast_self]
    exact em _ _ x _ _ (ea x)
  · refine put_mixR r hr _ _ _ fun x => ?_
    rw [shapeCast_self]
    exact em _ _ x _ _ (eb x)
  · refine put_mixR r hr _ _ _ fun x => ?_
    rw [shapeCast_self]
    refine step_at _ _ _ _ x (em _ _ x _ _ (ea x)) (mixR_emb r hr _ _ x) (mixR_emb r hr _ _ x) fun j => ?_
    exact congrArg FloatOps.exp2 (congrArg₂ FloatOps.subf (ea x j) (em _ _ x _ _ (ea x)))
  · refine put_mixR r hr _ _ _ fun x => ?_
    rw [shapeCast_self]
    refine step_at _ _ _ _ x (em _ _ x _ _ (eb x)) (mixR_emb r hr _ _ x) (mixR_emb r hr _ _ x) fun j => ?_
    exact congrArg FloatOps.exp2 (congrArg₂ FloatOps.subf (eb x j) (em _ _ x _ _ (eb x)))
  · refine put_mixR r hr _ _ _ fun x => ?_
    rw [shapeCast_self]
    refine step_at _ _ _ _ x (em _ _ x _ _ (ea x)) (mixR_emb r hr _ _ x) (mixR_emb r hr _ _ x) fun j => ?_
    exact congrArg₂ FloatOps.mulf (congrArg FloatOps.exp2 (congrArg₂ FloatOps.subf (ea x j) (em _ _ x _ _ (ea x)))) (congrArg₂ FloatOps.subf (ea x j) (eb x j))
  · exact putHits_mix r hr _ c _ _ _ fun x => congrArg (selE _ c · _) (funext fun j => (ea x j).symm)
  · exact putHits_mix r hr _ c _ _ _ fun x => congrArg (selE _ c · _) (funext fun j => (eb x j).symm)

theorem rows_runs (A : Args) (c : BitVec 32) (S : Mem F) : ∀ (n r : ℕ) (h : r + n ≤ 32),
    Runs A (rowsP A c n r h) (mixM c r S) ⟨⟩ (mixM c (r + n) S)
  | 0, _, _ => Runs.ret _ _
  | n + 1, r, h => by
    unfold rowsP
    refine Runs.bind (Runs.of_eq rfl (row_runs A c r (by omega) _) (row_mix c r (by omega) S)) ?_
    have e : r + (n + 1) = r + 1 + n := by omega
    rw [e]; exact rows_runs A c S n (r + 1) (by omega)

/-- The online softmax of one chunk, all 32 row groups. -/
theorem soft_runs (A : Args) (c : BitVec 32) (S : Mem F) : Runs A (rowsP A c 32 0 (by decide)) S ⟨⟩ (softM c S) := by
  have h := rows_runs A c S 32 0 (by decide)
  rw [mixM_zero] at h
  exact Runs.of_eq rfl h (mixM_all c S)

end Cert.KernelIdeal.Hand
-- ==== Proof.Ideal.Steps.lean ====
/-
  What the other pieces of the body do to the contents: the first point's quantisation, a chunk's dequantisation and
  products, and the last point's joining of the lanes.
-/
module
public import proofs.«01_k».proof.Proof.Ideal.Soft

@[expose] public section
noncomputable section

namespace Cert.KernelIdeal.Hand

open Cert.KernelIdeal
open Idealize.ShloMosaic Idealize.SL.Sem Idealize.ShloMosaic.ValueIdx

variable {F : FTy → Type} [FloatOps F] [Named F] [Facts]
open Facts₀ Facts

/-! ## Whole buffers -/

theorem whole_idx {n0 n1 : ℕ} (h : ∀ a, (![0, 0] : Fin 2 → ℕ) a + (⟨2, ![n0, n1]⟩ : Shape).size a ≤ (⟨2, ![n0, n1]⟩ : Shape).size a)
    (x : (⟨2, ![n0, n1]⟩ : Shape).Idx) :
    (Rect.unit (s := ⟨2, ![n0, n1]⟩) ![0, 0] (⟨2, ![n0, n1]⟩ : Shape).size h).toLoadRect.idx x = x := by
  funext a
  apply Fin.ext
  match a with
  | 0 => show 0 + 1 * (x 0).val = (x 0).val; omega
  | 1 => show 0 + 1 * (x 1).val = (x 1).val; omega

theorem put_whole {n0 n1 : ℕ} {α : Type} (h : ∀ a, (![0, 0] : Fin 2 → ℕ) a + (⟨2, ![n0, n1]⟩ : Shape).size a ≤ (⟨2, ![n0, n1]⟩ : Shape).size a)
    (X w : (⟨2, ![n0, n1]⟩ : Shape).Idx → α) :
    put (Rect.unit (s := ⟨2, ![n0, n1]⟩) ![0, 0] (⟨2, ![n0, n1]⟩ : Shape).size h) X w Finset.univ = w := by
  funext y
  have e := put_emb (Rect.unit (s := ⟨2, ![n0, n1]⟩) ![0, 0] (⟨2, ![n0, n1]⟩ : Shape).size h) X w Finset.univ y
  rw [if_pos (Finset.mem_univ _)] at e
  exact (congrArg _ (whole_idx h y).symm).trans e

theorem ldW_runs {A : Args} {α : Type} {n0 n1 : ℕ} {e : EltTy} (L : Cell F A ⟨2, ![n0, n1]⟩ e)
    {h : ∀ a, (![0, 0] : Fin 2 → ℕ) a + (⟨2, ![n0, n1]⟩ : Shape).size a ≤ (⟨2, ![n0, n1]⟩ : Shape).size a}
    {hl : L.ref.view.LoadsAt (Rect.unit (s := ⟨2, ![n0, n1]⟩) ![0, 0] (⟨2, ![n0, n1]⟩ : Shape).size h).toLoadRect}
    {k : Vec F ⟨2, ![n0, n1]⟩ e → KProg F α} {S S' : Mem F} {v : α} (hk : Runs A (k (L.get S)) S v S') :
    Runs A (.op (.load L.ref (Rect.unit (s := ⟨2, ![n0, n1]⟩) ![0, 0] (⟨2, ![n0, n1]⟩ : Shape).size h).toLoadRect hl) k) S v S' := by
  refine Runs.load L ?_
  have e : (fun x => L.get S ((Rect.unit (s := ⟨2, ![n0, n1]⟩) ![0, 0] (⟨2, ![n0, n1]⟩ : Shape).size h).toLoadRect.idx x)) = L.get S :=
    funext fun x => congrArg _ (whole_idx h x)
  rw [e]; exact hk

theorem stW_runs' {A : Args} {α : Type} {n0 n1 : ℕ} {e : EltTy} (L : Cell F A ⟨2, ![n0, n1]⟩ e)
    {h : ∀ a, (![0, 0] : Fin 2 → ℕ) a + (⟨2, ![n0, n1]⟩ : Shape).size a ≤ (⟨2, ![n0, n1]⟩ : Shape).size a} {w : Vec F ⟨2, ![n0, n1]⟩ e}
    {hx : (L.ref.access (Rect.unit (s := ⟨2, ![n0, n1]⟩) ![0, 0] (⟨2, ![n0, n1]⟩ : Shape).size h)).Stores Finset.univ}
    {hm : (Finset.univ : Finset (⟨2, ![n0, n1]⟩ : Shape).Idx) = Finset.univ ∨
      ∀ a, (Rect.unit (s := ⟨2, ![n0, n1]⟩) ![0, 0] (⟨2, ![n0, n1]⟩ : Shape).size h).stride a = 1}
    {k : PUnit → KProg F α} {S S' : Mem F} {v : α} (hk : Runs A (k ⟨⟩) (L.set S w) v S') :
    Runs A (.op (.store L.ref (Rect.unit (s := ⟨2, ![n0, n1]⟩) ![0, 0] (⟨2, ![n0, n1]⟩ : Shape).size h) w Finset.univ hx hm) k) S v S' := by
  refine Runs.store L ?_
  rw [put_whole]; exact hk

theorem stS_runs {A : Args} {α : Type} (L : Cell F A S256x128 .f32) (w : FVec F S256x128 .f32)
    {k : PUnit → KProg F α} {S S' : Mem F} {v : α} (hk : Runs A (k ⟨⟩) (L.set S w) v S') : Runs A ((stS L.ref w).bind k) S v S' := by
  refine Runs.load L (stW_runs' L ?_)
  rw [shapeCast_self]; exact hk

theorem stU_runs {A : Args} {α : Type} (L : Cell F A S256x1280 .f32) (w : FVec F S256x1280 .f32)
    {k : PUnit → KProg F α} {S S' : Mem F} {v : α} (hk : Runs A (k ⟨⟩) (L.set S w) v S') : Runs A ((stU L.ref w).bind k) S v S' := by
  refine Runs.load L (stW_runs' L ?_)
  rw [shapeCast_self]; exact hk

/-! ## Dequantisation and products -/

/-- One dequantised weight of the chunk. -/
def wtE (S : Mem F) (y : S1024x1280.Idx) : F .bf16 :=
  let g : Fin 8 := ⟨(y 0).val / 128, by have : (y 0).val < 1024 := (y 0).isLt; omega⟩
  let i : Fin 5 := ⟨(y 1).val / 256, by have : (y 1).val < 1280 := (y 1).isLt; omega⟩
  deqV S.sr (fun x => S.wr ((wrow i).toLoadRect.idx x)) g i
    (ix2 (⟨(y 0).val % 128, Nat.mod_lt _ (by decide)⟩ : Fin 128) (⟨(y 1).val % 256, Nat.mod_lt _ (by decide)⟩ : Fin 256))

/-- The contents after a chunk's dequantisation and products. -/
def matM (S : Mem F) : Mem F := { S with wt := wtE S, u := uV S.codes S.wp S.ws, z := zV S.xr (wtE S) }

/-- Blocks before the `n`-th hold `N`, the others `X`; the blocks go through the groups of a column tile first. -/
def mixW {α : Type} (n : ℕ) (X N : S1024x1280.Idx → α) : S1024x1280.Idx → α := fun y =>
  if 8 * ((y 1).val / 256) + (y 0).val / 128 < n then N y else X y

theorem put_mixW {α : Type} (g : Fin 8) (i : Fin 5) (X N : S1024x1280.Idx → α) (w : S128x256.Idx → α)
    (h : ∀ x, w x = N ((wblk g i).emb x)) :
    put (wblk g i) (mixW (8 * i.val + g.val) X N) w Finset.univ = mixW (8 * i.val + g.val + 1) X N := by
  have e0 (x : S128x256.Idx) : ((wblk g i).emb x 0).val = 128 * g.val + (x 0).val := by
    rw [Rect.emb_apply]; show 128 * g.val + 1 * _ = _; omega
  have e1 (x : S128x256.Idx) : ((wblk g i).emb x 1).val = 256 * i.val + (x 1).val := by
    rw [Rect.emb_apply]; show 256 * i.val + 1 * _ = _; omega
  funext y
  by_cases hy : ∃ x, (wblk g i).emb x = y
  · obtain ⟨x, rfl⟩ := hy
    rw [put_emb, if_pos (Finset.mem_univ _), h]
    unfold mixW
    have h0 : (x 0).val < 128 := (x 0).isLt
    have h1 : (x 1).val < 256 := (x 1).isLt
    have hg := g.isLt
    rw [if_pos]
    rw [e0, e1]; omega
  · rw [put_off _ _ _ _ (fun x hx => hy ⟨x, hx⟩)]
    unfold mixW
    have hg := g.isLt
    have h0 : (y 0).val < 1024 := (y 0).isLt
    by_cases hc : 8 * ((y 1).val / 256) + (y 0).val / 128 < 8 * i.val + g.val
    · rw [if_pos hc, if_pos (by omega)]
    · rw [if_neg hc, if_neg]
      intro h2
      apply hy
      have hi : (y 1).val / 256 = i.val := by omega
      have hg' : (y 0).val / 128 = g.val := by omega
      refine ⟨ix2 (⟨(y 0).val % 128, Nat.mod_lt _ (by decide)⟩ : Fin 128) (⟨(y 1).val % 256, Nat.mod_lt _ (by decide)⟩ : Fin 256), ?_⟩
      funext a
      apply Fin.ext
      match a with
      | 0 => exact (e0 _).trans (by show 128 * g.val + (y 0).val % 128 = (y 0).val; omega)
      | 1 => exact (e1 _).trans (by show 256 * i.val + (y 1).val % 256 = (y 1).val; omega)

theorem wtE_emb (S : Mem F) (g : Fin 8) (i : Fin 5) (x : S128x256.Idx) :
    deqV S.sr (fun x => S.wr ((wrow i).toLoadRect.idx x)) g i x = wtE S ((wblk g i).emb x) := by
  have h0 : (x 0).val < 128 := (x 0).isLt
  have h1 : (x 1).val < 256 := (x 1).isLt
  have e0 : ((wblk g i).emb x 0).val = 128 * g.val + (x 0).val := by
    rw [Rect.emb_apply]; show 128 * g.val + 1 * _ = _; omega
  have e1 : ((wblk g i).emb x 1).val = 256 * i.val + (x 1).val := by
    rw [Rect.emb_apply]; show 256 * i.val + 1 * _ = _; omega
  have eg : (⟨((wblk g i).emb x 0).val / 128, by have : ((wblk g i).emb x 0).val < 1024 := ((wblk g i).emb x 0).isLt; omega⟩ : Fin 8) = g :=
    Fin.ext (by show _ / 128 = _; rw [e0]; omega)
  have ei : (⟨((wblk g i).emb x 1).val / 256, by have : ((wblk g i).emb x 1).val < 1280 := ((wblk g i).emb x 1).isLt; omega⟩ : Fin 5) = i :=
    Fin.ext (by show _ / 256 = _; rw [e1]; omega)
  have ex : (ix2 (⟨((wblk g i).emb x 0).val % 128, Nat.mod_lt _ (by decide)⟩ : Fin 128)
      (⟨((wblk g i).emb x 1).val % 256, Nat.mod_lt _ (by decide)⟩ : Fin 256) : S128x256.Idx) = x := by
    funext a
    apply Fin.ext
    match a with
    | 0 => show _ % 128 = (x 0).val; rw [e0]; omega
    | 1 => show _ % 256 = (x 1).val; rw [e1]; omega
  unfold wtE
  dsimp only
  rw [eg, ei, ex]

theorem stW_runs {A : Args} {α : Type} (g : Fin 8) (i : Fin 5) (S : Mem F) (N : S1024x1280.Idx → F .bf16) (w : FVec F S128x256 .bf16)
    (h : ∀ x, w x = N ((wblk g i).emb x)) {k : PUnit → KProg F α} {S' : Mem F} {v : α} (n : ℕ) (hn : n = 8 * i.val + g.val)
    (hk : Runs A (k ⟨⟩) { S with wt := mixW (n + 1) S.wt N } v S') :
    Runs A ((stW A g i w).bind k) { S with wt := mixW n S.wt N } v S' := by
  subst hn
  refine Runs.load (c_wt A) (Runs.store (c_wt A) ?_)
  rw [shapeCast_self]
  have e : put (wblk g i) ((c_wt A).get { S with wt := mixW (8 * i.val + g.val) S.wt N }) w Finset.univ
      = mixW (8 * i.val + g.val + 1) S.wt N := put_mixW g i S.wt N w h
  rw [e]; exact hk

theorem deq_runs {A : Args} (i : Fin 5) (S : Mem F) :
    Runs A (deqP A S.sr i) { S with wt := mixW (8 * i.val) S.wt (wtE S) } ⟨⟩ { S with wt := mixW (8 * i.val + 8) S.wt (wtE S) } := by
  unfold deqP
  refine Runs.load (c_wr A) ?_
  iterate 7 refine stW_runs _ i S (wtE S) _ (fun x => wtE_emb S _ i x) _ rfl ?_
  refine Runs.of_eq (q := (stW A 7 i _).bind Prog.ret) ?_ (stW_runs 7 i S (wtE S) _ (fun x => wtE_emb S _ i x) _ rfl (Runs.ret _ _)) rfl
  rfl

theorem mixW_zero {α : Type} (X N : S1024x1280.Idx → α) : mixW 0 X N = X := by funext y; simp [mixW]
theorem mixW_all {α : Type} (X N : S1024x1280.Idx → α) : mixW 40 X N = N := by
  funext y
  have h0 : (y 0).val < 1024 := (y 0).isLt
  have h1 : (y 1).val < 1280 := (y 1).isLt
  unfold mixW; rw [if_pos (by omega)]

theorem deqs_runs {A : Args} {α : Type} (S : Mem F) (s : FVec F S8x1280 .f32) (hs : s = S.sr) {k : PUnit → KProg F α} {S' : Mem F} {v : α}
    (hk : Runs A (k ⟨⟩) { S with wt := wtE S } v S') :
    Runs A ((deqP A s 0).bind fun _ => (deqP A s 1).bind fun _ => (deqP A s 2).bind fun _ => (deqP A s 3).bind fun _ => (deqP A s 4).bind k) S v S' := by
  subst hs
  have h0 : Runs A (deqP A S.sr 0) S ⟨⟩ { S with wt := mixW 8 S.wt (wtE S) } := by
    have h := deq_runs (A := A) 0 S
    rw [show 8 * (0 : Fin 5).val = 0 from rfl, mixW_zero] at h
    exact h
  have h4 : Runs A (deqP A S.sr 4) { S with wt := mixW 32 S.wt (wtE S) } ⟨⟩ { S with wt := wtE S } := by
    have h := deq_runs (A := A) 4 S
    rw [show 8 * (4 : Fin 5).val + 8 = 40 from rfl, mixW_all] at h
    exact h
  exact h0.bind ((deq_runs 1 S).bind ((deq_runs 2 S).bind ((deq_runs 3 S).bind (h4.bind hk))))

theorem mat_runs (A : Args) (S : Mem F) : Runs A (matP A) S ⟨⟩ (matM S) := by
  unfold matP
  refine ldW_runs (c_sr A) ?_
  refine deqs_runs S _ (shapeCast_self _ _) ?_
  refine ldW_runs (c_codes A) ?_
  refine ldW_runs (c_wp A) ?_
  refine ldW_runs (c_ws A) ?_
  refine stU_runs (c_u A) _ ?_
  refine ldW_runs (c_xr A) ?_
  refine ldW_runs (c_wt A) ?_
  refine Runs.of_eq (q := (stU A.z _).bind Prog.ret) ?_ (stU_runs (c_z A) _ (Runs.ret _ _)) rfl
  rfl

/-! ## The first point -/

theorem put_orows {α : Type} (X : S2x128.Idx → α) (w : Fin 2 → S1x128.Idx → α) :
    put (orow 1) (put (orow 0) X (w 0) Finset.univ) (w 1) Finset.univ = fun y => w (y 0) (ix2 (0 : Fin 1) (y 1)) := by
  have e (h : Fin 2) (x : S1x128.Idx) : ((orow h).emb x 0).val = h.val := by
    have : (x 0).val < 1 := (x 0).isLt
    rw [Rect.emb_apply]; show h.val + 1 * (x 0).val = _; omega
  have er (h : Fin 2) (y : S2x128.Idx) (hy : y 0 = h) : (orow h).emb (ix2 (0 : Fin 1) (y 1)) = y := by
    funext a
    apply Fin.ext
    match a with
    | 0 => exact (e h _).trans (congrArg Fin.val hy.symm)
    | 1 => show 0 + 1 * (y 1).val = (y 1).val; omega
  have hp (h : Fin 2) (X : S2x128.Idx → α) (v : S1x128.Idx → α) (y : S2x128.Idx) (hy : y 0 = h) :
      put (orow h) X v Finset.univ y = v (ix2 (0 : Fin 1) (y 1)) := by
    have e' := put_emb (orow h) X v Finset.univ (ix2 (0 : Fin 1) (y 1))
    rw [if_pos (Finset.mem_univ _), er h y hy] at e'
    exact e'
  funext y
  by_cases h1 : y 0 = (1 : Fin 2)
  · rw [hp 1 _ _ y h1]
    have : ∀ z : Fin 2, z = 1 → w 1 = w z := fun z hz => by rw [hz]
    rw [this (y 0) h1]
  · have h0 : y 0 = (0 : Fin 2) := by
      have : ∀ z : Fin 2, ¬ z = 1 → z = 0 := by decide
      exact this (y 0) h1
    rw [put_off _ _ _ _ (fun x hx => h1 (Fin.ext ((congrArg (fun z : S2x128.Idx => (z 0).val) hx.symm).trans (e 1 x)))), hp 0 _ _ y h0]
    have : ∀ z : Fin 2, z = 0 → w 0 = w z := fun z hz => by rw [hz]
    rw [this (y 0) h0]

/-- The half a token lies in. -/
def hf (y : S256x128.Idx) : Fin 2 := ⟨(y 0).val / 128, by have : (y 0).val < 256 := (y 0).isLt; omega⟩
/-- A token's place in its half. -/
def inH (y : S256x128.Idx) : S128x128.Idx := ix2 (⟨(y 0).val % 128, Nat.mod_lt _ (by decide)⟩ : Fin 128) (y 1)

theorem put_halves {α : Type} (X : S256x128.Idx → α) (w : Fin 2 → S128x128.Idx → α) :
    put (half 1) (put (half 0) X (w 0) Finset.univ) (w 1) Finset.univ = fun y => w (hf y) (inH y) := by
  have e (h : Fin 2) (x : S128x128.Idx) : ((half h).emb x 0).val = 128 * h.val + (x 0).val := by
    rw [Rect.emb_apply]; show 128 * h.val + 1 * (x 0).val = _; omega
  have er (h : Fin 2) (y : S256x128.Idx) (hy : hf y = h) : (half h).emb (inH y) = y := by
    funext a
    apply Fin.ext
    match a with
    | 0 =>
      refine (e h _).trans ?_
      have : (y 0).val / 128 = h.val := congrArg Fin.val hy
      show 128 * h.val + (y 0).val % 128 = (y 0).val
      omega
    | 1 => show 0 + 1 * (y 1).val = (y 1).val; omega
  have hp (h : Fin 2) (X : S256x128.Idx → α) (v : S128x128.Idx → α) (y : S256x128.Idx) (hy : hf y = h) :
      put (half h) X v Finset.univ y = v (inH y) := by
    have e' := put_emb (half h) X v Finset.univ (inH y)
    rw [if_pos (Finset.mem_univ _), er h y hy] at e'
    exact e'
  funext y
  by_cases h1 : hf y = (1 : Fin 2)
  · rw [hp 1 _ _ y h1, h1]
  · have h0 : hf y = (0 : Fin 2) := by
      have : ∀ z : Fin 2, ¬ z = 1 → z = 0 := by decide
      exact this _ h1
    rw [put_off _ _ _ _ (fun x hx => h1 ?_), hp 0 _ _ y h0, h0]
    have hx0 : (x 0).val < 128 := (x 0).isLt
    have := (congrArg (fun z : S256x128.Idx => (z 0).val) hx.symm).trans (e 1 x)
    exact Fin.ext (by show (y 0).val / 128 = 1; have h2 : (y 0).val = 128 * 1 + (x 0).val := this; omega)

/-- The tokens' exponents. -/
def expM (S : Mem F) : IVec S256x128 32 := eV (expoV (topV S.x))

/-- The contents after the first point's quantisation. -/
def initM (S : Mem F) : Mem F := { S with
  xr := S.xrin
  xsl := mulf (powV (expM S)) (broadcast S256x128 (Named.named κ "log2e" 0x3FB8AA3B#32))
  codes := codesV S.x (powV (negV (expM S)))
  scales := fun y => scalesV (powV (expM S)) (y 0) (ix2 (0 : Fin 1) (y 1))
  tt := fun y => tgtV (fun x => S.tgt ((orow (hf y)).toLoadRect.idx x)) (inH y)
  mp := broadcast S256x128 (Scalar.ofBits .f32 0xFF61B1E6#32)
  mq := broadcast S256x128 (Scalar.ofBits .f32 0xFF61B1E6#32)
  sp := broadcast S256x128 (Scalar.ofBits .f32 0x00000000#32)
  sq := broadcast S256x128 (Scalar.ofBits .f32 0x00000000#32)
  ta := broadcast S256x128 (Scalar.ofBits .f32 0x00000000#32) }

/-- The scales' and targets' buffers replaced. -/
def withHalf (S : Mem F) (scales : Vec F S2x128 .f32) (tt : Vec F S256x128 .i32) : Mem F := { S with scales := scales, tt := tt }

theorem half_runs {A : Args} {α : Type} (xs : FVec F S256x128 .f32) (h : Fin 2) (S : Mem F) (scales : Vec F S2x128 .f32) (tt : Vec F S256x128 .i32)
    {k : PUnit → KProg F α} {S' : Mem F} {v : α}
    (hk : Runs A (k ⟨⟩) (withHalf S (put (orow h) scales (scalesV xs h) Finset.univ)
      (put (half h) tt (tgtV (fun x => S.tgt ((orow h).toLoadRect.idx x))) Finset.univ)) v S') :
    Runs A ((halfP A xs h).bind k) (withHalf S scales tt) v S' := by
  have e1 (X : Vec F S2x128 .f32) : (c_scales A).set (withHalf S scales tt) X = withHalf S X tt := rfl
  have e2 (s : Vec F S2x128 .f32) (X : Vec F S256x128 .i32) : (c_tt A).set (withHalf S s tt) X = withHalf S s X := rfl
  refine Runs.load (c_scales A) (Runs.store (c_scales A) ?_)
  rw [e1]
  refine Runs.load (c_tgt A) (Runs.load (c_tt A) (Runs.store (c_tt A) ?_))
  rw [e2, shapeCast_self]
  exact hk

theorem halves_runs {A : Args} {α : Type} (xs : FVec F S256x128 .f32) (S : Mem F)
    {k : PUnit → KProg F α} {S' : Mem F} {v : α}
    (hk : Runs A (k ⟨⟩) { S with
      scales := fun y => scalesV xs (y 0) (ix2 (0 : Fin 1) (y 1))
      tt := fun y => tgtV (fun x => S.tgt ((orow (hf y)).toLoadRect.idx x)) (inH y) } v S') :
    Runs A ((halfP A xs 0).bind fun _ => (halfP A xs 1).bind k) S v S' := by
  refine Runs.of_eq rfl (S := withHalf S S.scales S.tt) ?_ rfl
  refine half_runs xs 0 S _ _ (half_runs xs 1 S _ _ ?_)
  rw [put_orows S.scales (scalesV xs), put_halves S.tt fun h => tgtV (fun x => S.tgt ((orow h).toLoadRect.idx x))]
  exact hk

/-- The statistics set. -/
def resetP (A : Args) : KProg F PUnit := do
  stS A.mp (broadcast S256x128 (Scalar.ofBits .f32 0xFF61B1E6#32))
  stS A.mq (broadcast S256x128 (Scalar.ofBits .f32 0xFF61B1E6#32))
  stS A.sp (broadcast S256x128 (Scalar.ofBits .f32 0x00000000#32))
  stS A.sq (broadcast S256x128 (Scalar.ofBits .f32 0x00000000#32))
  stS A.ta (broadcast S256x128 (Scalar.ofBits .f32 0x00000000#32))

theorem reset_runs (A : Args) (S : Mem F) : Runs A (resetP A) S ⟨⟩ { S with
    mp := broadcast S256x128 (Scalar.ofBits .f32 0xFF61B1E6#32)
    mq := broadcast S256x128 (Scalar.ofBits .f32 0xFF61B1E6#32)
    sp := broadcast S256x128 (Scalar.ofBits .f32 0x00000000#32)
    sq := broadcast S256x128 (Scalar.ofBits .f32 0x00000000#32)
    ta := broadcast S256x128 (Scalar.ofBits .f32 0x00000000#32) } := by
  have e0 : S = withRow S S.selp S.selq S.mp S.mq S.sp S.ta S.sq := rfl
  have e1 (X : Vec F S256x128 .f32) : (c_mp A).set (withRow S S.selp S.selq S.mp S.mq S.sp S.ta S.sq) X = withRow S S.selp S.selq X S.mq S.sp S.ta S.sq := rfl
  have e2 (m X : Vec F S256x128 .f32) : (c_mq A).set (withRow S S.selp S.selq m S.mq S.sp S.ta S.sq) X = withRow S S.selp S.selq m X S.sp S.ta S.sq := rfl
  have e3 (m m' X : Vec F S256x128 .f32) : (c_sp A).set (withRow S S.selp S.selq m m' S.sp S.ta S.sq) X = withRow S S.selp S.selq m m' X S.ta S.sq := rfl
  have e4 (m m' s X : Vec F S256x128 .f32) : (c_sq A).set (withRow S S.selp S.selq m m' s S.ta S.sq) X = withRow S S.selp S.selq m m' s S.ta X := rfl
  have e5 (m m' s t X : Vec F S256x128 .f32) : (c_ta A).set (withRow S S.selp S.selq m m' s S.ta t) X = withRow S S.selp S.selq m m' s X t := rfl
  refine Runs.of_eq (q := (stS A.mp _).bind fun _ => (stS A.mq _).bind fun _ => (stS A.sp _).bind fun _ => (stS A.sq _).bind fun _ => (stS A.ta _).bind Prog.ret)
    rfl (S := withRow S S.selp S.selq S.mp S.mq S.sp S.ta S.sq) ?_ rfl
  refine stS_runs (c_mp A) _ ?_
  rw [e1]
  refine stS_runs (c_mq A) _ ?_
  rw [e2]
  refine stS_runs (c_sp A) _ ?_
  rw [e3]
  refine stS_runs (c_sq A) _ ?_
  rw [e4]
  refine stS_runs (c_ta A) _ ?_
  rw [e5]
  exact Runs.ret _ _

theorem init_runs (A : Args) (S : Mem F) : Runs A (initP A) S ⟨⟩ (initM S) := by
  unfold initP
  refine ldW_runs (c_xrin A) ?_
  refine Runs.load (c_xr A) ?_
  refine stW_runs' (c_xr A) ?_
  rw [shapeCast_self, shapeCast_self]
  refine ldW_runs (c_x A) ?_
  refine stS_runs (c_xsl A) _ ?_
  refine Runs.load (c_codes A) ?_
  refine stW_runs' (c_codes A) ?_
  refine halves_runs _ _ ?_
  exact reset_runs A _

/-! ## The last point -/

/-- The three results of half `h`, and the policy's two. -/
def sumH (S : Mem F) (h : Fin 2) (s m : Vec F S256x128 .f32) : FVec F S128x1 .f32 :=
  addV (mulf (fun x => s ((half h).toLoadRect.idx x)) (facV (fun x => m ((half h).toLoadRect.idx x)) (maxV fun x => m ((half h).toLoadRect.idx x))))
def lseH (S : Mem F) (h : Fin 2) (s m : Vec F S256x128 .f32) : FVec F S128x1 .f32 :=
  lseV (maxV fun x => m ((half h).toLoadRect.idx x)) (sumH S h s m)
def logpH (S : Mem F) (h : Fin 2) (sel s m : Vec F S256x128 .f32) : FVec F S1x128 .f32 :=
  outV (subf (selV (fun x => S.tt ((half h).toLoadRect.idx x)) fun x => sel ((half h).toLoadRect.idx x)) (lseH S h s m))
def klH (S : Mem F) (h : Fin 2) : FVec F S1x128 .f32 :=
  outV (addf (subf (divf (sumH S h S.ta S.mp) (sumH S h S.sp S.mp)) (lseH S h S.sp S.mp)) (lseH S h S.sq S.mq))

/-- The contents after the last point's end. -/
def finM (S : Mem F) : Mem F := { S with
  lp := fun y => logpH S (y 0) S.selp S.sp S.mp (ix2 (0 : Fin 1) (y 1))
  lq := fun y => logpH S (y 0) S.selq S.sq S.mq (ix2 (0 : Fin 1) (y 1))
  kl := fun y => klH S (y 0) (ix2 (0 : Fin 1) (y 1)) }

/-- The three results replaced. -/
def withOut (S : Mem F) (lp lq kl : Vec F S2x128 .f32) : Mem F := { S with lp := lp, lq := lq, kl := kl }

theorem fin_runs' (A : Args) (h : Fin 2) (S : Mem F) (lp lq kl : Vec F S2x128 .f32) :
    Runs A (finP A h) (withOut S lp lq kl) ⟨⟩ (withOut S (put (orow h) lp (logpH S h S.selp S.sp S.mp) Finset.univ)
      (put (orow h) lq (logpH S h S.selq S.sq S.mq) Finset.univ) (put (orow h) kl (klH S h) Finset.univ)) := by
  have e1 (X : Vec F S2x128 .f32) : (c_lp A).set (withOut S lp lq kl) X = withOut S X lq kl := rfl
  have e2 (m X : Vec F S2x128 .f32) : (c_lq A).set (withOut S m lq kl) X = withOut S m X kl := rfl
  have e3 (m m' X : Vec F S2x128 .f32) : (c_kl A).set (withOut S m m' kl) X = withOut S m m' X := rfl
  unfold finP
  refine Runs.load (c_tt A) (Runs.load (c_mp A) (Runs.load (c_mq A) (Runs.load (c_mp A) (Runs.load (c_mq A) (Runs.load (c_sp A)
    (Runs.load (c_sq A) (Runs.load (c_ta A) (Runs.load (c_selp A) (Runs.load (c_selq A) ?_)))))))))
  refine Runs.load (c_lp A) (Runs.store (c_lp A) ?_)
  rw [e1]
  refine Runs.load (c_lq A) (Runs.store (c_lq A) ?_)
  rw [e2]
  refine Runs.load (c_kl A) (Runs.store (c_kl A) ?_)
  rw [e3]
  exact Runs.ret _ _

theorem fin_runs {A : Args} (S : Mem F) : Runs A ((finP A 0).bind fun _ => finP A 1) S ⟨⟩ (finM S) := by
  refine Runs.of_eq rfl (S := withOut S S.lp S.lq S.kl) ((fin_runs' A 0 S _ _ _).bind (fin_runs' A 1 S _ _ _)) ?_
  rw [put_orows S.lp fun h => logpH S h S.selp S.sp S.mp, put_orows S.lq fun h => logpH S h S.selq S.sq S.mq, put_orows S.kl (klH S)]
  rfl

end Cert.KernelIdeal.Hand
-- ==== Proof.Ideal.Glue1.lean ====
/- The first point of the grid: the printed body is the quantisation, then the first chunk's products. -/
module
public import proofs.«01_k».proof.Proof.Ideal.Body

@[expose] public section

namespace Cert.KernelIdeal.Hand

open Cert.KernelIdeal
open Idealize.ShloMosaic Idealize.SL.Sem

variable {F : FTy → Type} [FloatOps F] [Named F] [Facts]
open Facts₀ Facts

set_option maxHeartbeats 20000000
set_option pp.maxSteps 400

set_option maxRecDepth 20000 in
theorem glue1 (i : grid0.Coords) (A : Args) (c1 : k0_cond1 i = 1#1) (c2 : ¬ cond2 i = 1#1) (c3 : ¬ k0_cond3 i = 1#1) :
    cc0_ppo_logprob_kl (F := F) i A.x A.xW A.xrin A.xrinW A.wp A.wpW A.ws A.wsW A.wr A.wrW A.sr A.srW A.tgt A.tgtW A.lp A.lpW A.lq A.lqW A.kl A.klW A.codes A.codesW A.scales A.scalesW A.xr A.xrW A.wt A.wtW A.u A.uW A.z A.zW A.xsl A.xslW A.tt A.ttW A.mp A.mpW A.mq A.mqW A.sp A.spW A.sq A.sqW A.ta A.taW A.selp A.selpW A.selq A.selqW = (initP A).bind fun _ => matP A := by
  unfold cc0_ppo_logprob_kl
  refine dpos c1 ?_
  apply bind_step
  · iterate 28 (refine opc _ ?_; intro _)
    exact rfl
  iterate 95 (refine opc _ ?_; intro _)
  exact (dneg c2 (dneg c3 rfl))

end Cert.KernelIdeal.Hand
-- ==== Proof.Ideal.Glue2.lean ====
/- The points between: the printed body is the softmax of the chunk before, then the chunk's products. -/
module
public import proofs.«01_k».proof.Proof.Ideal.Body

@[expose] public section

namespace Cert.KernelIdeal.Hand

open Cert.KernelIdeal
open Idealize.ShloMosaic Idealize.SL.Sem

variable {F : FTy → Type} [FloatOps F] [Named F] [Facts]
open Facts₀ Facts

set_option maxHeartbeats 20000000
set_option pp.maxSteps 400

set_option maxRecDepth 20000 in
theorem glue2 (i : grid0.Coords) (A : Args) (c1 : ¬ k0_cond1 i = 1#1) (c2 : cond2 i = 1#1) (c3 : ¬ k0_cond3 i = 1#1) :
    cc0_ppo_logprob_kl (F := F) i A.x A.xW A.xrin A.xrinW A.wp A.wpW A.ws A.wsW A.wr A.wrW A.sr A.srW A.tgt A.tgtW A.lp A.lpW A.lq A.lqW A.kl A.klW A.codes A.codesW A.scales A.scalesW A.xr A.xrW A.wt A.wtW A.u A.uW A.z A.zW A.xsl A.xslW A.tt A.ttW A.mp A.mpW A.mq A.mqW A.sp A.spW A.sq A.sqW A.ta A.taW A.selp A.selpW A.selq A.selqW =
      (rowsP A (Scalar.subi (BitVec.ofNat 32 (i 0).val) 1#32) 32 0 (by decide)).bind fun _ => matP A := by
  unfold cc0_ppo_logprob_kl
  refine dneg c1 ?_
  refine dpos c2 ?_
  iterate 32
    apply rows_step
    · iterate 77 (refine opc _ ?_; intro _)
      exact rfl
  apply rows_end
  iterate 95 (refine opc _ ?_; intro _)
  exact dneg c3 rfl

end Cert.KernelIdeal.Hand
-- ==== Proof.Ideal.Glue3.lean ====
/- The last point of the grid: the printed body is the softmax of the last chunk, then both halves of the results. -/
module
public import proofs.«01_k».proof.Proof.Ideal.Body

@[expose] public section

namespace Cert.KernelIdeal.Hand

open Cert.KernelIdeal
open Idealize.ShloMosaic Idealize.SL.Sem

variable {F : FTy → Type} [FloatOps F] [Named F] [Facts]
open Facts₀ Facts

set_option maxHeartbeats 20000000
set_option pp.maxSteps 400

set_option maxRecDepth 20000 in
theorem glue3 (i : grid0.Coords) (A : Args) (c1 : ¬ k0_cond1 i = 1#1) (c2 : ¬ cond2 i = 1#1) (c3 : k0_cond3 i = 1#1) :
    cc0_ppo_logprob_kl (F := F) i A.x A.xW A.xrin A.xrinW A.wp A.wpW A.ws A.wsW A.wr A.wrW A.sr A.srW A.tgt A.tgtW A.lp A.lpW A.lq A.lqW A.kl A.klW A.codes A.codesW A.scales A.scalesW A.xr A.xrW A.wt A.wtW A.u A.uW A.z A.zW A.xsl A.xslW A.tt A.ttW A.mp A.mpW A.mq A.mqW A.sp A.spW A.sq A.sqW A.ta A.taW A.selp A.selpW A.selq A.selqW =
      (rowsP A (Scalar.subi (BitVec.ofNat 32 (i 0).val) 1#32) 32 0 (by decide)).bind fun _ => (finP A 0).bind fun _ => finP A 1 := by
  unfold cc0_ppo_logprob_kl
  refine dneg c1 ?_
  refine dneg c2 ?_
  refine dpos c3 ?_
  iterate 32
    apply rows_step
    · iterate 77 (refine opc _ ?_; intro _)
      exact rfl
  apply rows_end
  apply bind_step
  · iterate 16 (refine opc _ ?_; intro _)
    exact rfl
  iterate 16 (refine opc _ ?_; intro _)
  exact rfl

end Cert.KernelIdeal.Hand
-- ==== Proof.Ideal.Run.lean ====
/-
  The whole run of the kernel. `stepM t` is what the body does to the contents at grid point `t`; `run` says that whatever
  holds of the scratch buffers and the result buffers and is kept by `stepM` (`Spec`, `Spec.Ok`) holds of the results when
  the kernel ends, which it always does, with its arguments unchanged.
-/
module
public import proofs.«01_k».proof.Proof.Ideal.Steps
public import Idealize.ShloMosaic.Lib.Pipeline.DatRel
public import Idealize.ShloMosaic.Lib.Pipeline.ArrRel
public import proofs.«01_k».proof.Proof.Ideal.Glue1
public import proofs.«01_k».proof.Proof.Ideal.Glue2
public import proofs.«01_k».proof.Proof.Ideal.Glue3

@[expose] public section
noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

variable {F : FTy → Type} [FloatOps F] [Named F]
local notation "𝕄" => MT nD τ sig Unit (Elt F) ℕ (UR sig nD τ) ℕ

variable (m : (ℓ : Loc nD τ sig) → Buf (Elt F) ℓ) (ρ : Dev nD → PrngReg)

/-! ## One grid point -/

/-- The chunk whose softmax point `t` takes. -/
def chunk (t : ℕ) : BitVec 32 := Scalar.subi (BitVec.ofNat 32 t) 1#32

/-- What the body does to the contents at point `t`. -/
def stepM (t : ℕ) (S : Mem F) : Mem F :=
  if t = 0 then matM (initM S) else if t < 25 then matM (softM (chunk t) S) else finM (softM (chunk t) S)

theorem coord_0 : ∀ t : Fin cfg0.N, ((grid0.coords t) 0).val = t.val := by decide +kernel
theorem cond1_iff : ∀ t : Fin cfg0.N, k0_cond1 (grid0.coords t) = 1#1 ↔ t.val = 0 := by decide +kernel
theorem cond3_iff : ∀ t : Fin cfg0.N, k0_cond3 (grid0.coords t) = 1#1 ↔ t.val = 25 := by decide +kernel
theorem cond2_iff : ∀ t : Fin cfg0.N, cond2 (grid0.coords t) = 1#1 ↔ t.val ≠ 0 ∧ t.val < 25 := by decide +kernel

theorem body_runs (t : Fin cfg0.N) (A : Args) (S : Mem F) :
    Runs A (cc0_ppo_logprob_kl (F := F) (grid0.coords t) A.x A.xW A.xrin A.xrinW A.wp A.wpW A.ws A.wsW A.wr A.wrW A.sr A.srW A.tgt A.tgtW A.lp A.lpW A.lq A.lqW A.kl A.klW A.codes A.codesW A.scales A.scalesW A.xr A.xrW A.wt A.wtW A.u A.uW A.z A.zW A.xsl A.xslW A.tt A.ttW A.mp A.mpW A.mq A.mqW A.sp A.spW A.sq A.sqW A.ta A.taW A.selp A.selpW A.selq A.selqW) S ⟨⟩ (stepM t.val S) := by
  have hN : t.val < 26 := t.isLt
  unfold stepM
  by_cases h0 : t.val = 0
  · rw [if_pos h0]
    refine Runs.of_eq (glue1 _ A ((cond1_iff t).mpr h0) (fun h => ((cond2_iff t).mp h).1 h0)
      (fun h => by have := (cond3_iff t).mp h; omega)) ((init_runs A S).bind (mat_runs A _)) rfl
  · rw [if_neg h0]
    have hc : chunk t.val = Scalar.subi (BitVec.ofNat 32 ((grid0.coords t) 0).val) 1#32 := by rw [coord_0]; rfl
    rw [hc]
    by_cases h1 : t.val < 25
    · rw [if_pos h1]
      exact Runs.of_eq (glue2 _ A (fun h => h0 ((cond1_iff t).mp h)) ((cond2_iff t).mpr ⟨h0, h1⟩)
        (fun h => by have := (cond3_iff t).mp h; omega)) ((soft_runs A _ S).bind (mat_runs A _)) rfl
    · rw [if_neg h1]
      exact Runs.of_eq (glue3 _ A (fun h => h0 ((cond1_iff t).mp h)) (fun h => h1 ((cond2_iff t).mp h).2)
        ((cond3_iff t).mpr (by omega))) ((soft_runs A _ S).bind (fin_runs _)) rfl

/-! ## What is known between the points -/

variable (F) in
/-- What is known of the scratch buffers before each point, and of each result's buffer after each point. -/
structure Spec where
  inv : Dev nD → ℕ → Mem F → Prop
  lp : Dev nD → ℕ → Vec F S2x128 .f32 → Prop
  lq : Dev nD → ℕ → Vec F S2x128 .f32 → Prop
  kl : Dev nD → ℕ → Vec F S2x128 .f32 → Prop
  codes : Dev nD → ℕ → Vec F S256x1024 .fp8e4m3 → Prop
  scales : Dev nD → ℕ → Vec F S2x128 .f32 → Prop

/-- The contents before point `t`, as far as they are known. -/
structure Spec.Before (P : Spec F) (c : Dev nD) (t : Fin cfg0.N) (S : Mem F) : Prop where
  inv : P.inv c t.val S
  x : S.x = iblk m c 0 t
  xrin : S.xrin = iblk m c 1 t
  wp : S.wp = iblk m c 2 t
  ws : S.ws = iblk m c 3 t
  wr : S.wr = iblk m c 4 t
  sr : S.sr = iblk m c 5 t
  tgt : S.tgt = iblk m c 6 t
  lp : t.val ≠ 0 → P.lp c (t.val - 1) S.lp
  lq : t.val ≠ 0 → P.lq c (t.val - 1) S.lq
  kl : t.val ≠ 0 → P.kl c (t.val - 1) S.kl
  codes : t.val ≠ 0 → P.codes c (t.val - 1) S.codes
  scales : t.val ≠ 0 → P.scales c (t.val - 1) S.scales

/-- The contents after point `t`. -/
structure Spec.After (P : Spec F) (c : Dev nD) (t : ℕ) (S : Mem F) : Prop where
  inv : P.inv c (t + 1) S
  lp : P.lp c t S.lp
  lq : P.lq c t S.lq
  kl : P.kl c t S.kl
  codes : P.codes c t S.codes
  scales : P.scales c t S.scales

/-- `P` holds at the start, is kept by every point, and speaks of the scratch buffers only. -/
structure Spec.Ok (P : Spec F) : Prop where
  init : ∀ c S, P.inv c 0 S
  step : ∀ c t S, P.Before m c t S → P.After c t.val (stepM t.val S)
  scr : ∀ c n S S', S.xr = S'.xr → S.wt = S'.wt → S.u = S'.u → S.z = S'.z → S.xsl = S'.xsl → S.tt = S'.tt → S.mp = S'.mp → S.mq = S'.mq →
    S.sp = S'.sp → S.sq = S'.sq → S.ta = S'.ta → S.selp = S'.selp → S.selq = S'.selq → P.inv c n S → P.inv c n S'

variable (P : Spec F)

/-- The scratch buffers, owned at what `S` says they hold. -/
def scr (c : Dev nD) (S : Mem F) : sProp 𝕄 :=
  iprop(owns (c : Thread nD τ) (Memref.whole cc0_scratch0) fullShare S.xr ∗ owns (c : Thread nD τ) (Memref.whole cc0_scratch1) fullShare S.wt
    ∗ owns (c : Thread nD τ) (Memref.whole cc0_scratch2) fullShare S.u ∗ owns (c : Thread nD τ) (Memref.whole cc0_scratch3) fullShare S.z
    ∗ owns (c : Thread nD τ) (Memref.whole cc0_scratch4) fullShare S.xsl ∗ owns (c : Thread nD τ) (Memref.whole cc0_scratch5) fullShare S.tt
    ∗ owns (c : Thread nD τ) (Memref.whole cc0_scratch6) fullShare S.mp ∗ owns (c : Thread nD τ) (Memref.whole cc0_scratch7) fullShare S.mq
    ∗ owns (c : Thread nD τ) (Memref.whole cc0_scratch8) fullShare S.sp ∗ owns (c : Thread nD τ) (Memref.whole cc0_scratch9) fullShare S.sq
    ∗ owns (c : Thread nD τ) (Memref.whole cc0_scratch10) fullShare S.ta ∗ owns (c : Thread nD τ) (Memref.whole cc0_scratch11) fullShare S.selp
    ∗ owns (c : Thread nD τ) (Memref.whole cc0_scratch12) fullShare S.selq)

/-- What the core holds before point `n` besides the windows. -/
def ΦS (c : Dev nD) (n : ℕ) : sProp 𝕄 := iprop((∃ S, ⌜P.inv c n S⌝ ∗ scr c S) ∗ ∃ r, prngReg c r)

/-- The windows' arrays and blocks, for the frame run. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
  Φ t := ΦS P c t.val
  q _ := fullShare
  owed _ := 0

/-- The result windows. -/
def fgt : Fin cfg0.W → Bool
  | 7 | 8 | 9 | 10 | 11 => true
  | _ => false

def Rl (c : Dev nD) (w : Fin cfg0.W) (t : Fin cfg0.N) : ((cfg0.win w).block.Idx → Elt F (cfg0.win w).elt) → Prop :=
  match w with
  | 7 => P.lp c t.val
  | 8 => P.lq c t.val
  | 9 => P.kl c t.val
  | 10 => P.codes c t.val
  | 11 => P.scales c t.val
  | _ => fun _ => True

def rdat (c : Dev nD) : RDat τ (Elt F) Unit ℕ (UR sig nD τ) ℕ cfg0 c := (dat m P c).toRRel fgt (Rl P c)

/-- The buffers the body is called on at point `t`. -/
def args (t : Fin cfg0.N) : Args where
  x := win0_0.stage (cfg0.slots t 0)
  xW := hstage0_0 ((cfg0.slots t 0).cast nbuf0_0)
  xrin := win0_1.stage (cfg0.slots t 1)
  xrinW := hstage0_1 ((cfg0.slots t 1).cast nbuf0_1)
  wp := win0_2.stage (cfg0.slots t 2)
  wpW := hstage0_2 ((cfg0.slots t 2).cast nbuf0_2)
  ws := win0_3.stage (cfg0.slots t 3)
  wsW := hstage0_3 ((cfg0.slots t 3).cast nbuf0_3)
  wr := win0_4.stage (cfg0.slots t 4)
  wrW := hstage0_4 ((cfg0.slots t 4).cast nbuf0_4)
  sr := win0_5.stage (cfg0.slots t 5)
  srW := hstage0_5 ((cfg0.slots t 5).cast nbuf0_5)
  tgt := win0_6.stage (cfg0.slots t 6)
  tgtW := hstage0_6 ((cfg0.slots t 6).cast nbuf0_6)
  lp := win0_7.stage (cfg0.slots t 7)
  lpW := hstage0_7 ((cfg0.slots t 7).cast nbuf0_7)
  lq := win0_8.stage (cfg0.slots t 8)
  lqW := hstage0_8 ((cfg0.slots t 8).cast nbuf0_8)
  kl := win0_9.stage (cfg0.slots t 9)
  klW := hstage0_9 ((cfg0.slots t 9).cast nbuf0_9)
  codes := win0_10.stage (cfg0.slots t 10)
  codesW := hstage0_10 ((cfg0.slots t 10).cast nbuf0_10)
  scales := win0_11.stage (cfg0.slots t 11)
  scalesW := hstage0_11 ((cfg0.slots t 11).cast nbuf0_11)
  xr := Memref.whole cc0_scratch0
  xrW := Memref.isWhole_whole _
  wt := Memref.whole cc0_scratch1
  wtW := Memref.isWhole_whole _
  u := Memref.whole cc0_scratch2
  uW := Memref.isWhole_whole _
  z := Memref.whole cc0_scratch3
  zW := Memref.isWhole_whole _
  xsl := Memref.whole cc0_scratch4
  xslW := Memref.isWhole_whole _
  tt := Memref.whole cc0_scratch5
  ttW := Memref.isWhole_whole _
  mp := Memref.whole cc0_scratch6
  mpW := Memref.isWhole_whole _
  mq := Memref.whole cc0_scratch7
  mqW := Memref.isWhole_whole _
  sp := Memref.whole cc0_scratch8
  spW := Memref.isWhole_whole _
  sq := Memref.whole cc0_scratch9
  sqW := Memref.isWhole_whole _
  ta := Memref.whole cc0_scratch10
  taW := Memref.isWhole_whole _
  selp := Memref.whole cc0_scratch11
  selpW := Memref.isWhole_whole _
  selq := Memref.whole cc0_scratch12
  selqW := Memref.isWhole_whole _

theorem defs₀_row (t : Fin cfg0.N) :
    defs₀ (F := F) .tc cfg0.body (cfg0.bodyArgs t (cfg0.slots t)) = bodyAt0 t := by
  unfold defs₀; rw [Defs.onTc_tc]

/-- The windows' buffers, owned at what `S` says they hold. -/
def wins (c : Dev nD) (t : Fin cfg0.N) (S : Mem F) : sProp 𝕄 :=
  iprop(owns (c : Thread nD τ) (st0_0 t) fullShare S.x ∗ owns (c : Thread nD τ) (st0_1 t) fullShare S.xrin
    ∗ owns (c : Thread nD τ) (st0_2 t) fullShare S.wp ∗ owns (c : Thread nD τ) (st0_3 t) fullShare S.ws
    ∗ owns (c : Thread nD τ) (st0_4 t) fullShare S.wr ∗ owns (c : Thread nD τ) (st0_5 t) fullShare S.sr
    ∗ owns (c : Thread nD τ) (st0_6 t) fullShare S.tgt ∗ owns (c : Thread nD τ) (st0_7 t) fullShare S.lp
    ∗ owns (c : Thread nD τ) (st0_8 t) fullShare S.lq ∗ owns (c : Thread nD τ) (st0_9 t) fullShare S.kl
    ∗ owns (c : Thread nD τ) (st0_10 t) fullShare S.codes ∗ owns (c : Thread nD τ) (st0_11 t) fullShare S.scales)

theorem sep_flat (X Y Z : sProp 𝕄) : iprop((X ∗ Y) ∗ Z) = iprop(X ∗ Y ∗ Z) :=
  equiv_iff.mp ⟨Idealize.SL.BI.sep_assoc, Idealize.SL.BI.sep_assoc'⟩

theorem own_eq (c : Dev nD) (t : Fin cfg0.N) (S : Mem F) : (Own c (args t) S : sProp 𝕄) = iprop(wins c t S ∗ scr c S) := by
  have e : (Own c (args t) S : sProp 𝕄) = _ :=
    bigSep_univ_eq_bigSepL [0, 1, 2, 3, 4, 5, 6, 7, 8, 9, 10, 11, 12, 13, 14, 15, 16, 17, 18, 19, 20, 21, 22, 23, 24] (by decide) (by decide)
      (part c (args t) S)
  rw [e]
  unfold wins scr
  simp only [sep_flat]
  rfl

/-- Every buffer of the body put together from its windows and its scratch, and back. -/
theorem own_split (c : Dev nD) (t : Fin cfg0.N) (S : Mem F) : (Own c (args t) S : sProp 𝕄) ⊢ iprop(wins c t S ∗ scr c S) :=
  Entails.of_eq (own_eq c t S)
theorem own_join (c : Dev nD) (t : Fin cfg0.N) (S : Mem F) : iprop(wins c t S ∗ scr c S) ⊢ (Own c (args t) S : sProp 𝕄) :=
  Entails.of_eq (own_eq c t S).symm

/-! ## The proof data of the run -/

theorem fetch_out : ∀ w : Fin cfg0.W, 7 ≤ w.val → ∀ t, (cfg0.win w).fetch t = false := by decide +kernel
theorem flush_out : ∀ w : Fin cfg0.W, 7 ≤ w.val → ∀ t : Fin cfg0.N, (cfg0.win w).flush t = true ↔ t.val = 25 := by decide +kernel

/-- A result's buffer holds before a point what the point before left. -/
theorem found (c : Dev nD) (w : Fin cfg0.W) (hw : fgt w = true) (h7 : 7 ≤ w.val) (t : Fin cfg0.N) (Y) (ht : t.val ≠ 0)
    (h : ((dat m P c).toRRel fgt (Rl P c)).Finds w t Y) :
    Rl P c w ⟨t.val - 1, Nat.lt_of_le_of_lt (Nat.sub_le _ _) t.isLt⟩ Y := by
  rcases (RDat.finds_of_pos _ (fetch_out w h7 t) ht Y).mp h with h | h
  · have := (flush_out w h7 _).mp h
    have h26 : t.val < 26 := t.isLt
    simp only at this; omega
  · exact (dat m P c).toRRel_leaves hw h

/-- The contents a point starts on: the inputs' blocks, what the results' buffers were found at, the scratch. -/
def entry (c : Dev nD) (t : Fin cfg0.N) (S : Mem F) (Y7 Y8 Y9 : Vec F S2x128 .f32) (Y10 : Vec F S256x1024 .fp8e4m3) (Y11 : Vec F S2x128 .f32) : Mem F :=
  { S with
    x := iblk m c 0 t
    xrin := iblk m c 1 t
    wp := iblk m c 2 t
    ws := iblk m c 3 t
    wr := iblk m c 4 t
    sr := iblk m c 5 t
    tgt := iblk m c 6 t
    lp := Y7, lq := Y8, kl := Y9, codes := Y10, scales := Y11 }

theorem before_in (c : Dev nD) (t : Fin cfg0.N) :
    (∀ d, (dat m P c).before 0 t d = iblk m c 0 t) ∧ (∀ d, (dat m P c).before 1 t d = iblk m c 1 t)
    ∧ (∀ d, (dat m P c).before 2 t d = iblk m c 2 t) ∧ (∀ d, (dat m P c).before 3 t d = iblk m c 3 t)
    ∧ (∀ d, (dat m P c).before 4 t d = iblk m c 4 t) ∧ (∀ d, (dat m P c).before 5 t d = iblk m c 5 t)
    ∧ (∀ d, (dat m P c).before 6 t d = iblk m c 6 t) :=
  ⟨fun d => before0_0_of m _ rfl (fun _ => rfl) t d, fun d => before0_1_of m _ rfl (fun _ => rfl) t d,
   fun d => before0_2_of m _ rfl (fun _ => rfl) t d, fun d => before0_3_of m _ rfl (fun _ => rfl) t d,
   fun d => before0_4_of m _ rfl (fun _ => rfl) t d, fun d => before0_5_of m _ rfl (fun _ => rfl) t d,
   fun d => before0_6_of m _ rfl (fun _ => rfl) t d⟩

theorem keeps (t : ℕ) (S : Mem F) : (stepM t S).x = S.x ∧ (stepM t S).xrin = S.xrin ∧ (stepM t S).wp = S.wp ∧ (stepM t S).ws = S.ws
    ∧ (stepM t S).wr = S.wr ∧ (stepM t S).sr = S.sr ∧ (stepM t S).tgt = S.tgt := by
  unfold stepM
  split
  · exact ⟨rfl, rfl, rfl, rfl, rfl, rfl, rfl⟩
  · split
    · exact ⟨rfl, rfl, rfl, rfl, rfl, rfl, rfl⟩
    · exact ⟨rfl, rfl, rfl, rfl, rfl, rfl, rfl⟩

def bodyPre (c : Dev nD) (t : Fin cfg0.N) : sProp 𝕄 :=
  iprop(ΦS P c t.val ∗ (dat m P c).owesAt () t.castSucc
    ∗ (∃ d, owns (c : Thread nD τ) (st0_0 t) fullShare ((dat m P c).before 0 t d))
    ∗ (∃ d, owns (c : Thread nD τ) (st0_1 t) fullShare ((dat m P c).before 1 t d))
    ∗ (∃ d, owns (c : Thread nD τ) (st0_2 t) fullShare ((dat m P c).before 2 t d))
    ∗ (∃ d, owns (c : Thread nD τ) (st0_3 t) fullShare ((dat m P c).before 3 t d))
    ∗ (∃ d, owns (c : Thread nD τ) (st0_4 t) fullShare ((dat m P c).before 4 t d))
    ∗ (∃ d, owns (c : Thread nD τ) (st0_5 t) fullShare ((dat m P c).before 5 t d))
    ∗ (∃ d, owns (c : Thread nD τ) (st0_6 t) fullShare ((dat m P c).before 6 t d))
    ∗ (∃ Y, ⌜(rdat m P c).Finds 7 t Y⌝ ∗ owns (c : Thread nD τ) (st0_7 t) fullShare Y)
    ∗ (∃ Y, ⌜(rdat m P c).Finds 8 t Y⌝ ∗ owns (c : Thread nD τ) (st0_8 t) fullShare Y)
    ∗ (∃ Y, ⌜(rdat m P c).Finds 9 t Y⌝ ∗ owns (c : Thread nD τ) (st0_9 t) fullShare Y)
    ∗ (∃ Y, ⌜(rdat m P c).Finds 10 t Y⌝ ∗ owns (c : Thread nD τ) (st0_10 t) fullShare Y)
    ∗ (∃ Y, ⌜(rdat m P c).Finds 11 t Y⌝ ∗ owns (c : Thread nD τ) (st0_11 t) fullShare Y))

def bodyPost (c : Dev nD) (t : Fin cfg0.N) : sProp 𝕄 :=
  iprop(ΦS P c (t.val + 1) ∗ (dat m P c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ (∃ X, ⌜P.lp c t.val X⌝ ∗ owns (c : Thread nD τ) (st0_7 t) fullShare X)
    ∗ (∃ X, ⌜P.lq c t.val X⌝ ∗ owns (c : Thread nD τ) (st0_8 t) fullShare X)
    ∗ (∃ X, ⌜P.kl c t.val X⌝ ∗ owns (c : Thread nD τ) (st0_9 t) fullShare X)
    ∗ (∃ X, ⌜P.codes c t.val X⌝ ∗ owns (c : Thread nD τ) (st0_10 t) fullShare X)
    ∗ (∃ X, ⌜P.scales c t.val X⌝ ∗ owns (c : Thread nD τ) (st0_11 t) fullShare X))

theorem before_entry (h : P.Ok m) (c : Dev nD) (t : Fin cfg0.N) (S : Mem F) (hS : P.inv c t.val S) (Y7 Y8 Y9 : Vec F S2x128 .f32)
    (Y10 : Vec F S256x1024 .fp8e4m3) (Y11 : Vec F S2x128 .f32) (h7 : (rdat m P c).Finds 7 t Y7) (h8 : (rdat m P c).Finds 8 t Y8)
    (h9 : (rdat m P c).Finds 9 t Y9) (h10 : (rdat m P c).Finds 10 t Y10) (h11 : (rdat m P c).Finds 11 t Y11) :
    P.Before m c t (entry m c t S Y7 Y8 Y9 Y10 Y11) where
  inv := h.scr c _ S _ rfl rfl rfl rfl rfl rfl rfl rfl rfl rfl rfl rfl rfl hS
  x := rfl
  xrin := rfl
  wp := rfl
  ws := rfl
  wr := rfl
  sr := rfl
  tgt := rfl
  lp ht := found m P c 7 (by decide) (by decide) t _ ht h7
  lq ht := found m P c 8 (by decide) (by decide) t _ ht h8
  kl ht := found m P c 9 (by decide) (by decide) t _ ht h9
  codes ht := found m P c 10 (by decide) (by decide) t _ ht h10
  scales ht := found m P c 11 (by decide) (by decide) t _ ht h11

theorem sound_body (h : P.Ok m) (c : Dev nD) (t : Fin cfg0.N) :
    bodyPre m P c t ⊢ wp frame (wpE (defs₀ (F := F)) Variants.none c none) Set.univ (bodyAt0 t) (fun _ => bodyPost m P c t) := by
  obtain ⟨b0, b1, b2, b3, b4, b5, b6⟩ := before_in m P c t
  unfold bodyPre bodyPost ΦS Dat.owesAt Pipeline.owesWithin
  rw [show (dat m P c).owed t.castSucc = 0 from rfl, show (dat m P c).owed t.succ = 0 from rfl]
  simp only [b0, b1, b2, b3, b4, b5, b6]
  iintro ⟨⟨⟨%S, %hS, HS⟩, Hg⟩, ⟨%W, -, HW⟩, ⟨%d0, H0⟩, ⟨%d1, H1⟩, ⟨%d2, H2⟩, ⟨%d3, H3⟩, ⟨%d4, H4⟩, ⟨%d5, H5⟩, ⟨%d6, H6⟩,
    ⟨%Y7, %h7, H7⟩, ⟨%Y8, %h8, H8⟩, ⟨%Y9, %h9, H9⟩, ⟨%Y10, %h10, H10⟩, ⟨%Y11, %h11, H11⟩⟩
  have hB := before_entry m P h c t S hS Y7 Y8 Y9 Y10 Y11 h7 h8 h9 h10 h11
  have hA := h.step c t _ hB
  have hk := keeps t.val (entry m c t S Y7 Y8 Y9 Y10 Y11)
  have hr := (body_runs t (args t) (entry m c t S Y7 Y8 Y9 Y10 Y11)).wp c Variants.none Set.univ
  generalize hT : stepM t.val (entry m c t S Y7 Y8 Y9 Y10 Y11) = T at hA hk hr
  obtain ⟨k0, k1, k2, k3, k4, k5, k6⟩ := hk
  iapply hr
  isplitl [HS H0 H1 H2 H3 H4 H5 H6 H7 H8 H9 H10 H11]
  · iapply own_join c t
    isplitl [H0 H1 H2 H3 H4 H5 H6 H7 H8 H9 H10 H11]
    · unfold wins entry
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    · unfold entry scr; iexact HS
  iintro HT
  ihave HT := own_split c t T $$ HT
  icases HT with ⟨HT, HS⟩
  unfold wins
  rw [k0, k1, k2, k3, k4, k5, k6]
  icases HT with ⟨H0, H1, H2, H3, H4, H5, H6, H7, H8, H9, H10, H11⟩
  isplitl [HS Hg]
  · isplitl [HS]
    · iexists T
      isplitr; · ipureintro; exact hA.inv
      iexact HS
    · iexact Hg
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · iexists T.lp; isplitr; · ipureintro; exact hA.lp
    iexact H7
  isplitl [H8]
  · iexists T.lq; isplitr; · ipureintro; exact hA.lq
    iexact H8
  isplitl [H9]
  · iexists T.kl; isplitr; · ipureintro; exact hA.kl
    iexact H9
  isplitl [H10]
  · iexists T.codes; isplitr; · ipureintro; exact hA.codes
    iexact H10
  iexists T.scales; isplitr; · ipureintro; exact hA.scales
  iexact H11

theorem body_obligation (h : P.Ok m) (c : Dev nD) :
    Pipeline.BodyObligationRel (dat m P c) (defs₀ (F := F)) Variants.none () Set.univ fgt (Rl P c) := fun t => by
  rw [bigSep_W0, bigSep_W0, defs₀_row]
  refine triple_restated (sound_body m P h c t) rfl ?_ ?_
  · exact Entails.of_eq rfl
  · intro _
    exact Entails.of_eq rfl

/-- The first grid point. -/
def t₀ : Fin cfg0.N := ⟨0, by decide⟩

theorem phi_in (h : P.Ok m) (c : Dev nD) : Pipeline.ΦA spec0 c ⊢ (ΦS P c 0 : sProp 𝕄) := by
  unfold Pipeline.ΦA ΦS
  rw [scopedRest0_eq]
  iintro ⟨⟨⟨%f0, H0⟩, ⟨%f1, H1⟩, ⟨%f2, H2⟩, ⟨%f3, H3⟩, ⟨%f4, H4⟩, ⟨%f5, H5⟩, ⟨%f6, H6⟩, ⟨%f7, H7⟩, ⟨%f8, H8⟩, ⟨%f9, H9⟩, ⟨%f10, H10⟩, ⟨%f11, H11⟩,
    ⟨%f12, H12⟩⟩, Hg⟩
  isplitr [Hg]
  · iexists (⟨iblk m c 0 t₀, iblk m c 1 t₀, iblk m c 2 t₀, iblk m c 3 t₀, iblk m c 4 t₀, iblk m c 5 t₀, iblk m c 6 t₀, iblk m c 7 t₀, iblk m c 8 t₀, iblk m c 9 t₀, iblk m c 10 t₀, iblk m c 11 t₀,
      f0, f1, f2, f3, f4, f5, f6, f7, f8, f9, f10, f11, f12⟩ : Mem F)
    isplitr; · ipureintro; exact h.init c _
    unfold scr
    simp only [owns_whole]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · iexact Hg

theorem phi_out (c : Dev nD) (n : ℕ) : (ΦS P c n : sProp 𝕄) ⊢ Pipeline.ΦA spec0 c := by
  unfold Pipeline.ΦA ΦS scr
  rw [scopedRest0_eq]
  simp only [owns_whole]
  iintro ⟨⟨%S, -, ⟨H0, H1, H2, H3, H4, H5, H6, H7, H8, H9, H10, H11, H12⟩⟩, Hg⟩
  isplitr [Hg]
  · isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iexists _; iexact H12
  · iexact Hg

set_option backward.isDefEq.respectTransparency.types false in
/-- The kernel runs from every start, and its arrays end as the proof data say. -/
theorem run_post (h : P.Ok m) : θ_run defs (onTc (τ := τ) (main (F := F))) (s₀ m ρ)
    (fun r => Pipeline.RDat.FramePost cfg0 (rdat m P) (V m) r ∧ r.2.sem = fun _ => 0) :=
  RDat.θ_run_frame_track (Q' := _) cfgs (0 : Fin 1) launch0 defs₀ Variants.none (rdat m P) m ρ main
    (hbody := fun c => (body_obligation m P h c).toRRel) (hshare := fun c => (dat m P c).share_full fun _ => rfl)
    (howed := fun _ _ => rfl) (V := V m) (hmain := hmain m Variants.none) (hA := fun _ _ => rfl)
    (hin := phi_in m P h) (hout := fun c => phi_out P c _)

theorem out_lp (c : Dev nD) (G : Buf (Elt F) ((c : Thread nD τ).loc main_v4_0)) (h : (rdat m P c).ArrAt 7 cfg0.N G) : P.lp c 25 G := by
  obtain ⟨X, hX, hG⟩ := RDat.ArrAt.emb_eq_of_wholeAt h (t₀ := ⟨25, by decide⟩) (by decide +kernel)
  have e : G = X := funext fun j => hG j
  rw [e]
  exact (dat m P c).toRRel_leaves (w := 7) (by decide) hX

theorem out_lq (c : Dev nD) (G : Buf (Elt F) ((c : Thread nD τ).loc main_v4_1)) (h : (rdat m P c).ArrAt 8 cfg0.N G) : P.lq c 25 G := by
  obtain ⟨X, hX, hG⟩ := RDat.ArrAt.emb_eq_of_wholeAt h (t₀ := ⟨25, by decide⟩) (by decide +kernel)
  have e : G = X := funext fun j => hG j
  rw [e]
  exact (dat m P c).toRRel_leaves (w := 8) (by decide) hX

theorem out_kl (c : Dev nD) (G : Buf (Elt F) ((c : Thread nD τ).loc main_v4_2)) (h : (rdat m P c).ArrAt 9 cfg0.N G) : P.kl c 25 G := by
  obtain ⟨X, hX, hG⟩ := RDat.ArrAt.emb_eq_of_wholeAt h (t₀ := ⟨25, by decide⟩) (by decide +kernel)
  have e : G = X := funext fun j => hG j
  rw [e]
  exact (dat m P c).toRRel_leaves (w := 9) (by decide) hX

theorem out_codes (c : Dev nD) (G : Buf (Elt F) ((c : Thread nD τ).loc main_v4_3)) (h : (rdat m P c).ArrAt 10 cfg0.N G) : P.codes c 25 G := by
  obtain ⟨X, hX, hG⟩ := RDat.ArrAt.emb_eq_of_wholeAt h (t₀ := ⟨25, by decide⟩) (by decide +kernel)
  have e : G = X := funext fun j => hG j
  rw [e]
  exact (dat m P c).toRRel_leaves (w := 10) (by decide) hX

theorem out_scales (c : Dev nD) (G : Buf (Elt F) ((c : Thread nD τ).loc main_v4_4)) (h : (rdat m P c).ArrAt 11 cfg0.N G) : P.scales c 25 G := by
  obtain ⟨X, hX, hG⟩ := RDat.ArrAt.emb_eq_of_wholeAt h (t₀ := ⟨25, by decide⟩) (by decide +kernel)
  have e : G = X := funext fun j => hG j
  rw [e]
  exact (dat m P c).toRRel_leaves (w := 11) (by decide) hX

/-- The kernel runs from every start: it ends with its arguments as they were, its semaphores at zero, and what `P` says
    of its results. -/
theorem run (h : P.Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ (∀ c : Dev nD, P.lp c 25 (r.2.mem ((c.tc : Thread nD τ).loc main_v4_0)) ∧ P.lq c 25 (r.2.mem ((c.tc : Thread nD τ).loc main_v4_1))
        ∧ P.kl c 25 (r.2.mem ((c.tc : Thread nD τ).loc main_v4_2)) ∧ P.codes c 25 (r.2.mem ((c.tc : Thread nD τ).loc main_v4_3))
        ∧ P.scales c 25 (r.2.mem ((c.tc : Thread nD τ).loc main_v4_4)))
      ∧ r.2.sem = fun _ => 0) :=
  (θ_run defs _ _).mono (fun r ⟨h, hs⟩ => ⟨fun c => ⟨
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      (h.arr_in c 2 rfl).trans (V_main_arg2 m c),
      ((h c).2 main_arg3 (Pipeline.mem_restRefs_of main_arg3 (by decide) (by decide))).trans (V_main_arg3 m c),
      (h.arr_in c 4 rfl).trans (V_main_arg4 m c),
      ((h c).2 main_arg5 (Pipeline.mem_restRefs_of main_arg5 (by decide) (by decide))).trans (V_main_arg5 m c),
      (h.arr_in c 6 rfl).trans (V_main_arg6 m c)⟩,
    fun c => ⟨out_lp m P c _ ((h c).1 7), out_lq m P c _ ((h c).1 8), out_kl m P c _ ((h c).1 9), out_codes m P c _ ((h c).1 10),
      out_scales m P c _ ((h c).1 11)⟩, hs⟩) (run_post m ρ P h)

variable (F) in
/-- Nothing known of any buffer: what is left is the frame. -/
def free : Spec F := ⟨fun _ _ _ => True, fun _ _ _ => True, fun _ _ _ => True, fun _ _ _ => True, fun _ _ _ => True, fun _ _ _ => True⟩

theorem free_ok : (free F).Ok m := ⟨fun _ _ => trivial, fun _ _ _ _ => ⟨trivial, trivial, trivial, trivial, trivial, trivial⟩, fun _ _ _ _ _ _ _ _ _ _ _ _ _ _ _ _ _ _ => trivial⟩

/-- The frame: the kernel runs from every start and leaves its arguments alone. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨h.1, h.2.2⟩) (run m ρ (free F) (free_ok m))

end Cert.KernelIdeal.Hand
-- ==== Proof.Value.Entry.lean ====
/-
  What the kernel's windows hold at a grid point: the whole arguments, or the chunk's rows of them.
-/
module
public import proofs.«01_k».proof.Proof.Gen.KernelIdeal.Frame
public import Idealize.ShloMosaic.Lib.Pipeline.ValueKit
public import Idealize.ShloMosaic.Lib.Claim

@[expose] public section
noncomputable section

namespace Cert.KernelIdeal.Val

open Cert.KernelIdeal Cert.KernelIdeal.Gen
open Idealize.ShloMosaic hiding ix1 ix2 ix3
open Idealize.ShloMosaic.TcCoe Idealize.SL.Sem Idealize.ShloMosaic.ValueIdx

variable (m : (ℓ : Loc nD τ sig) → Buf (Elt Ideal) ℓ)

theorem idxW : ∀ t : Fin cfg0.N, win0_0.index t = ![0, 0] ∧ win0_1.index t = ![0, 0] ∧ win0_6.index t = ![0, 0] := by decide +kernel

theorem idxC : ∀ t : Fin cfg0.N, t.val < 25 → win0_2.index t = ![t.val, 0] ∧ win0_3.index t = ![0, t.val] ∧ win0_4.index t = ![t.val, 0]
    ∧ win0_5.index t = ![0, t.val] := by decide +kernel

theorem blk0 (c : Dev nD) (t : Fin cfg0.N) : iblk m c 0 t = shapeCast S256x1024 (m ((c : Thread nD τ).loc main_arg0)) Facts₀.shapeCasts_S2x128x1024_S256x1024 := by
  funext y
  obtain ⟨e0, e1, e6⟩ := idxW t
  blk_ext [iblk, V, e0]

theorem blk1 (c : Dev nD) (t : Fin cfg0.N) : iblk m c 1 t = shapeCast S256x1024 (m ((c : Thread nD τ).loc main_arg1)) Facts₀.shapeCasts_S2x128x1024_S256x1024 := by
  funext y
  obtain ⟨e0, e1, e6⟩ := idxW t
  blk_ext [iblk, V, e1]

theorem blk6 (c : Dev nD) (t : Fin cfg0.N) : iblk m c 6 t = m ((c : Thread nD τ).loc main_arg6) := by
  funext y
  obtain ⟨e0, e1, e6⟩ := idxW t
  blk_ext [iblk, V, e6]

/-- Class `j` of chunk `n`. -/
def at_ (n : ℕ) (hn : n < 25) (j : Fin 1280) : Fin 32000 := ⟨1280 * n + j.val, by omega⟩

theorem blk2 (c : Dev nD) (t : Fin cfg0.N) (h : t.val < 25) (j : Fin 1280) (k : Fin 1024) :
    (iblk m c 2 t : S1280x1024.Idx → EReal) (ix2 j k) = m ((c : Thread nD τ).loc main_arg2) (ix2 (at_ t.val h j) k) := by
  obtain ⟨e2, e3, e4, e5⟩ := idxC t h
  unfold at_
  blk_ext [iblk, V, e2]
  show t.val * 1280 + j.val = 1280 * t.val + j.val
  omega

theorem blk4 (c : Dev nD) (t : Fin cfg0.N) (h : t.val < 25) (j : Fin 1280) (k : Fin 512) :
    (iblk m c 4 t : S1280x512.Idx → BitVec 8) (ix2 j k) = m ((c : Thread nD τ).loc main_arg4) (ix2 (at_ t.val h j) k) := by
  obtain ⟨e2, e3, e4, e5⟩ := idxC t h
  unfold at_
  blk_ext [iblk, V, e4]
  show t.val * 1280 + j.val = 1280 * t.val + j.val
  omega

theorem blk3 (c : Dev nD) (t : Fin cfg0.N) (h : t.val < 25) (z : Fin 1) (j : Fin 1280) :
    (iblk m c 3 t : S1x1280.Idx → EReal) (ix2 z j) = m ((c : Thread nD τ).loc main_arg3) (ix1 (at_ t.val h j)) := by
  obtain ⟨e2, e3, e4, e5⟩ := idxC t h
  unfold at_
  blk_ext! [iblk, V, e3]
  show t.val * 1280 + j.val = 1280 * t.val + j.val
  omega

theorem blk5 (c : Dev nD) (t : Fin cfg0.N) (h : t.val < 25) (g : Fin 8) (j : Fin 1280) :
    (iblk m c 5 t : S8x1280.Idx → EReal) (ix2 g j) = m ((c : Thread nD τ).loc main_arg5) (ix2 (at_ t.val h j) g) := by
  obtain ⟨e2, e3, e4, e5⟩ := idxC t h
  unfold at_
  blk_ext! [iblk, V, e5]
  show t.val * 1280 + j.val = 1280 * t.val + j.val
  omega

end Cert.KernelIdeal.Val
-- ==== Proof.Value.Alg.lean ====
/-
  The mathematics of the online softmax over the extended reals: sums of powers of two taken relative to a running
  maximum, rescaled when the maximum grows, and taken at the end relative to another maximum.
-/
module
public import Idealize.ShloMosaic.PureOps.Ideal
public import Idealize.ShloMosaic.PureOps.Ideal.Laws

@[expose] public section
noncomputable section

namespace Cert.Val

open Idealize.ShloMosaic

theorem exp2_nonneg (x : EReal) : 0 ≤ Ideal.exp2 x := by
  induction x with
  | bot => simp
  | top => simp
  | coe r => rw [Ideal.exp2_coe]; exact_mod_cast (Real.rpow_pos_of_pos two_pos r).le

theorem exp2_real (r : ℝ) : Ideal.exp2 (r : EReal) = (((2 : ℝ) ^ r : ℝ) : EReal) := Ideal.exp2_coe r

/-- The factor of a rescaling is finite. -/
theorem exp2_sub_ne_top {M N : EReal} (h : M ≤ N) (hM : M ≠ ⊥) : Ideal.exp2 (M - N) ≠ ⊤ := by
  induction M with
  | bot => exact absurd rfl hM
  | top => rw [top_le_iff.mp h]; simp
  | coe r =>
    induction N with
    | bot => simp at h
    | top => simp
    | coe s => rw [← EReal.coe_sub, exp2_real]; exact EReal.coe_ne_top _

/-- One power of two rescaled from `M` to `N`. -/
theorem exp2_resc (a : EReal) {M N : EReal} (h : M ≤ N) (hM : M ≠ ⊥) :
    Ideal.exp2 (a - M) * Ideal.exp2 (M - N) = Ideal.exp2 (a - N) := by
  induction M with
  | bot => exact absurd rfl hM
  | top => rw [top_le_iff.mp h]; simp
  | coe r =>
    induction N with
    | bot => simp at h
    | top => simp
    | coe s =>
      induction a with
      | bot => simp
      | top =>
        rw [EReal.top_sub_coe, EReal.top_sub_coe, Ideal.exp2_top, ← EReal.coe_sub, exp2_real]
        exact EReal.top_mul_of_pos (by exact_mod_cast Real.rpow_pos_of_pos two_pos _)
      | coe q =>
        rw [← EReal.coe_sub, ← EReal.coe_sub, ← EReal.coe_sub, exp2_real, exp2_real, exp2_real, ← EReal.coe_mul,
          ← Real.rpow_add two_pos]
        congr 2; ring

theorem sum_mul {ι : Type} (s : Finset ι) (f : ι → EReal) {c : EReal} (h0 : 0 ≤ c) (h1 : c ≠ ⊤) :
    (∑ v ∈ s, f v) * c = ∑ v ∈ s, f v * c := by
  classical
  induction s using Finset.induction with
  | empty => simp
  | insert a s ha ih => rw [Finset.sum_insert ha, Finset.sum_insert ha, EReal.right_distrib_of_nonneg_of_ne_top h0 h1, ih]

/-- A weighted sum of powers of two relative to `M`. -/
def W {ι : Type} (s : Finset ι) (a w : ι → EReal) (M : EReal) : EReal := ∑ v ∈ s, Ideal.exp2 (a v - M) * w v

/-- A weighted sum rescaled. -/
theorem W_resc {ι : Type} (s : Finset ι) (a w : ι → EReal) {M N : EReal} (h : M ≤ N) (hM : M ≠ ⊥) :
    W s a w M * Ideal.exp2 (M - N) = W s a w N := by
  unfold W
  rw [sum_mul s _ (exp2_nonneg _) (exp2_sub_ne_top h hM)]
  refine Finset.sum_congr rfl fun v _ => ?_
  rw [mul_right_comm, exp2_resc _ h hM]

/-- The least value a running maximum starts from: a finite one. -/
theorem max_ne_bot {x y : EReal} (h : x ≠ ⊥) : max x y ≠ ⊥ := fun e => h (le_bot_iff.mp (e ▸ le_max_left x y))

/-! ## From the running maximum to the maximum itself -/

theorem W_nonneg {ι : Type} (s : Finset ι) (a : ι → EReal) (M : EReal) : 0 ≤ W s a 1 M :=
  Finset.sum_nonneg fun v _ => by simpa using exp2_nonneg _

theorem W_bot {ι : Type} (s : Finset ι) (a w : ι → EReal) (h : ∀ v ∈ s, a v ≤ ⊥) (M : EReal) : W s a w M = 0 :=
  Finset.sum_eq_zero fun v hv => by rw [le_bot_iff.mp (h v hv)]; simp

theorem div_scale (x y : EReal) (hy : 0 ≤ y) (p : ℝ) (hp : 0 < p) : Ideal.div (x * p) (y * p) = Ideal.div x y := by
  have hx : 0 < x * p ↔ 0 < x := by
    constructor
    · intro h
      by_contra h'
      have := mul_nonpos_of_nonpos_of_nonneg (not_lt.mp h') (b := (p : EReal)) (by exact_mod_cast hp.le)
      exact absurd h (not_lt.mpr this)
    · intro h; exact EReal.mul_pos h (by exact_mod_cast hp)
  unfold Ideal.div
  induction y with
  | bot => simp at hy
  | top => rw [EReal.top_mul_coe_of_pos hp]; simp
  | coe q =>
    by_cases hq : q = 0
    · subst hq
      rw [EReal.coe_zero, zero_mul, if_pos rfl, if_pos rfl]
      simp only [hx]
    · have h1 : (q : EReal) ≠ 0 := by exact_mod_cast hq
      have h2 : ((q * p : ℝ) : EReal) ≠ 0 := by exact_mod_cast mul_ne_zero hq hp.ne'
      rw [← EReal.coe_mul, if_neg h1, if_neg h2, ← EReal.coe_inv, ← EReal.coe_inv, mul_assoc, ← EReal.coe_mul]
      congr 2
      field_simp

/-- The quotient of two sums does not depend on what they are relative to. -/
theorem quot_shift {ι : Type} (s : Finset ι) (a w : ι → EReal) {m : EReal} (hm : ∀ v ∈ s, a v ≤ m) (c : ℝ) :
    Ideal.div (W s a w (max c m)) (W s a 1 (max c m)) = Ideal.div (W s a w m) (W s a 1 m) := by
  rcases le_total (c : EReal) m with h | h
  · rw [max_eq_right h]
  · rw [max_eq_left h]
    induction m with
    | bot => rw [W_bot s a w hm, W_bot s a w hm, W_bot s a 1 hm, W_bot s a 1 hm]
    | top => rw [top_le_iff.mp h]
    | coe r =>
      rw [← W_resc s a w h (EReal.coe_ne_bot r), ← W_resc s a 1 h (EReal.coe_ne_bot r), ← EReal.coe_sub, exp2_real]
      exact div_scale _ _ (W_nonneg s a _) _ (Real.rpow_pos_of_pos two_pos _)

theorem log_coe_nonpos {q : ℝ} (h : q ≤ 0) : Ideal.log (q : EReal) = ⊥ := if_pos h
theorem log_coe_pos {q : ℝ} (h : 0 < q) : Ideal.log (q : EReal) = ((Real.log q : ℝ) : EReal) := if_neg (not_le.mpr h)
theorem log_top' : Ideal.log ⊤ = ⊤ := rfl

/-- The logarithm of the sum, with what it is relative to added, does not depend on it. -/
theorem log_shift {ι : Type} (s : Finset ι) (a : ι → EReal) {m : EReal} (hm : ∀ v ∈ s, a v ≤ m) (c : ℝ) :
    max (c : EReal) m + Ideal.log (W s a 1 (max c m)) * ((((Real.log 2)⁻¹ : ℝ)) : EReal)
      = m + Ideal.log (W s a 1 m) * ((((Real.log 2)⁻¹ : ℝ)) : EReal) := by
  have l2 : 0 < Real.log 2 := Real.log_pos one_lt_two
  have lp : 0 < (Real.log 2)⁻¹ := by positivity
  rcases le_total (c : EReal) m with h | h
  · rw [max_eq_right h]
  · rw [max_eq_left h]
    induction m with
    | bot =>
      rw [W_bot s a 1 hm, W_bot s a 1 hm, ← EReal.coe_zero, log_coe_nonpos le_rfl, EReal.bot_mul_coe_of_pos lp]; simp
    | top => rw [top_le_iff.mp h]
    | coe r =>
      rw [← W_resc s a 1 h (EReal.coe_ne_bot r), ← EReal.coe_sub, exp2_real]
      have hp : 0 < (2 : ℝ) ^ (r - c) := Real.rpow_pos_of_pos two_pos _
      have hn := W_nonneg s a (r : EReal)
      generalize W s a 1 (r : EReal) = y at hn ⊢
      induction y with
      | bot => simp at hn
      | top =>
        rw [EReal.top_mul_coe_of_pos hp, log_top', EReal.top_mul_coe_of_pos lp]; simp
      | coe q =>
        rw [← EReal.coe_mul]
        have hq : 0 ≤ q := by exact_mod_cast hn
        rcases hq.eq_or_lt with hq | hq
        · subst hq
          rw [zero_mul, log_coe_nonpos le_rfl, EReal.bot_mul_coe_of_pos lp]; simp
        · rw [log_coe_pos (mul_pos hq hp), log_coe_pos hq, Real.log_mul hq.ne' hp.ne', Real.log_rpow two_pos,
            ← EReal.coe_mul, ← EReal.coe_mul, ← EReal.coe_add, ← EReal.coe_add]
          congr 1
          field_simp
          ring

/-! ## Units of `log 2` -/

/-- One over `log 2`. -/
def L : ℝ := (Real.log 2)⁻¹

theorem L_pos : 0 < L := by have : 0 < Real.log 2 := Real.log_pos one_lt_two; unfold L; positivity

theorem L_ln2 : L * Real.log 2 = 1 := by have : 0 < Real.log 2 := Real.log_pos one_lt_two; unfold L; field_simp

theorem mul_L_ln2 (x : EReal) : x * (L : EReal) * ((Real.log 2 : ℝ) : EReal) = x := by
  rw [mul_assoc, ← EReal.coe_mul, L_ln2, EReal.coe_one, mul_one]

theorem add_mul_pos (x y : EReal) {p : ℝ} (hp : 0 < p) : (x + y) * (p : EReal) = x * p + y * p :=
  EReal.right_distrib_of_nonneg_of_ne_top (by exact_mod_cast hp.le) (EReal.coe_ne_top p) x y

theorem sub_mul_pos (x y : EReal) {p : ℝ} (hp : 0 < p) : (x - y) * (p : EReal) = x * p - y * p := by
  rw [sub_eq_add_neg, add_mul_pos _ _ hp, neg_mul, ← sub_eq_add_neg]

theorem exp_eq (x : EReal) : Ideal.exp x = Ideal.exp2 (x * L) := by
  induction x with
  | bot => rw [EReal.bot_mul_coe_of_pos L_pos]; rfl
  | top => rw [EReal.top_mul_coe_of_pos L_pos]; rfl
  | coe r =>
    rw [← EReal.coe_mul, exp2_real]
    show ((Real.exp r : ℝ) : EReal) = _
    congr 1
    rw [Real.rpow_def_of_pos two_pos]
    congr 1
    have := L_ln2
    calc r = r * (L * Real.log 2) := by rw [this, mul_one]
      _ = _ := by ring

theorem mul_L_le {x y : EReal} (h : x ≤ y) : x * (L : EReal) ≤ y * L :=
  mul_le_mul_of_nonneg_right h (by exact_mod_cast L_pos.le)

theorem div_mul_pos (x y : EReal) (p : ℝ) (hp : 0 < p) : Ideal.div (x * p) y = Ideal.div x y * p := by
  unfold Ideal.div
  have hx : 0 < x * p ↔ 0 < x := by
    constructor
    · intro h
      by_contra h'
      have := mul_nonpos_of_nonpos_of_nonneg (not_lt.mp h') (b := (p : EReal)) (by exact_mod_cast hp.le)
      exact absurd h (not_lt.mpr this)
    · intro h; exact EReal.mul_pos h (by exact_mod_cast hp)
  simp only [hx]
  split_ifs
  · rw [EReal.top_mul_coe_of_pos hp]
  · rw [EReal.bot_mul_coe_of_pos hp]
  · exact mul_right_comm _ _ _

/-! ## A token's results -/

section token
variable {ι : Type} (s : Finset ι) (zp zq : ι → EReal) (c : ℝ)

/-- The sum of exponentials, in the reference's units. -/
def sumExp (z : ι → EReal) (m : EReal) : EReal := ∑ v ∈ s, Ideal.exp (z v - m)

theorem sumExp_eq (z : ι → EReal) (m : EReal) : sumExp s z m = W s (fun v => z v * L) 1 (m * L) :=
  Finset.sum_congr rfl fun v _ => by rw [exp_eq, sub_mul_pos _ _ L_pos]; simp

/-- The sum of the logits' differences, weighted. -/
def sumDiff (m : EReal) : EReal := ∑ v ∈ s, Ideal.exp (zp v - m) * (zp v - zq v)

theorem sumDiff_eq (m : EReal) : sumDiff s zp zq m * L = W s (fun v => zp v * L) (fun v => zp v * L - zq v * L) (m * L) := by
  unfold sumDiff
  rw [sum_mul s _ (by exact_mod_cast L_pos.le) (EReal.coe_ne_top L)]
  refine Finset.sum_congr rfl fun v _ => ?_
  rw [exp_eq, sub_mul_pos _ _ L_pos, mul_assoc, sub_mul_pos _ _ L_pos]

/-- The log of the sum of exponentials: the kernel's value is the reference's in units of `log 2`. -/
theorem lse_eq (z : ι → EReal) {m : EReal} (hm : ∀ v ∈ s, z v ≤ m) :
    max (c : EReal) (m * L) + Ideal.log (W s (fun v => z v * L) 1 (max c (m * L))) * (L : EReal)
      = (m + Ideal.log (sumExp s z m)) * L := by
  rw [add_mul_pos _ _ L_pos, sumExp_eq]
  exact log_shift s (fun v => z v * L) (fun v hv => mul_L_le (hm v hv)) c

/-- One token's log-probability. -/
theorem logp_eq (z : ι → EReal) {m : EReal} (hm : ∀ v ∈ s, z v ≤ m) (t : EReal) :
    (t * L - (max (c : EReal) (m * L) + Ideal.log (W s (fun v => z v * L) 1 (max c (m * L))) * (L : EReal))) * ((Real.log 2 : ℝ) : EReal)
      = t - (m + Ideal.log (sumExp s z m)) := by
  rw [lse_eq s c z hm, ← sub_mul_pos _ _ L_pos, mul_L_ln2]

/-- One token's divergence. -/
theorem kl_eq {m n : EReal} (hm : ∀ v ∈ s, zp v ≤ m) (hn : ∀ v ∈ s, zq v ≤ n) :
    (Ideal.div (W s (fun v => zp v * L) (fun v => zp v * L - zq v * L) (max c (m * L))) (W s (fun v => zp v * L) 1 (max c (m * L)))
        - (max (c : EReal) (m * L) + Ideal.log (W s (fun v => zp v * L) 1 (max c (m * L))) * (L : EReal))
        + (max (c : EReal) (n * L) + Ideal.log (W s (fun v => zq v * L) 1 (max c (n * L))) * (L : EReal))) * ((Real.log 2 : ℝ) : EReal)
      = Ideal.div (sumDiff s zp zq m) (sumExp s zp m) - (m + Ideal.log (sumExp s zp m)) + (n + Ideal.log (sumExp s zq n)) := by
  rw [lse_eq s c zp hm, lse_eq s c zq hn, quot_shift s _ _ (fun v hv => mul_L_le (hm v hv)) c, ← sumDiff_eq, ← sumExp_eq,
    div_mul_pos _ _ _ L_pos, ← sub_mul_pos _ _ L_pos, ← add_mul_pos _ _ L_pos, mul_L_ln2]

end token

end Cert.Val
-- ==== Proof.Value.Quant.lean ====
/-
  The scale of a token: how many powers of two are at most the token's largest value over 448, counted by comparing words
  of the powers, is the exponent that the floor of a logarithm gives; and the word made from the exponent is the power.
-/
module
public import proofs.«01_k».proof.Proof.Value.Alg
public import proofs.«01_k».proof.Proof.Ideal.Steps
public import Idealize.ShloMosaic.Lib.WordSum

@[expose] public section
noncomputable section

namespace Cert.Val

open Idealize.ShloMosaic Idealize.ShloMosaic.ValueIdx

/-! ## Words of powers of two -/

theorem word_parts : ∀ n : Fin 256, (BitVec.ofNat 32 (n.val * 2 ^ 23)).extractLsb' 31 1 = 0#1
    ∧ ((BitVec.ofNat 32 (n.val * 2 ^ 23)).extractLsb' 23 8).toNat = n.val ∧ ((BitVec.ofNat 32 (n.val * 2 ^ 23)).extractLsb' 0 23).toNat = 0 := by
  decide +kernel

/-- The word with exponent field `n` and nothing else set is `2 ^ (n - 127)`. -/
theorem ofBits_pow (n : ℕ) (h0 : 0 < n) (h1 : n < 255) :
    Ideal.ofBits .f32 (BitVec.ofNat 32 (n * 2 ^ 23)) = (((2 : ℝ) ^ ((n : ℤ) - 127) : ℝ) : EReal) := by
  obtain ⟨a, b, c⟩ := word_parts ⟨n, by omega⟩
  show Ideal.ieee 8 23 _ = _
  unfold Ideal.ieee
  simp only at a b c
  simp only [show (8 + 23 : ℕ) = 31 from rfl]
  rw [a, b, c, if_neg (by norm_num; omega), if_neg (by omega)]
  congr 1
  simp only [show ((0#1 == 1#1) : Bool) = false from rfl]
  norm_num
  rw [show (8388608 : ℝ) = 2 ^ (23 : ℤ) by norm_num, ← zpow_add₀ two_ne_zero]
  congr 1; ring

theorem ofBits_inf : Ideal.ofBits .f32 (BitVec.ofNat 32 (255 * 2 ^ 23)) = ⊤ := by
  obtain ⟨a, b, c⟩ := word_parts ⟨255, by omega⟩
  change Ideal.ieee 8 23 (BitVec.ofNat 32 (255 * 2 ^ 23)) = ⊤
  unfold Ideal.ieee
  simp only [show (8 + 23 : ℕ) = 31 from rfl]
  simp only at a b c
  rw [a, b, c]; simp

/-- The word the kernel compares a token with on lane `i`. -/
def laneW (i : BitVec 32) : BitVec 32 := IntOp.shli .vector (IntOp.minsi (IntOp.addi i 1#32) 255#32) 23#32

theorem laneW_eq : ∀ i : Fin 256, laneW (BitVec.ofNat 32 i.val) = BitVec.ofNat 32 (min (i.val + 1) 255 * 2 ^ 23) := by decide +kernel

/-- What lane `i` counts. -/
def laneC (q : EReal) (i : BitVec 32) : BitVec 32 :=
  Scalar.select (IntOp.ori (Ideal.cmp .olt q (Ideal.ofBits .f32 (laneW i))) (IntOp.cmpi .eq i 255#32)) 0#32 1#32

theorem laneC_last (q : EReal) : laneC q (BitVec.ofNat 32 255) = 0#32 := by
  unfold laneC
  have : ∀ b : BitVec 1, Scalar.select (IntOp.ori b (IntOp.cmpi .eq (BitVec.ofNat 32 255) 255#32)) 0#32 1#32 = 0#32 := by decide +kernel
  exact this _

theorem laneC_eq (q : EReal) (i : Fin 256) (hi : i.val ≠ 255) :
    laneC q (BitVec.ofNat 32 i.val) = if q < Ideal.ofBits .f32 (BitVec.ofNat 32 (min (i.val + 1) 255 * 2 ^ 23)) then 0#32 else 1#32 := by
  unfold laneC
  rw [laneW_eq]
  have h : ∀ i : Fin 256, i.val ≠ 255 → IntOp.cmpi .eq (BitVec.ofNat 32 i.val) 255#32 = 0#1 := by decide +kernel
  rw [h i hi]
  unfold Ideal.cmp
  by_cases hq : q < Ideal.ofBits .f32 (BitVec.ofNat 32 (min (i.val + 1) 255 * 2 ^ 23))
  · simp only [hq, decide_true, if_true]; decide
  · simp only [hq, decide_false, if_false]; decide

/-- The count for a `q` between `2 ^ k` and `2 ^ (k + 1)`. -/
theorem count_eq (q : ℝ) (k : ℤ) (h0 : -126 ≤ k) (h1 : k < 127) (hl : (2 : ℝ) ^ k ≤ q) (hu : q < (2 : ℝ) ^ (k + 1)) :
    ∑ i : Fin 256, (laneC (q : EReal) (BitVec.ofNat 32 i.val)).toNat = (k + 127).toNat := by
  obtain ⟨K, hK⟩ : ∃ K : ℕ, k + 127 = K := ⟨(k + 127).toNat, by omega⟩
  have e : ∀ i : Fin 256, (laneC (q : EReal) (BitVec.ofNat 32 i.val)).toNat = if i.val < K then 1 else 0 := by
    intro i
    by_cases hi : i.val = 255
    · rw [hi, laneC_last, if_neg (by omega)]; rfl
    · rw [laneC_eq _ i hi]
      have hi' := i.isLt
      by_cases h254 : i.val = 254
      · rw [h254, show min (254 + 1) 255 = 255 from rfl, ofBits_inf, if_pos (EReal.coe_lt_top q), if_neg (by omega)]; rfl
      · rw [min_eq_left (by omega), ofBits_pow _ (by omega) (by omega)]
        simp only [EReal.coe_lt_coe_iff]
        by_cases hk : i.val < K
        · rw [if_neg, if_pos hk]; rfl
          refine not_lt.mpr (le_trans (zpow_le_zpow_right₀ one_le_two ?_) hl)
          push_cast; omega
        · rw [if_pos, if_neg hk]; rfl
          refine lt_of_lt_of_le hu (zpow_le_zpow_right₀ one_le_two ?_)
          push_cast; omega
  rw [Finset.sum_congr rfl fun i _ => e i, hK]
  simp only [Finset.sum_boole, Nat.cast_id]
  have : (Finset.univ.filter fun i : Fin 256 => i.val < K).card = K := by
    have := Fin.card_filter_val_lt (m := K) (n := 256)
    rw [this]; omega
  rw [this]; omega

theorem count_zero : ∑ i : Fin 256, (laneC 0 (BitVec.ofNat 32 i.val)).toNat = 0 := by
  refine Finset.sum_eq_zero fun i _ => ?_
  by_cases hi : i.val = 255
  · rw [hi, laneC_last]; rfl
  · rw [laneC_eq _ i hi]
    have hi' := i.isLt
    by_cases h254 : i.val = 254
    · rw [h254, show min (254 + 1) 255 = 255 from rfl, ofBits_inf, if_pos (by simp)]; rfl
    · rw [min_eq_left (by omega), ofBits_pow _ (by omega) (by omega), if_pos]; rfl
      exact_mod_cast zpow_pos (two_pos : (0 : ℝ) < 2) _

/-- The exponent from the count, and the words of the powers made from it. -/
def expoW (n : BitVec 32) : BitVec 32 := Scalar.select (IntOp.cmpi .eq n 0#32) 0#32 (IntOp.subi n 126#32)
def powW (e : BitVec 32) : BitVec 32 := IntOp.shli .vector (IntOp.addi e 127#32) 23#32
def negW (e : BitVec 32) : BitVec 32 := IntOp.subi 0#32 e

theorem powW_eq : ∀ n : Fin 254, n.val ≠ 0 → powW (expoW (BitVec.ofNat 32 n.val)) = BitVec.ofNat 32 ((n.val + 1) * 2 ^ 23)
    ∧ powW (negW (expoW (BitVec.ofNat 32 n.val))) = BitVec.ofNat 32 ((253 - n.val) * 2 ^ 23) := by decide +kernel

theorem powW_zero : powW (expoW 0#32) = BitVec.ofNat 32 (127 * 2 ^ 23) ∧ powW (negW (expoW 0#32)) = BitVec.ofNat 32 (127 * 2 ^ 23) := by decide +kernel

/-! ## The reference's exponent -/

/-- A token's exponent as the reference takes it, from its largest absolute value. -/
def refE (a : EReal) : EReal :=
  Scalar.select (Ideal.cmp .oeq a 0) 0
    (Ideal.liftRound Int.floor (Ideal.log (a * Ideal.ofBits .f32 0x3B124925#32) * (((Real.log 2)⁻¹ : ℝ) : EReal)) + Ideal.ofBits .f32 0x3F800000#32)

/-- What a token's largest absolute value may be. -/
def Tame (a : EReal) : Prop := a = 0 ∨ ((448 * (2 : ℝ) ^ (-126 : ℤ) : ℝ) : EReal) ≤ a ∧ a ≤ (((2 : ℝ) ^ (128 : ℤ) : ℝ) : EReal)

theorem ofBits_inv448 : Ideal.ofBits .f32 0x3B124925#32 = ((9586981 * (2 : ℝ) ^ (-32 : ℤ) : ℝ) : EReal) := by
  simp [Ideal.ofBits, Ideal.ieee]

theorem ofBits_one : Ideal.ofBits .f32 0x3F800000#32 = 1 := by
  have h : (0x3F800000#32 : BitVec 32) = BitVec.ofNat 32 (127 * 2 ^ 23) := by decide +kernel
  refine (congrArg (Ideal.ofBits .f32) h).trans ?_
  rw [ofBits_pow 127 (by omega) (by omega)]; norm_num

/-- Kernel and reference choose the same power and its inverse. -/
theorem quant (a : EReal) (h : Tame a) (n : BitVec 32)
    (hn : n.toNat = ∑ i : Fin 256, (laneC (a * Ideal.ofBits .f32 0x3B124925#32) (BitVec.ofNat 32 i.val)).toNat) :
    Ideal.ofBits .f32 (powW (expoW n)) = Ideal.exp2 (refE a) ∧ Ideal.ofBits .f32 (powW (negW (expoW n))) = Ideal.exp2 (0 - refE a) := by
  rcases h with rfl | ⟨h0, h1⟩
  · rw [zero_mul, count_zero] at hn
    have : n = 0#32 := BitVec.eq_of_toNat_eq hn
    subst this
    have e : refE 0 = 0 := by unfold refE Ideal.cmp; simp [Scalar.select]
    rw [powW_zero.1, powW_zero.2, e, sub_zero, ofBits_pow 127 (by omega) (by omega), ← EReal.coe_zero, exp2_real]
    norm_num
  · have ha : a ≠ ⊤ := ne_top_of_le_ne_top (EReal.coe_ne_top _) h1
    have hb : a ≠ ⊥ := fun e => by rw [e] at h0; exact absurd (le_bot_iff.mp h0) (EReal.coe_ne_bot _)
    lift a to ℝ using ⟨ha, hb⟩
    rw [EReal.coe_le_coe_iff] at h0 h1
    have ha0 : 0 < a := lt_of_lt_of_le (by positivity) h0
    rw [ofBits_inv448, ← EReal.coe_mul] at hn
    obtain ⟨q, hq⟩ : ∃ q : ℝ, a * (9586981 * (2 : ℝ) ^ (-32 : ℤ)) = q := ⟨_, rfl⟩
    have hq0 : 0 < q := by rw [← hq]; positivity
    have l2 : 0 < Real.log 2 := Real.log_pos one_lt_two
    obtain ⟨k, hk⟩ : ∃ k : ℤ, ⌊Real.log q * (Real.log 2)⁻¹⌋ = k := ⟨_, rfl⟩
    have hl : (2 : ℝ) ^ k ≤ q := by
      rw [← Real.log_le_log_iff (by positivity) hq0, Real.log_zpow, ← le_div_iff₀ l2, div_eq_mul_inv]
      exact Int.le_floor.mp hk.ge
    have hu : q < (2 : ℝ) ^ (k + 1) := by
      rw [← Real.log_lt_log_iff hq0 (by positivity), Real.log_zpow, ← div_lt_iff₀ l2, div_eq_mul_inv]
      have := Int.lt_floor_add_one (Real.log q * (Real.log 2)⁻¹)
      rw [hk] at this; exact_mod_cast this
    have hk0 : -126 ≤ k := by
      have : (2 : ℝ) ^ (-126 : ℤ) ≤ q := by
        rw [← hq]
        calc (2 : ℝ) ^ (-126 : ℤ) ≤ (448 * (2 : ℝ) ^ (-126 : ℤ)) * (9586981 * (2 : ℝ) ^ (-32 : ℤ)) := by norm_num
          _ ≤ _ := by gcongr
      have := (zpow_lt_zpow_iff_right₀ (one_lt_two (α := ℝ))).mp (lt_of_le_of_lt this hu)
      omega
    have hk1 : k < 120 := by
      have : q < (2 : ℝ) ^ (120 : ℤ) := by
        rw [← hq]
        calc a * (9586981 * (2 : ℝ) ^ (-32 : ℤ)) ≤ (2 : ℝ) ^ (128 : ℤ) * (9586981 * (2 : ℝ) ^ (-32 : ℤ)) := by gcongr
          _ < _ := by norm_num
      exact (zpow_lt_zpow_iff_right₀ (one_lt_two (α := ℝ))).mp (lt_of_le_of_lt hl this)
    rw [hq, count_eq q k hk0 (by omega) hl hu] at hn
    obtain ⟨K, hK⟩ : ∃ K : ℕ, k + 127 = K := ⟨(k + 127).toNat, by omega⟩
    have hn' : n = BitVec.ofNat 32 K := BitVec.eq_of_toNat_eq (by rw [hn, BitVec.toNat_ofNat, Nat.mod_eq_of_lt (by omega)]; omega)
    obtain ⟨p1, p2⟩ := powW_eq ⟨K, by omega⟩ (by show K ≠ 0; omega)
    have e : refE (a : EReal) = (((k + 1 : ℤ) : ℝ) : EReal) := by
      unfold refE
      rw [ofBits_inv448, ← EReal.coe_mul, hq, log_coe_pos hq0, ← EReal.coe_mul, ofBits_one]
      have hne : Ideal.cmp .oeq (a : EReal) 0 = 0#1 := by
        unfold Ideal.cmp
        have : (a : EReal) ≠ 0 := by exact_mod_cast ha0.ne'
        simp [this]
      rw [hne, select_zero]
      show ((((⌊Real.log q * (Real.log 2)⁻¹⌋ : ℤ) : ℝ) : EReal)) + 1 = _
      rw [hk]
      push_cast
      rfl
    have c1 : (2 : ℝ) ^ (((k + 1 : ℤ) : ℝ)) = (2 : ℝ) ^ (k + 1) := Real.rpow_intCast _ _
    have c2 : (2 : ℝ) ^ ((0 : ℝ) - ((k + 1 : ℤ) : ℝ)) = (2 : ℝ) ^ (-(k + 1)) := by
      rw [zero_sub, ← Int.cast_neg]; exact Real.rpow_intCast _ _
    rw [hn', e, ← EReal.coe_zero, ← EReal.coe_sub, exp2_real, exp2_real, c1, c2]
    have b1 : K + 1 < 255 := by omega
    have b2 : 0 < 253 - K := by omega
    have b3 : 253 - K < 255 := by omega
    simp only at p1 p2
    rw [p1, p2, ofBits_pow (K + 1) (Nat.succ_pos K) b1, ofBits_pow (253 - K) b2 b3]
    constructor
    · rw [show ((K + 1 : ℕ) : ℤ) - 127 = k + 1 by omega]
    · rw [show ((253 - K : ℕ) : ℤ) - 127 = -(k + 1) by omega]

end Cert.Val
-- ==== Proof.Value.Token.lean ====
/-
  The quantisation of a token on both sides: the kernel's scale, codes and their inverse, made from a count of lanes, are
  the reference's, made from a logarithm.
-/
module
public import proofs.«01_k».proof.Proof.Value.Quant
public import proofs.«01_k».proof.Proof.Gen.ReferenceIdeal.Frame
public import Idealize.ShloMosaic.Lib.ValueIdx
public import Idealize.ShloMosaic.Lib.Pipeline.Value

@[expose] public section
noncomputable section

namespace Cert.Val

open Idealize.ShloMosaic Idealize.ShloMosaic.ValueIdx
open Cert.KernelIdeal (S256x1024 S256x128 S256x1 S256x256 S256 S2x128)
open Cert.KernelIdeal.Hand (topV expoV eV powV negV codesV scalesV)

/-- Token `r`'s largest absolute value. -/
def top (x : FVec Ideal S256x1024 .bf16) (r : Fin 256) : EReal :=
  (Finset.univ : Finset (Fin 1024)).fold max (Ideal.ofBits .f32 0xFF800000#32) fun k => max (x (ix2 r k)) (-(x (ix2 r k)))

variable (x : FVec Ideal S256x1024 .bf16)

theorem lift_row (h : S256x1024.Reduces [1] S256) (r : Fin 256) (k : Fin 1024) : h.lift (ix1 r) k = ix2 r k := by
  funext a
  match a with
  | 0 => rfl
  | 1 => rfl

theorem lift_row' (h : S256x256.Reduces [1] S256) (r : Fin 256) (k : Fin 256) : h.lift (ix1 r) k = ix2 r k := by
  funext a
  match a with
  | 0 => rfl
  | 1 => rfl

theorem row_unit (r : Fin 256) (z : Fin 1) : (S256.rowMajor (ix1 r)).val = (S256x1.rowMajor (ix2 r z)).val := by
  rw [Shape.rowMajor_val_one, Shape.rowMajor_val_two]
  show r.val = r.val * 1 + z.val
  omega

/-- A row's maximum, kept as a column. -/
theorem max_row (v : FVec Ideal S256x1024 .f32) (h : S256x1024.Reduces [1] S256) (hφ : FKind.Formats .f32)
    (ha : (0xFF800000#32 : BitVec 32) = FKind.maximumf.neutral .f32 hφ) (hc : S256.ShapeCasts S256x1) (r : Fin 256) (z : Fin 1) :
    shapeCast S256x1 (multiReduction .maximumf [1] S256 v 0xFF800000#32 h hφ ha) hc (ix2 r z)
      = (Finset.univ : Finset (Fin 1024)).fold max (Ideal.ofBits .f32 0xFF800000#32) fun k => v (ix2 r k) := by
  refine (shapeCast_apply _ _ (ix2 r z) (ix1 r) (row_unit r z)).trans ((Ideal.multiReduction_maximumf_single v _ h hφ ha (ix1 r)).trans ?_)
  have e : v ∘ h.lift (ix1 r) = fun k : Fin 1024 => v (ix2 r k) := by
    funext k
    exact congrArg v (lift_row h r k)
  exact congrArg (fun f => (Finset.univ : Finset (Fin 1024)).fold max (Ideal.ofBits .f32 0xFF800000#32) f) e

theorem powV_apply (e : IVec S256x128 32) (y : S256x128.Idx) : powV (F := Ideal) e y = Ideal.ofBits .f32 (powW (e y)) := rfl
theorem negV_apply (e : IVec S256x128 32) (y : S256x128.Idx) : negV e y = negW (e y) := rfl
theorem exp2_apply {s : Shape} (v : FVec Ideal s .f32) (y : s.Idx) : exp2 v y = Ideal.exp2 (v y) := rfl
theorem bits_zero : Ideal.ofBits .f32 0x00000000#32 = 0 := by simp [Ideal.ofBits, Ideal.ieee]
theorem named_log2e (b : BitVec 32) : (Named.named Cert.ReferenceIdeal.κ "log2e" b : Ideal .f32) = ((L : ℝ) : EReal) := rfl
theorem named_log2e' (b : BitVec 32) : (Named.named Cert.KernelIdeal.κ "log2e" b : Ideal .f32) = ((L : ℝ) : EReal) := rfl

theorem topV_apply [Cert.KernelIdeal.Facts] (r : Fin 256) (z : Fin 1) : topV (F := Ideal) x (ix2 r z) = top x r * Ideal.ofBits .f32 0x3B124925#32 := by
  unfold topV
  rw [mulf_apply]
  simp only [shapeCast_self]
  exact congrArg (· * Ideal.ofBits .f32 0x3B124925#32) (max_row _ _ _ _ _ r z)

/-- The kernel's count of lanes. -/
theorem expoV_apply [Cert.KernelIdeal.Facts] (q : FVec Ideal S256x1 .f32) (r : Fin 256) :
    (expoV (F := Ideal) q (ix1 r)).toNat = ∑ i : Fin 256, (laneC (q (ix2 r 0)) (BitVec.ofNat 32 i.val)).toNat := by
  have h1 (b : BitVec 32) : b = 0#32 ∨ b = 1#32 → b.toNat ≤ 1 := by rintro (rfl | rfl) <;> decide
  have hc (a : EReal) (b : BitVec 32) : (laneC a b).toNat ≤ 1 := by
    refine h1 _ ?_
    unfold laneC
    rcases (by decide : ∀ c : BitVec 1, c = 0#1 ∨ c = 1#1) (IntOp.ori (Ideal.cmp .olt a (Ideal.ofBits .f32 (laneW b))) (IntOp.cmpi .eq b 255#32)) with h | h
    · rw [h]; exact Or.inr (select_zero _ _)
    · rw [h]; exact Or.inl (select_one _ _)
  unfold expoV
  have e (k : Fin 256) := lift_row' Cert.KernelIdeal.Facts₀.reduces_S256x256_S256 r k
  have hv (k : Fin 256) : (select
      (ori
        (cmpf .olt (broadcastTo S256x256 q Cert.KernelIdeal.Facts₀.broadcasts_S256x1_S256x256)
          (bitcastToFloat (F := Ideal) .f32 (shli (minsi (addi (iota .tc S256x256 32 [1] Cert.KernelIdeal.Facts₀.iota_S256x256_d1_w32) (broadcast S256x256 1#32))
            (broadcast S256x256 255#32)) (broadcast S256x256 23#32))))
        (cmpi .eq (iota .tc S256x256 32 [1] Cert.KernelIdeal.Facts₀.iota_S256x256_d1_w32) (broadcast S256x256 255#32)))
      (broadcast S256x256 0#32) (broadcast S256x256 1#32) : IVec S256x256 32) (ix2 r k) = laneC (q (ix2 r 0)) (BitVec.ofNat 32 k.val) := by
    have hb : broadcastTo S256x256 q Cert.KernelIdeal.Facts₀.broadcasts_S256x1_S256x256 (ix2 r k) = q (ix2 r 0) := by
      refine broadcastTo_apply _ _ _ _ fun a => ?_
      match a with
      | 0 => rfl
      | 1 => rfl
    have hi : iota .tc S256x256 32 [1] Cert.KernelIdeal.Facts₀.iota_S256x256_d1_w32 (ix2 r k) = BitVec.ofNat 32 k.val :=
      iota_single_apply ..
    unfold laneC laneW
    rw [← hb, ← hi]
    rfl
  have hs (k : Fin 256) := (congrArg _ (e k)).trans (hv k)
  refine (WordSum.toNat_multiReductionI_add _ Cert.KernelIdeal.Facts₀.reduces_S256x256_S256 rfl _ ?_).trans ?_
  · rw [Shape.Reduces.sum_filter_drop_single Cert.KernelIdeal.Facts₀.reduces_S256x256_S256]
    have hle := Finset.sum_le_card_nsmul (Finset.univ : Finset (Fin 256)) (fun k => (laneC (q (ix2 r 0)) (BitVec.ofNat 32 k.val)).toNat) 1 fun k _ => hc _ _
    refine lt_of_eq_of_lt (Finset.sum_congr rfl fun k _ => congrArg BitVec.toNat (hs k)) (lt_of_le_of_lt hle ?_)
    simp
  · rw [Shape.Reduces.sum_filter_drop_single Cert.KernelIdeal.Facts₀.reduces_S256x256_S256]
    exact Finset.sum_congr rfl fun k _ => congrArg BitVec.toNat (hs k)

theorem eV_apply [Cert.KernelIdeal.Facts] (n : IVec S256 32) (r : Fin 256) (l : Fin 128) : eV n (ix2 r l) = expoW (n (ix1 r)) := by
  have h : broadcastTo S256x128 (shapeCast S256x1 (shapeCast S256x1 n Cert.KernelIdeal.Facts₀.shapeCasts_S256_S256x1)
      Cert.KernelIdeal.Facts₀.shapeCasts_S256x1_S256x1) Cert.KernelIdeal.Facts₀.broadcasts_S256x1_S256x128 (ix2 r l) = n (ix1 r) := by
    rw [shapeCast_self]
    refine (broadcastTo_apply _ _ _ (ix2 r (0 : Fin 1)) fun a => ?_).trans ?_
    · match a with
      | 0 => rfl
      | 1 => rfl
    · exact shapeCast_apply _ _ _ _ (row_unit r 0)
  unfold expoW
  rw [← h]
  rfl

theorem pay1_apply [Cert.ReferenceIdeal.Facts] : Cert.ReferenceIdeal.Gen.k0_pay1 (F := Ideal) x = x := by
  unfold Cert.ReferenceIdeal.Gen.k0_pay1
  simp only [shapeCast_self]
  rfl

theorem refE_vec (t : FVec Ideal S256x1 .f32) (y : S256x1.Idx) :
    select (cmpf .oeq t (broadcast S256x1 (Scalar.ofBits .f32 0x00000000#32))) (broadcast S256x1 (Scalar.ofBits .f32 0x00000000#32))
      (addf (floor (mulf (log (mulf t (broadcast S256x1 (Scalar.ofBits .f32 0x3B124925#32))))
        (broadcast S256x1 (Named.named Cert.ReferenceIdeal.κ "log2e" 0x3FB8AA3B#32)))) (broadcast S256x1 (Scalar.ofBits .f32 0x3F800000#32))) y
      = refE (t y) := by
  unfold refE
  rw [select_apply, cmpf_apply, addf_apply, broadcast_apply, broadcast_apply]
  simp only [← bits_zero]
  rfl

theorem pay2_apply [Cert.ReferenceIdeal.Facts] (r : Fin 256) (z : Fin 1) : Cert.ReferenceIdeal.Gen.k0_pay2 (F := Ideal) x (ix2 r z) = refE (top x r) := by
  have h : shapeCast S256x1 (multiReduction .maximumf [1] S256 (absf (F := Ideal) (φ := .f32) x) 0xFF800000#32
      Cert.ReferenceIdeal.Facts₀.reduces_S256x1024_S256 (.inl rfl) rfl) Cert.ReferenceIdeal.Facts₀.shapeCasts_S256_S256x1 (ix2 r z) = top x r :=
    max_row _ _ _ _ _ r z
  unfold Cert.ReferenceIdeal.Gen.k0_pay2
  rw [pay1_apply]
  exact (refE_vec _ _).trans (congrArg refE h)

/-- A token's scale, and its inverse, are the reference's. -/
theorem pow_eq [Cert.KernelIdeal.Facts] (r : Fin 256) (h : Tame (top x r)) (l : Fin 128) :
    powV (F := Ideal) (eV (expoV (topV x))) (ix2 r l) = Ideal.exp2 (refE (top x r))
    ∧ powV (F := Ideal) (negV (eV (expoV (topV x)))) (ix2 r l) = Ideal.exp2 (0 - refE (top x r)) := by
  have hq := quant (top x r) h (expoV (topV (F := Ideal) x) (ix1 r)) (by rw [expoV_apply, topV_apply])
  rw [← eV_apply _ _ l] at hq
  rw [powV_apply, powV_apply, negV_apply]
  exact hq

theorem pay4_apply [Cert.ReferenceIdeal.Facts] (r : Fin 256) (z : Fin 1) : Cert.ReferenceIdeal.Gen.k0_pay4 (F := Ideal) x (ix2 r z) = Ideal.exp2 (refE (top x r)) := by
  unfold Cert.ReferenceIdeal.Gen.k0_pay4
  exact (exp2_apply _ _).trans (congrArg Ideal.exp2 (pay2_apply x r z))

theorem codes_eq [Cert.KernelIdeal.Facts] [Cert.ReferenceIdeal.Facts] (h : ∀ r, Tame (top x r)) :
    codesV (F := Ideal) x (powV (negV (eV (expoV (topV x))))) = Cert.ReferenceIdeal.Gen.k0_pay3 (F := Ideal) x := by
  funext y
  obtain ⟨r, k, rfl⟩ : ∃ r k, y = ix2 r k := ⟨_, _, eq_ix2 y⟩
  have e1 : broadcastTo S256x1024 (extractStridedSlice S256x1 ![0, 0] (powV (F := Ideal) (negV (eV (expoV (topV x))))) Cert.KernelIdeal.Facts₀.slices_S256x128_o0_0_S256x1)
      Cert.KernelIdeal.Facts₀.broadcasts_S256x1_S256x1024 (ix2 r k) = Ideal.exp2 (0 - refE (top x r)) := by
    refine (broadcastTo_apply _ _ _ (ix2 r (0 : Fin 1)) fun a => ?_).trans ((extractStridedSlice_apply _ _ _ _ (ix2 r (0 : Fin 128)) fun a => ?_).trans (pow_eq x r (h r) 0).2)
    · match a with
      | 0 => rfl
      | 1 => rfl
    · match a with
      | 0 => show r.val = 0 + r.val; omega
      | 1 => rfl
  have e2 : broadcastTo S256x1024 (exp2 (subf (broadcast S256x1 (Scalar.ofBits .f32 0x00000000#32)) (Cert.ReferenceIdeal.Gen.k0_pay2 (F := Ideal) x)))
      Cert.ReferenceIdeal.Facts₀.broadcasts_S256x1_S256x1024 (ix2 r k) = Ideal.exp2 (0 - refE (top x r)) := by
    refine (broadcastTo_apply _ _ _ (ix2 r (0 : Fin 1)) fun a => ?_).trans ?_
    · match a with
      | 0 => rfl
      | 1 => rfl
    · rw [exp2_apply, subf_apply, pay2_apply, broadcast_apply, ← bits_zero]; rfl
  have h1 : codesV (F := Ideal) x (powV (negV (eV (expoV (topV x))))) (ix2 r k)
      = min (Ideal.ofBits .f32 0x43E00000#32) (max (Ideal.ofBits .f32 0xC3E00000#32) (x (ix2 r k) * Ideal.exp2 (0 - refE (top x r)))) := by
    rw [← e1]
    unfold codesV
    simp only [shapeCast_self]
    rfl
  have h2 : Cert.ReferenceIdeal.Gen.k0_pay3 (F := Ideal) x (ix2 r k)
      = min (Ideal.ofBits .f32 0x43E00000#32) (max (Ideal.ofBits .f32 0xC3E00000#32) (x (ix2 r k) * Ideal.exp2 (0 - refE (top x r)))) := by
    rw [← e2]
    unfold Cert.ReferenceIdeal.Gen.k0_pay3
    rw [pay1_apply]
    rfl
  rw [h1, h2]

/-- Token `(h, l)`'s place among the tokens. -/
def tok (y : S2x128.Idx) : Fin 256 := ⟨128 * (y 0).val + (y 1).val, by
  have h0 : (y 0).val < 2 := (y 0).isLt
  have h1 : (y 1).val < 128 := (y 1).isLt
  omega⟩

theorem scalesV_apply [Cert.KernelIdeal.Facts] (xs : FVec Ideal S256x128 .f32) (y : S2x128.Idx) :
    scalesV xs (y 0) (ix2 (0 : Fin 1) (y 1)) = xs (ix2 (tok y) (0 : Fin 128)) := by
  unfold scalesV
  refine (extractStridedSlice_apply _ _ _ _ (ix2 (0 : Fin 128) (y 1)) fun a => ?_).trans
    ((transpose_apply _ _ _ _ (ix2 (y 1) (0 : Fin 128)) fun a => ?_).trans (extractStridedSlice_apply _ _ _ _ (ix2 (tok y) (0 : Fin 128)) fun a => ?_))
  · match a with
    | 0 => rfl
    | 1 => show (y 1).val = 0 + (y 1).val; omega
  · match a with
    | 0 => rfl
    | 1 => rfl
  · match a with
    | 0 => rfl
    | 1 => rfl

theorem pay6_apply [Cert.ReferenceIdeal.Facts] (y : S2x128.Idx) : Cert.ReferenceIdeal.Gen.k0_pay6 (F := Ideal) x y = Ideal.exp2 (refE (top x (tok y))) := by
  rw [← pay4_apply x (tok y) 0]
  unfold Cert.ReferenceIdeal.Gen.k0_pay6
  refine shapeCast_apply _ _ _ _ ?_
  rw [Shape.rowMajor_val_two, Shape.rowMajor_val_two]
  show (128 * (y 0).val + (y 1).val) * 1 + 0 = (y 0).val * 128 + (y 1).val
  omega

end Cert.Val
-- ==== Proof.Value.RefRun.lean ====
/-
  The reference's run: each result is the body's value of the whole arguments.
-/
module
public import proofs.«01_k».proof.Proof.Gen.ReferenceIdeal.Frame
public import Idealize.ShloMosaic.Lib.Pipeline.ValueKit
public import Idealize.ShloMosaic.Lib.Claim

@[expose] public section
noncomputable section

namespace Cert.ReferenceIdeal.Val

open Cert.ReferenceIdeal Cert.ReferenceIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem idx0 : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] := by decide +kernel

theorem blk0 (c : Dev nD) (t : Fin cfg0.N) : iblk m c 0 t = shapeCast S256x1024 (m ((c : Thread nD τ).loc main_arg0)) Facts₀.shapeCasts_S2x128x1024_S256x1024 := by
  funext y
  obtain ⟨e0, e1, e2, e3, e4, e5, e6, e7⟩ := idx0 t
  blk_ext [iblk, V, e0]

theorem blk3 (c : Dev nD) (t : Fin cfg0.N) : iblk m c 3 t = m ((c : Thread nD τ).loc main_arg2) := by
  funext y
  obtain ⟨e0, e1, e2, e3, e4, e5, e6, e7⟩ := idx0 t
  blk_ext [iblk, V, e3]

theorem blk5 (c : Dev nD) (t : Fin cfg0.N) : iblk m c 5 t = m ((c : Thread nD τ).loc main_arg4) := by
  funext y
  obtain ⟨e0, e1, e2, e3, e4, e5, e6, e7⟩ := idx0 t
  blk_ext [iblk, V, e5]

theorem blk6 (c : Dev nD) (t : Fin cfg0.N) : iblk m c 6 t = m ((c : Thread nD τ).loc main_arg5) := by
  funext y
  obtain ⟨e0, e1, e2, e3, e4, e5, e6, e7⟩ := idx0 t
  blk_ext [iblk, V, e6]

theorem blk4 (c : Dev nD) (t : Fin cfg0.N) : iblk m c 4 t = shapeCast S1x32000 (m ((c : Thread nD τ).loc main_arg3)) Facts₀.shapeCasts_S32000_S1x32000 := by
  funext y
  obtain ⟨e0, e1, e2, e3, e4, e5, e6, e7⟩ := idx0 t
  blk_ext [iblk, V, e4]

theorem blk7 (c : Dev nD) (t : Fin cfg0.N) : iblk m c 7 t = shapeCast S256x1 (m ((c : Thread nD τ).loc main_arg6)) Facts₀.shapeCasts_S2x128_S256x1 := by
  funext y
  obtain ⟨e0, e1, e2, e3, e4, e5, e6, e7⟩ := idx0 t
  blk_ext [iblk, V, e7]

/-- The even and the odd inputs of the reference model. -/
def half2 (o : Fin 2) (h : S256x512x2.Slices ![0, 0, o.val] S256x512x1) (X : FVec Ideal S2x128x1024 .bf16) : FVec Ideal S256x512 .bf16 :=
  shapeCast S256x512 (extractStridedSlice S256x512x1 ![0, 0, o.val] (shapeCast S256x512x2 X Facts₀.shapeCasts_S2x128x1024_S256x512x2) h)
    Facts₀.shapeCasts_S256x512x1_S256x512

theorem blk1 (c : Dev nD) (t : Fin cfg0.N) : iblk m c 1 t = half2 0 Facts₀.slices_S256x512x2_S256x512x1_0_0_0 (m ((c : Thread nD τ).loc main_arg1)) := by
  funext y
  obtain ⟨e0, e1, e2, e3, e4, e5, e6, e7⟩ := idx0 t
  unfold half2
  blk_ext [iblk, V, e1]

theorem blk2 (c : Dev nD) (t : Fin cfg0.N) : iblk m c 2 t = half2 1 Facts₀.slices_S256x512x2_S256x512x1_0_0_1 (m ((c : Thread nD τ).loc main_arg1)) := by
  funext y
  obtain ⟨e0, e1, e2, e3, e4, e5, e6, e7⟩ := idx0 t
  unfold half2
  blk_ext [iblk, V, e2]

theorem idxO : ∀ t : Fin cfg0.N, win0_8.index t = ![0, 0] ∧ win0_9.index t = ![0, 0] ∧ win0_10.index t = ![0, 0] ∧ win0_11.index t = ![0, 0]
    ∧ win0_12.index t = ![0, 0] := by decide +kernel

theorem hz : (![0, 0] : Fin 2 → Nat) = fun _ => 0 := funext fun a => by fin_cases a <;> rfl

section
variable (x0 : Vec Ideal S256x1024 .bf16) (x1 x2 : Vec Ideal S256x512 .bf16) (x3 : Vec Ideal S32000x1024 .fp8e4m3) (x4 : Vec Ideal S1x32000 .f32)
  (x5 : Vec Ideal S32000x512 .i8) (x6 : Vec Ideal S32000x8 .f32) (x7 : Vec Ideal S256x1 .i32)

theorem pay17_eq : k0_pay17 x0 x1 x2 x3 x4 x5 x6 x7 = k0_pay5 x0 x3 x4 := by
  unfold k0_pay17
  rw [View.ld_unit_zero (S := S256x1024) hz, View.ld_unit_zero (S := S32000x1024) hz, View.ld_unit_zero (S := S1x32000) hz]

theorem pay18_eq : k0_pay18 x0 x1 x2 x3 x4 x5 x6 x7 = k0_pay7 x5 x6 x1 x2 := by
  unfold k0_pay18
  rw [View.ld_unit_zero (S := S32000x512) hz, View.ld_unit_zero (S := S32000x8) hz, View.ld_unit_zero (S := S256x512) hz, View.ld_unit_zero (S := S256x512) hz]

theorem out8_eq : out0_8 x0 x1 x2 x3 x4 x5 x6 x7 = k0_pay14 (k0_pay5 x0 x3 x4) (k0_pay8 (k0_pay5 x0 x3 x4)) x7 := by
  unfold out0_8 k0_pay19
  rw [View.canon_unit_zero hz, View.ld_unit_zero (S := S256x1) hz, pay17_eq]

theorem out9_eq : out0_9 x0 x1 x2 x3 x4 x5 x6 x7 = k0_pay15 (k0_pay7 x5 x6 x1 x2) x7 := by
  unfold out0_9
  rw [View.canon_unit_zero hz, View.ld_unit_zero (S := S256x1) hz, pay18_eq]

theorem out10_eq : out0_10 x0 x1 x2 x3 x4 x5 x6 x7 = k0_pay16 (k0_pay5 x0 x3 x4) (k0_pay7 x5 x6 x1 x2) (k0_pay8 (k0_pay5 x0 x3 x4)) := by
  unfold out0_10 k0_pay19
  rw [View.canon_unit_zero hz, pay17_eq, pay18_eq]

theorem out11_eq : out0_11 x0 x1 x2 x3 x4 x5 x6 x7 = k0_pay3 x0 := by
  unfold out0_11
  rw [View.canon_unit_zero hz, View.ld_unit_zero (S := S256x1024) hz]

theorem out12_eq : out0_12 x0 x1 x2 x3 x4 x5 x6 x7 = k0_pay6 x0 := by
  unfold out0_12
  rw [View.canon_unit_zero hz, View.ld_unit_zero (S := S256x1024) hz]
end

section
variable (X R : FVec Ideal S2x128x1024 .bf16) (wp : FVec Ideal S32000x1024 .fp8e4m3) (ws : FVec Ideal S32000 .f32)
  (wr : IVec S32000x512 8) (sr : FVec Ideal S32000x8 .f32) (tg : IVec S2x128 32)

/-- The inputs by token, the policy's and the reference model's logits of the whole arguments, and the targets. -/
def xs : FVec Ideal S256x1024 .bf16 := shapeCast S256x1024 X Facts₀.shapeCasts_S2x128x1024_S256x1024
def zp : FVec Ideal S256x32000 .f32 := k0_pay5 (xs X) wp (shapeCast S1x32000 ws Facts₀.shapeCasts_S32000_S1x32000)
def zq : FVec Ideal S256x32000 .f32 :=
  k0_pay7 wr sr (half2 0 Facts₀.slices_S256x512x2_S256x512x1_0_0_0 R) (half2 1 Facts₀.slices_S256x512x2_S256x512x1_0_0_1 R)
def tgc : IVec S256x1 32 := shapeCast S256x1 tg Facts₀.shapeCasts_S2x128_S256x1
end

theorem final8 (c : Dev nD) : (dats m 0 c).arrAt 8 cfg0.N
    = k0_pay14 (zp (m ((c : Thread nD τ).loc main_arg0)) (m ((c : Thread nD τ).loc main_arg2)) (m ((c : Thread nD τ).loc main_arg3))) (k0_pay8 (zp (m ((c : Thread nD τ).loc main_arg0)) (m ((c : Thread nD τ).loc main_arg2)) (m ((c : Thread nD τ).loc main_arg3)))) (tgc (m ((c : Thread nD τ).loc main_arg6))) := by
  unfold zp tgc xs
  refine (dats m 0 c).arrAt_eq_of_covers 8 _ (by decide +kernel) fun t hf y => ?_
  obtain ⟨e0, e1, e2, e3, e4⟩ := idxO t
  blk_simp
  rw [after0_8, out8_eq, blk0, blk3, blk4, blk7]
  generalize k0_pay14 (k0_pay5 (shapeCast S256x1024 (m ((c : Thread nD τ).loc main_arg0)) Facts₀.shapeCasts_S2x128x1024_S256x1024) (m ((c : Thread nD τ).loc main_arg2)) (shapeCast S1x32000 (m ((c : Thread nD τ).loc main_arg3)) Facts₀.shapeCasts_S32000_S1x32000)) (k0_pay8 (k0_pay5 (shapeCast S256x1024 (m ((c : Thread nD τ).loc main_arg0)) Facts₀.shapeCasts_S2x128x1024_S256x1024) (m ((c : Thread nD τ).loc main_arg2)) (shapeCast S1x32000 (m ((c : Thread nD τ).loc main_arg3)) Facts₀.shapeCasts_S32000_S1x32000))) (shapeCast S256x1 (m ((c : Thread nD τ).loc main_arg6)) Facts₀.shapeCasts_S2x128_S256x1) = G
  refine congrArg G ?_
  blk_ext [e0]

theorem final9 (c : Dev nD) : (dats m 0 c).arrAt 9 cfg0.N
    = k0_pay15 (zq (m ((c : Thread nD τ).loc main_arg1)) (m ((c : Thread nD τ).loc main_arg4)) (m ((c : Thread nD τ).loc main_arg5))) (tgc (m ((c : Thread nD τ).loc main_arg6))) := by
  unfold zq tgc
  refine (dats m 0 c).arrAt_eq_of_covers 9 _ (by decide +kernel) fun t hf y => ?_
  obtain ⟨e0, e1, e2, e3, e4⟩ := idxO t
  blk_simp
  rw [after0_9, out9_eq, blk1, blk2, blk5, blk6, blk7]
  generalize k0_pay15 (k0_pay7 (m ((c : Thread nD τ).loc main_arg4)) (m ((c : Thread nD τ).loc main_arg5)) (half2 0 Facts₀.slices_S256x512x2_S256x512x1_0_0_0 (m ((c : Thread nD τ).loc main_arg1))) (half2 1 Facts₀.slices_S256x512x2_S256x512x1_0_0_1 (m ((c : Thread nD τ).loc main_arg1)))) (shapeCast S256x1 (m ((c : Thread nD τ).loc main_arg6)) Facts₀.shapeCasts_S2x128_S256x1) = G
  refine congrArg G ?_
  blk_ext [e1]

theorem final10 (c : Dev nD) : (dats m 0 c).arrAt 10 cfg0.N
    = k0_pay16 (zp (m ((c : Thread nD τ).loc main_arg0)) (m ((c : Thread nD τ).loc main_arg2)) (m ((c : Thread nD τ).loc main_arg3))) (zq (m ((c : Thread nD τ).loc main_arg1)) (m ((c : Thread nD τ).loc main_arg4)) (m ((c : Thread nD τ).loc main_arg5))) (k0_pay8 (zp (m ((c : Thread nD τ).loc main_arg0)) (m ((c : Thread nD τ).loc main_arg2)) (m ((c : Thread nD τ).loc main_arg3)))) := by
  unfold zp zq xs
  refine (dats m 0 c).arrAt_eq_of_covers 10 _ (by decide +kernel) fun t hf y => ?_
  obtain ⟨e0, e1, e2, e3, e4⟩ := idxO t
  blk_simp
  rw [after0_10, out10_eq, blk0, blk1, blk2, blk3, blk4, blk5, blk6]
  generalize k0_pay16 (k0_pay5 (shapeCast S256x1024 (m ((c : Thread nD τ).loc main_arg0)) Facts₀.shapeCasts_S2x128x1024_S256x1024) (m ((c : Thread nD τ).loc main_arg2)) (shapeCast S1x32000 (m ((c : Thread nD τ).loc main_arg3)) Facts₀.shapeCasts_S32000_S1x32000)) (k0_pay7 (m ((c : Thread nD τ).loc main_arg4)) (m ((c : Thread nD τ).loc main_arg5)) (half2 0 Facts₀.slices_S256x512x2_S256x512x1_0_0_0 (m ((c : Thread nD τ).loc main_arg1))) (half2 1 Facts₀.slices_S256x512x2_S256x512x1_0_0_1 (m ((c : Thread nD τ).loc main_arg1)))) (k0_pay8 (k0_pay5 (shapeCast S256x1024 (m ((c : Thread nD τ).loc main_arg0)) Facts₀.shapeCasts_S2x128x1024_S256x1024) (m ((c : Thread nD τ).loc main_arg2)) (shapeCast S1x32000 (m ((c : Thread nD τ).loc main_arg3)) Facts₀.shapeCasts_S32000_S1x32000))) = G
  refine congrArg G ?_
  blk_ext [e2]

theorem final11 (c : Dev nD) : (dats m 0 c).arrAt 11 cfg0.N
    = k0_pay3 (F := Ideal) (xs (m ((c : Thread nD τ).loc main_arg0))) := by
  unfold xs
  refine (dats m 0 c).arrAt_eq_of_covers 11 _ (by decide +kernel) fun t hf y => ?_
  obtain ⟨e0, e1, e2, e3, e4⟩ := idxO t
  blk_simp
  rw [after0_11, out11_eq, blk0]
  generalize k0_pay3 (F := Ideal) (shapeCast S256x1024 (m ((c : Thread nD τ).loc main_arg0)) Facts₀.shapeCasts_S2x128x1024_S256x1024) = G
  refine congrArg G ?_
  blk_ext [e3]

theorem final12 (c : Dev nD) : (dats m 0 c).arrAt 12 cfg0.N
    = k0_pay6 (F := Ideal) (xs (m ((c : Thread nD τ).loc main_arg0))) := by
  unfold xs
  refine (dats m 0 c).arrAt_eq_of_covers 12 _ (by decide +kernel) fun t hf y => ?_
  obtain ⟨e0, e1, e2, e3, e4⟩ := idxO t
  blk_simp
  rw [after0_12, out12_eq, blk0]
  generalize k0_pay6 (F := Ideal) (shapeCast S256x1024 (m ((c : Thread nD τ).loc main_arg0)) Facts₀.shapeCasts_S2x128x1024_S256x1024) = G
  refine congrArg G ?_
  blk_ext [e4]

theorem run : θ_run defs (onTc (τ := τ) (main (F := Ideal))) ⟨m, fun _ => 0, ρ⟩ fun r => ∀ c : Dev nD,
      r.2.mem ((c.tc : Thread nD τ).loc main_v8_0) = k0_pay14 (zp (m ((c : Thread nD τ).loc main_arg0)) (m ((c : Thread nD τ).loc main_arg2)) (m ((c : Thread nD τ).loc main_arg3))) (k0_pay8 (zp (m ((c : Thread nD τ).loc main_arg0)) (m ((c : Thread nD τ).loc main_arg2)) (m ((c : Thread nD τ).loc main_arg3)))) (tgc (m ((c : Thread nD τ).loc main_arg6)))
      ∧ r.2.mem ((c.tc : Thread nD τ).loc main_v8_1) = k0_pay15 (zq (m ((c : Thread nD τ).loc main_arg1)) (m ((c : Thread nD τ).loc main_arg4)) (m ((c : Thread nD τ).loc main_arg5))) (tgc (m ((c : Thread nD τ).loc main_arg6)))
      ∧ r.2.mem ((c.tc : Thread nD τ).loc main_v8_2) = k0_pay16 (zp (m ((c : Thread nD τ).loc main_arg0)) (m ((c : Thread nD τ).loc main_arg2)) (m ((c : Thread nD τ).loc main_arg3))) (zq (m ((c : Thread nD τ).loc main_arg1)) (m ((c : Thread nD τ).loc main_arg4)) (m ((c : Thread nD τ).loc main_arg5))) (k0_pay8 (zp (m ((c : Thread nD τ).loc main_arg0)) (m ((c : Thread nD τ).loc main_arg2)) (m ((c : Thread nD τ).loc main_arg3))))
      ∧ r.2.mem ((c.tc : Thread nD τ).loc main_v8_3) = k0_pay3 (F := Ideal) (xs (m ((c : Thread nD τ).loc main_arg0)))
      ∧ r.2.mem ((c.tc : Thread nD τ).loc main_v8_4) = k0_pay6 (F := Ideal) (xs (m ((c : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c => ⟨((h c).1 8).trans (final8 m c), ((h c).1 9).trans (final9 m c), ((h c).1 10).trans (final10 m c),
      ((h c).1 11).trans (final11 m c), ((h c).1 12).trans (final12 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).1 3).trans (((dats m 0 c).arrAt_in 3 rfl _).trans ((A_eq m c 3).trans (V_main_arg2 m c))),
      ((h c).2 main_arg3 (Pipeline.mem_restRefs_of main_arg3 (by decide) (by decide))).trans (V_main_arg3 m c),
      ((h c).1 5).trans (((dats m 0 c).arrAt_in 5 rfl _).trans ((A_eq m c 5).trans (V_main_arg4 m c))),
      ((h c).1 6).trans (((dats m 0 c).arrAt_in 6 rfl _).trans ((A_eq m c 6).trans (V_main_arg5 m c))),
      ((h c).2 main_arg6 (Pipeline.mem_restRefs_of main_arg6 (by decide) (by decide))).trans (V_main_arg6 m c)⟩) (run_main m ρ)

end Cert.ReferenceIdeal.Val
-- ==== Proof.Value.Tame.lean ====
/-
  What the precondition says of each token: its largest input is as the quantisation needs it, and its target is a class.
-/
module
public import proofs.«01_k».proof.Defs
public import proofs.«01_k».proof.Proof.Value.Token
public import proofs.«01_k».proof.Proof.Value.RefRun
public import Idealize.ShloMosaic.Lib.KernelVsHost

@[expose] public section
noncomputable section

namespace Cert.Val

open Idealize.ShloMosaic hiding ix1 ix2 ix3 addf_apply subf_apply mulf_apply divf_apply
open Idealize.ShloMosaic.ValueIdx
open Cert.Pre_tame (S2x128x1024 S2x128 S_)
open Cert.ReferenceIdeal.Val (xs)

theorem tameFacts : Cert.Pre_tame.Facts := ⟨by decide, by decide, by decide⟩

theorem red_tok : S2x128x1024.Reduces [2] S2x128 := by decide

theorem bits_bot16 : Ideal.ofBits .bf16 0xFF80#16 = ⊥ := by simp [Ideal.ofBits, Ideal.ieee]
theorem bits_bot32 : Ideal.ofBits .f32 0xFF800000#32 = ⊥ := by simp [Ideal.ofBits, Ideal.ieee]

/-- The precondition's maximum is the token's. -/
theorem top_pre [Cert.ReferenceIdeal.Facts] (X : FVec Ideal S2x128x1024 .bf16) (h : S2x128x1024.ReducesTo [2] S2x128) (hu : 0 < S_.numel) (y : S2x128.Idx) :
    Host.reduce FloatOps.maximumf (Host.absf X) (constant (F := Ideal) S_ .bf16 0xFF80#16) h hu y = top (xs X) (tok y) := by
  refine (congrFun (hostReduce_maximumf_eq_multiReduction (Host.absf X) _ h hu red_tok (.inr rfl) rfl) y).trans ?_
  refine (Ideal.multiReduction_maximumf_single _ _ _ _ _ y).trans ?_
  unfold top
  have e : (fun k : Fin 1024 => max (xs X (ix2 (tok y) k)) (-(xs X (ix2 (tok y) k)))) = (Host.absf X) ∘ red_tok.lift y := by
    funext k
    have hx : xs X (ix2 (tok y) k) = X (red_tok.lift y k) := by
      unfold xs
      refine shapeCast_apply _ _ _ _ ?_
      have hl : red_tok.lift y k = ix3 (n0 := 2) (n1 := 128) (n2 := 1024) (y 0) (y 1) k := by
        funext a
        match a with
        | 0 => rfl
        | 1 => rfl
        | 2 => rfl
      rw [hl, Shape.rowMajor_val_three, Shape.rowMajor_val_two]
      show ((y 0).val * 128 + (y 1).val) * 1024 + k.val = (128 * (y 0).val + (y 1).val) * 1024 + k.val
      omega
    rw [hx]
    rfl
  rw [e]
  refine congrArg (fun b => (Finset.univ : Finset (Fin 1024)).fold max b ((Host.absf X) ∘ red_tok.lift y)) ?_
  exact bits_bot16.trans bits_bot32.symm

theorem low_le : ((448 * 2 ^ (-126 : ℤ) : ℝ) : EReal) ≤ Ideal.ofBits .bf16 0x04E0#16 := by
  simp [Ideal.ofBits, Ideal.ieee]
  norm_cast
  try norm_num

theorem high_le : Ideal.ofBits .bf16 0x7F7F#16 ≤ (((2 : ℝ) ^ (128 : ℤ) : ℝ) : EReal) := by
  simp [Ideal.ofBits, Ideal.ieee]
  norm_cast
  try norm_num

theorem bits_zero16 : Ideal.ofBits .bf16 0x0000#16 = 0 := by simp [Ideal.ofBits, Ideal.ieee]

theorem one_of_and {a b : BitVec 1} (h : IntOp.andi a b = 1#1) : a = 1#1 ∧ b = 1#1 := by
  revert a b; decide
theorem one_of_or {a b : BitVec 1} (h : IntOp.ori a b = 1#1) : a = 1#1 ∨ b = 1#1 := by
  revert a b; decide
theorem of_ofBool {b : Bool} (h : BitVec.ofBool b = 1#1) : b = true := by
  revert b; decide

theorem oeq_at {s : Shape} {φ : FTy} (a b : FVec Ideal s φ) (y : s.Idx) (h : cmpf .oeq a b y = 1#1) : a y = b y := of_decide_eq_true (of_ofBool h)
theorem oge_at {s : Shape} {φ : FTy} (a b : FVec Ideal s φ) (y : s.Idx) (h : cmpf .oge a b y = 1#1) : b y ≤ a y := of_decide_eq_true (of_ofBool h)
theorem ole_at {s : Shape} {φ : FTy} (a b : FVec Ideal s φ) (y : s.Idx) (h : cmpf .ole a b y = 1#1) : a y ≤ b y := of_decide_eq_true (of_ofBool h)
theorem bcast_at {s t : Shape} {φ : FTy} (d : Fin s.rank → Fin t.rank) (h : s.BroadcastsInDim t d) (b : BitVec φ.bits) (y : t.Idx) :
    broadcastInDim t d h (constant (F := Ideal) s φ b) y = Ideal.ofBits φ b := rfl

/-- The precondition at a token. -/
theorem pre_at [Cert.ReferenceIdeal.Facts] [Cert.Pre_tame.Facts] (X R : FVec Ideal S2x128x1024 .bf16) (wp ws wr sr) (tg : IVec S2x128 32) (y : S2x128.Idx)
    (h : Cert.Pre_tame.fn (F := Ideal) X R wp ws wr sr tg y = 1#1) :
    Tame (top (xs X) (tok y)) ∧ ∃ T : Fin 32000, tg y = BitVec.ofNat 32 T.val := by
  unfold Cert.Pre_tame.fn at h
  obtain ⟨h12, h14⟩ := one_of_and h
  obtain ⟨h9, h11⟩ := one_of_and h12
  constructor
  · have ht := top_pre X Cert.Pre_tame.Facts.reducesTo_S2x128x1024_S2x128_d2 Cert.Pre_tame.Facts.h_S_ y
    rw [← ht]
    rcases one_of_or h9 with h3 | h8
    · have e := oeq_at _ _ _ h3
      rw [bcast_at, bits_zero16] at e
      exact Or.inl e
    · obtain ⟨h5, h7⟩ := one_of_and h8
      have e5 := oge_at _ _ _ h5
      have e7 := ole_at _ _ _ h7
      rw [bcast_at] at e5 e7
      exact Or.inr ⟨le_trans low_le e5, le_trans e7 high_le⟩
  · have g1 : (0#32 : BitVec 32).sle (tg y) = true := of_ofBool h11
    have g2 : (tg y).slt 32000#32 = true := of_ofBool h14
    simp only [BitVec.sle, BitVec.slt, decide_eq_true_eq] at g1 g2
    have e0 : (0#32 : BitVec 32).toInt = 0 := by decide
    have e1 : (32000#32 : BitVec 32).toInt = 32000 := by decide
    rw [e0] at g1
    rw [e1] at g2
    have hn := (tg y).isLt
    have hi := BitVec.toInt_eq_toNat_cond (tg y)
    have hT : (tg y).toNat < 32000 := by
      split at hi <;> omega
    refine ⟨⟨(tg y).toNat, hT⟩, ?_⟩
    simp

/-- Every token is some result's. -/
theorem tok_surj (r : Fin 256) : ∃ y : S2x128.Idx, tok y = r :=
  ⟨ix2 (⟨r.val / 128, by omega⟩ : Fin 2) (⟨r.val % 128, Nat.mod_lt _ (by decide)⟩ : Fin 128), Fin.ext (by
    show 128 * (r.val / 128) + r.val % 128 = r.val
    omega)⟩

end Cert.Val
-- ==== Proof.Value.Logit.lean ====
/-
  The logits on both sides, entry by entry: the sums of products that the kernel makes chunk by chunk are those of the
  reference, whose products go over the even and the odd inputs of the reference model apart.
-/
module
public import proofs.«01_k».proof.Proof.Value.Token
public import proofs.«01_k».proof.Proof.Value.RefRun
public import Idealize.ShloMosaic.Lib.MatmulPlain
public import Idealize.ShloMosaic.Lib.BitcastPair

@[expose] public section
noncomputable section

namespace Cert.Val

open Idealize.ShloMosaic hiding ix1 ix2 ix3 addf_apply subf_apply mulf_apply divf_apply
open Idealize.ShloMosaic.ValueIdx
open Cert.KernelIdeal (S256x1024 S1280x1024 S1x1280 S1024x1280 S256x512 S1024x256 S512x256 S128x256 S8x1280 S1280x512 S1x256)
open Cert.KernelIdeal.Hand (uV zV nibV deqV wtE wrow Mem)
open Cert.ReferenceIdeal (S2x128x1024 S32000x1024 S32000x512 S32000x8 S32000 S32000x8x64)
open Cert.ReferenceIdeal.Val (xs zp zq half2)

/-! ## The kernel's products -/

section Kernel
variable [Cert.KernelIdeal.Facts]

theorem uV_apply (codes : FVec Ideal S256x1024 .fp8e4m3) (w : FVec Ideal S1280x1024 .fp8e4m3) (ws : FVec Ideal S1x1280 .f32) (r : Fin 256) (j : Fin 1280) :
    uV codes w ws (ix2 r j) = (∑ k : Fin 1024, codes (ix2 r k) * w (ix2 j k)) * ws (ix2 (0 : Fin 1) j) := by
  unfold uV
  rw [mulf_apply]
  simp only [shapeCast_self]
  refine congrArg₂ (· * ·) ?_ ?_
  · refine (Ideal.matmul_transposedRhs_apply none codes w _ r j).trans ?_
    exact (congrArg (· + _) bits_zero).trans (zero_add _)
  · refine broadcastTo_apply _ _ _ _ fun a => ?_
    match a with
    | 0 => rfl
    | 1 => rfl

theorem zV_apply (xr : FVec Ideal S256x1024 .bf16) (wt : FVec Ideal S1024x1280 .bf16) (r : Fin 256) (j : Fin 1280) :
    zV xr wt (ix2 r j) = ∑ k : Fin 1024, xr (ix2 r k) * wt (ix2 k j) := by
  unfold zV
  refine (Ideal.matmul_plain_apply none xr wt _ r j).trans ?_
  exact (congrArg (· + _) bits_zero).trans (zero_add _)

/-- A packed byte's two nibbles in one word, as the kernel puts them. -/
def nibW (w : BitVec 8) : BitVec 32 :=
  IntOp.ori (IntOp.andi (IntOp.shrsi .vector (IntOp.shli .vector (w.setWidth 32) 28#32) 28#32) 65535#32)
    (IntOp.shli .vector (IntOp.shrsi .vector (IntOp.shli .vector (w.setWidth 32) 24#32) 28#32) 16#32)

/-- Nibble `p` of a packed byte. -/
def nib (w : BitVec 8) (p : ℕ) : BitVec 16 := (nibW w).extractLsb' (16 * p) 16

theorem nibV_apply (w : IVec S256x512 8) (k : Fin 1024) (j : Fin 256) :
    nibV w (ix2 k j) = nib (w (ix2 j (⟨k.val / 2, by omega⟩ : Fin 512))) (k.val % 2) := by
  unfold nibV
  rw [bitcast_32_16]
  have hrow : S1024x256.row (ix2 k j) = k.val := rfl
  have hi : Shape.Bitcasts.srcIdx Cert.KernelIdeal.Facts₀.bitcasts_S512x256_w32_S1024x256_w16 (ix2 k j) (S1024x256.row (ix2 k j) / 2)
      (fun a ha => by have := Cert.KernelIdeal.Facts₀.bitcasts_S512x256_w32_S1024x256_w16.pos_lt (ix2 k j) 0 (by decide) a ha; omega)
      = ix2 (⟨k.val / 2, by omega⟩ : Fin 512) j := by
    funext a
    apply Fin.ext
    match a with
    | 0 => exact Shape.Bitcasts.srcIdx_row _ _ _ _ _ rfl
    | 1 => exact Shape.Bitcasts.srcIdx_other _ _ _ _ _ (by decide)
  have ht : transpose S512x256 [1, 0] w Cert.KernelIdeal.Facts₀.transposes_S256x512_p1_0_S512x256 (ix2 (⟨k.val / 2, by omega⟩ : Fin 512) j)
      = w (ix2 j (⟨k.val / 2, by omega⟩ : Fin 512)) := by
    refine transpose_apply _ _ _ _ _ fun a => ?_
    match a with
    | 0 => rfl
    | 1 => rfl
  rw [hi, hrow, ← ht]
  rfl

theorem wtE_apply (S : Mem Ideal) (k : Fin 1024) (j : Fin 1280) :
    wtE S (ix2 k j) = (((nib (S.wr (ix2 j (⟨k.val / 2, by omega⟩ : Fin 512))) (k.val % 2)).toInt : ℝ) : EReal) * S.sr (ix2 (⟨k.val / 128, by omega⟩ : Fin 8) j) := by
  unfold wtE deqV
  dsimp only
  rw [mulf_apply, sitofp_apply]
  refine congrArg₂ (· * ·) ?_ ?_
  · refine congrArg (fun b : BitVec 16 => ((b.toInt : ℝ) : EReal)) ?_
    refine (extractStridedSlice_apply _ _ _ _ (ix2 k (⟨j.val % 256, Nat.mod_lt _ (by decide)⟩ : Fin 256)) fun a => ?_).trans ((nibV_apply _ k _).trans ?_)
    · match a with
      | 0 => show k.val = 128 * (k.val / 128) + k.val % 128; omega
      | 1 => show j.val % 256 = 0 + j.val % 256; omega
    · refine congrArg (fun w => nib w (k.val % 2)) (congrArg S.wr ?_)
      funext a
      apply Fin.ext
      match a with
      | 0 => show 256 * (j.val / 256) + 1 * (j.val % 256) = j.val; omega
      | 1 => show 0 + 1 * (k.val / 2) = k.val / 2; omega
  · refine (broadcastTo_apply _ _ _ (ix2 (0 : Fin 1) (⟨j.val % 256, Nat.mod_lt _ (by decide)⟩ : Fin 256)) fun a => ?_).trans
      (extractStridedSlice_apply _ _ _ _ (ix2 (⟨k.val / 128, by omega⟩ : Fin 8) j) fun a => ?_)
    · match a with
      | 0 => rfl
      | 1 => rfl
    · match a with
      | 0 => show k.val / 128 = k.val / 128 + 0; omega
      | 1 => show j.val = 256 * (j.val / 256) + j.val % 256; omega

end Kernel

/-! ## The reference's products -/

/-- The reference's unpacking of a byte's lower nibble, -/
def loW (w : BitVec 8) : BitVec 32 :=
  Scalar.select (IntOp.cmpi .sge (IntOp.andi (w.setWidth 32) 15#32) 8#32) (IntOp.subi (IntOp.andi (w.setWidth 32) 15#32) 16#32) (IntOp.andi (w.setWidth 32) 15#32)
/-- and of its upper one. -/
def hiW (w : BitVec 8) : BitVec 32 :=
  Scalar.select (IntOp.cmpi .sge (IntOp.andi (IntOp.shrsi .vector (w.setWidth 32) 4#32) 15#32) 8#32)
    (IntOp.subi (IntOp.andi (IntOp.shrsi .vector (w.setWidth 32) 4#32) 15#32) 16#32) (IntOp.andi (IntOp.shrsi .vector (w.setWidth 32) 4#32) 15#32)

theorem nib_lo : ∀ w : BitVec 8, (nib w 0).toInt = (loW w).toInt := by decide +kernel
theorem nib_hi : ∀ w : BitVec 8, (nib w 1).toInt = (hiW w).toInt := by decide +kernel

section Reference
variable [Cert.ReferenceIdeal.Facts]

theorem zp_apply (X : FVec Ideal S2x128x1024 .bf16) (wp : FVec Ideal S32000x1024 .fp8e4m3) (ws : FVec Ideal S32000 .f32) (r : Fin 256) (v : Fin 32000) :
    zp X wp ws (ix2 r v) = (∑ k : Fin 1024, Cert.ReferenceIdeal.Gen.k0_pay3 (F := Ideal) (xs X) (ix2 r k) * wp (ix2 v k))
      * (Ideal.exp2 (refE (top (xs X) r)) * ws (ix1 v)) := by
  unfold zp Cert.ReferenceIdeal.Gen.k0_pay5
  rw [mulf_apply, mulf_apply]
  simp only [shapeCast_self]
  refine congrArg₂ (· * ·) ?_ (congrArg₂ (· * ·) ?_ ?_)
  · refine (Ideal.matmul_transposedRhs_apply none _ wp _ r v).trans ?_
    exact (congrArg (· + _) bits_zero).trans (zero_add _)
  · refine (broadcastTo_apply _ _ _ (ix2 r (0 : Fin 1)) fun a => ?_).trans (pay4_apply (xs X) r 0)
    match a with
    | 0 => rfl
    | 1 => rfl
  · refine (broadcastTo_apply _ _ _ (ix2 (0 : Fin 1) v) fun a => ?_).trans (shapeCast_apply _ _ _ (ix1 v) ?_)
    · match a with
      | 0 => rfl
      | 1 => rfl
    · rw [Shape.rowMajor_val_one, Shape.rowMajor_val_two]
      show v.val = 0 * 32000 + v.val
      omega

/-- A weight with its scale, in the reference's shapes. -/
theorem scaled_apply (q : FVec Ideal S32000x512 .bf16) (sr : FVec Ideal S32000x8 .bf16) (h1 h2 h3 h4) (v : Fin 32000) (k : Fin 512) :
    shapeCast S32000x512 (mulf (φ := .bf16) (shapeCast S32000x8x64 q h1) (broadcastTo S32000x8x64 (shapeCast Cert.ReferenceIdeal.S32000x8x1 sr h2) h3)) h4 (ix2 v k)
      = q (ix2 v k) * sr (ix2 v (⟨k.val / 64, by omega⟩ : Fin 8)) := by
  refine (shapeCast_apply _ _ _ (ix3 v (⟨k.val / 64, by omega⟩ : Fin 8) (⟨k.val % 64, Nat.mod_lt _ (by decide)⟩ : Fin 64)) ?_).trans ?_
  · rw [Shape.rowMajor_val_three, Shape.rowMajor_val_two]
    show (v.val * 8 + k.val / 64) * 64 + k.val % 64 = v.val * 512 + k.val
    omega
  rw [mulf_apply]
  refine congrArg₂ (· * ·) ?_ ?_
  · refine shapeCast_apply _ _ _ (ix2 v k) ?_
    rw [Shape.rowMajor_val_three, Shape.rowMajor_val_two]
    show v.val * 512 + k.val = (v.val * 8 + k.val / 64) * 64 + k.val % 64
    omega
  · refine (broadcastTo_apply _ _ _ (ix3 v (⟨k.val / 64, by omega⟩ : Fin 8) (0 : Fin 1)) fun a => ?_).trans (shapeCast_apply _ _ _ _ ?_)
    · match a with
      | 0 => rfl
      | 1 => rfl
      | 2 => rfl
    · rw [Shape.rowMajor_val_three, Shape.rowMajor_val_two]
      show v.val * 8 + k.val / 64 = (v.val * 8 + k.val / 64) * 1 + 0
      omega

theorem half2_apply (o : Fin 2) (h) (R : FVec Ideal S2x128x1024 .bf16) (r : Fin 256) (k : Fin 512) :
    half2 o h R (ix2 r k) = xs R (ix2 r (⟨2 * k.val + o.val, by omega⟩ : Fin 1024)) := by
  have ex : xs R (ix2 r (⟨2 * k.val + o.val, by omega⟩ : Fin 1024))
      = R (ix3 (⟨r.val / 128, by omega⟩ : Fin 2) (⟨r.val % 128, Nat.mod_lt _ (by decide)⟩ : Fin 128) (⟨2 * k.val + o.val, by omega⟩ : Fin 1024)) := by
    unfold xs
    refine shapeCast_apply _ _ _ _ ?_
    rw [Shape.rowMajor_val_three, Shape.rowMajor_val_two]
    show (r.val / 128 * 128 + r.val % 128) * 1024 + (2 * k.val + o.val) = r.val * 1024 + (2 * k.val + o.val)
    omega
  rw [ex]
  unfold half2
  refine (shapeCast_apply _ _ _ (ix3 r k (0 : Fin 1)) ?_).trans ((extractStridedSlice_apply _ _ _ _ (ix3 r k o) fun a => ?_).trans (shapeCast_apply _ _ _ _ ?_))
  · rw [Shape.rowMajor_val_three, Shape.rowMajor_val_two]
    show (r.val * 512 + k.val) * 1 + 0 = r.val * 512 + k.val
    omega
  · match a with
    | 0 => show r.val = 0 + r.val; omega
    | 1 => show k.val = 0 + k.val; omega
    | 2 => show o.val = o.val + 0; omega
  · rw [Shape.rowMajor_val_three, Shape.rowMajor_val_three]
    show (r.val / 128 * 128 + r.val % 128) * 1024 + (2 * k.val + o.val) = (r.val * 512 + k.val) * 2 + o.val
    omega

theorem zq_apply (R : FVec Ideal S2x128x1024 .bf16) (wr : IVec S32000x512 8) (sr : FVec Ideal S32000x8 .f32) (r : Fin 256) (v : Fin 32000) :
    zq R wr sr (ix2 r v)
      = (∑ k : Fin 512, xs R (ix2 r (⟨2 * k.val, by omega⟩ : Fin 1024)) * ((((loW (wr (ix2 v k))).toInt : ℝ) : EReal) * sr (ix2 v (⟨k.val / 64, by omega⟩ : Fin 8))))
        + ∑ k : Fin 512, xs R (ix2 r (⟨2 * k.val + 1, by omega⟩ : Fin 1024)) * ((((hiW (wr (ix2 v k))).toInt : ℝ) : EReal) * sr (ix2 v (⟨k.val / 64, by omega⟩ : Fin 8))) := by
  unfold zq Cert.ReferenceIdeal.Gen.k0_pay7
  simp only [shapeCast_self]
  rw [addf_apply]
  refine congrArg₂ (· + ·) ?_ ?_
  · refine (Ideal.matmul_transposedRhs_apply none _ _ _ r v).trans ((congrArg (· + _) bits_zero).trans ((zero_add _).trans ?_))
    refine Finset.sum_congr rfl fun k _ => congrArg₂ (· * ·) (half2_apply 0 _ R r k) ((scaled_apply _ _ _ _ _ _ v k).trans rfl)
  · refine (Ideal.matmul_transposedRhs_apply none _ _ _ r v).trans ((congrArg (· + _) bits_zero).trans ((zero_add _).trans ?_))
    refine Finset.sum_congr rfl fun k _ => congrArg₂ (· * ·) (half2_apply 1 _ R r k) ((scaled_apply _ _ _ _ _ _ v k).trans rfl)

end Reference

/-- A sum over the inputs is one over the even and one over the odd inputs. -/
theorem sum_parity (f : Fin 1024 → EReal) :
    ∑ k, f k = ∑ k : Fin 512, f ⟨2 * k.val, by omega⟩ + ∑ k : Fin 512, f ⟨2 * k.val + 1, by omega⟩ := by
  rw [← Finset.sum_add_distrib, ← Equiv.sum_comp (finProdFinEquiv (m := 512) (n := 2)), Fintype.sum_prod_type]
  refine Finset.sum_congr rfl fun k _ => ?_
  rw [Fin.sum_univ_two]
  refine congrArg₂ (· + ·) (congrArg f (Fin.ext ?_)) (congrArg f (Fin.ext ?_))
  · show 0 + 2 * k.val = 2 * k.val
    omega
  · show 1 + 2 * k.val = 2 * k.val + 1
    omega

/-- The reference's logit as the kernel's sum. -/
theorem zq_sum [Cert.ReferenceIdeal.Facts] (R : FVec Ideal S2x128x1024 .bf16) (wr : IVec S32000x512 8) (sr : FVec Ideal S32000x8 .f32) (r : Fin 256) (v : Fin 32000) :
    ∑ k : Fin 1024, xs R (ix2 r k) * ((((nib (wr (ix2 v (⟨k.val / 2, by omega⟩ : Fin 512))) (k.val % 2)).toInt : ℝ) : EReal)
      * sr (ix2 v (⟨k.val / 128, by omega⟩ : Fin 8))) = zq R wr sr (ix2 r v) := by
  rw [zq_apply, sum_parity]
  refine congrArg₂ (· + ·) (Finset.sum_congr rfl fun k _ => congrArg _ ?_) (Finset.sum_congr rfl fun k _ => congrArg _ ?_)
  · have e1 : (⟨2 * k.val / 2, by omega⟩ : Fin 512) = k := Fin.ext (by show 2 * k.val / 2 = k.val; omega)
    have e2 : 2 * k.val % 2 = 0 := by omega
    have e3 : (⟨2 * k.val / 128, by omega⟩ : Fin 8) = ⟨k.val / 64, by omega⟩ := Fin.ext (by show 2 * k.val / 128 = k.val / 64; omega)
    show (((nib (wr (ix2 v (⟨2 * k.val / 2, by omega⟩ : Fin 512))) (2 * k.val % 2)).toInt : ℝ) : EReal) * sr (ix2 v (⟨2 * k.val / 128, by omega⟩ : Fin 8)) = _
    rw [e1, e2, e3, nib_lo]
  · have e1 : (⟨(2 * k.val + 1) / 2, by omega⟩ : Fin 512) = k := Fin.ext (by show (2 * k.val + 1) / 2 = k.val; omega)
    have e2 : (2 * k.val + 1) % 2 = 1 := by omega
    have e3 : (⟨(2 * k.val + 1) / 128, by omega⟩ : Fin 8) = ⟨k.val / 64, by omega⟩ := Fin.ext (by show (2 * k.val + 1) / 128 = k.val / 64; omega)
    show (((nib (wr (ix2 v (⟨(2 * k.val + 1) / 2, by omega⟩ : Fin 512))) ((2 * k.val + 1) % 2)).toInt : ℝ) : EReal) * sr (ix2 v (⟨(2 * k.val + 1) / 128, by omega⟩ : Fin 8)) = _
    rw [e1, e2, e3, nib_hi]

end Cert.Val
-- ==== Proof.Value.RefForm.lean ====
/-
  The reference's three per-token results in closed form: the target's logit less the logarithm of the sum of the
  exponentials, and the divergence.
-/
module
public import proofs.«01_k».proof.Proof.Value.Token

@[expose] public section
noncomputable section

namespace Cert.Val

open Idealize.ShloMosaic Idealize.ShloMosaic.ValueIdx
open Cert.ReferenceIdeal (S256x32000 S256x1 S256 S2x128)
open Cert.ReferenceIdeal.Gen (k0_pay8 k0_pay9 k0_pay10 k0_pay11 k0_pay12 k0_pay13 k0_pay14 k0_pay15 k0_pay16)

variable [Cert.ReferenceIdeal.Facts]

theorem bits_bot : Ideal.ofBits .f32 0xFF800000#32 = ⊥ := by simp [Ideal.ofBits, Ideal.ieee]

theorem lift_voc (h : S256x32000.Reduces [1] S256) (r : Fin 256) (k : Fin 32000) : h.lift (ix1 r) k = ix2 r k := by
  funext a
  match a with
  | 0 => rfl
  | 1 => rfl

theorem max_voc (v : FVec Ideal S256x32000 .f32) (h : S256x32000.Reduces [1] S256) (hφ : FKind.Formats .f32)
    (ha : (0xFF800000#32 : BitVec 32) = FKind.maximumf.neutral .f32 hφ) (hc : S256.ShapeCasts S256x1) (r : Fin 256) (z : Fin 1) :
    shapeCast S256x1 (multiReduction .maximumf [1] S256 v 0xFF800000#32 h hφ ha) hc (ix2 r z) = Finset.univ.sup fun k : Fin 32000 => v (ix2 r k) := by
  refine (shapeCast_apply _ _ (ix2 r z) (ix1 r) (row_unit r z)).trans ((Ideal.multiReduction_maximumf_single v _ h hφ ha (ix1 r)).trans ?_)
  have e : v ∘ h.lift (ix1 r) = fun k : Fin 32000 => v (ix2 r k) := by
    funext k
    exact congrArg v (lift_voc h r k)
  exact (congrArg (fun f => (Finset.univ : Finset (Fin 32000)).fold max (Ideal.ofBits .f32 0xFF800000#32) f) e).trans
    (congrArg (fun b => (Finset.univ : Finset (Fin 32000)).fold max b fun k => v (ix2 r k)) bits_bot)

theorem sum_voc (v : FVec Ideal S256x32000 .f32) (h : S256x32000.Reduces [1] S256) (hφ : FKind.Formats .f32)
    (ha : (0x00000000#32 : BitVec 32) = FKind.add.neutral .f32 hφ) (hc : S256.ShapeCasts S256x1) (r : Fin 256) (z : Fin 1) :
    shapeCast S256x1 (multiReduction .add [1] S256 v 0x00000000#32 h hφ ha) hc (ix2 r z) = ∑ k : Fin 32000, v (ix2 r k) := by
  refine (shapeCast_apply _ _ (ix2 r z) (ix1 r) (row_unit r z)).trans ((Ideal.multiReduction_add_single v _ h hφ ha (ix1 r)).trans ?_)
  exact Finset.sum_congr rfl fun k _ => congrArg v (lift_voc h r k)

/-- A token's largest logit. -/
def mx (z : FVec Ideal S256x32000 .f32) (r : Fin 256) : EReal := Finset.univ.sup fun v : Fin 32000 => z (ix2 r v)

theorem pay8_apply (z : FVec Ideal S256x32000 .f32) (r : Fin 256) (o : Fin 1) : k0_pay8 z (ix2 r o) = mx z r := by
  unfold k0_pay8
  exact max_voc z _ _ _ _ r o

theorem bc_voc (t : FVec Ideal S256x1 .f32) (h : S256x1.Broadcasts S256x32000) (r : Fin 256) (v : Fin 32000) :
    broadcastTo S256x32000 t h (ix2 r v) = t (ix2 r (0 : Fin 1)) := by
  refine broadcastTo_apply _ _ _ _ fun a => ?_
  match a with
  | 0 => rfl
  | 1 => rfl

theorem pay9_apply (z : FVec Ideal S256x32000 .f32) (t : FVec Ideal S256x1 .f32) (r : Fin 256) (v : Fin 32000) :
    k0_pay9 z t (ix2 r v) = Ideal.exp (z (ix2 r v) - t (ix2 r (0 : Fin 1))) := by
  unfold k0_pay9
  exact congrArg (fun b => Ideal.exp (z (ix2 r v) - b)) (bc_voc t _ r v)

theorem pay10_apply (z : FVec Ideal S256x32000 .f32) (r : Fin 256) (o : Fin 1) :
    k0_pay10 z (k0_pay8 z) (ix2 r o) = sumExp Finset.univ (fun v : Fin 32000 => z (ix2 r v)) (mx z r) := by
  unfold k0_pay10
  refine (sum_voc _ _ _ _ _ r o).trans (Finset.sum_congr rfl fun v _ => ?_)
  rw [pay9_apply, pay8_apply]

theorem logV_apply {s : Shape} (v : FVec Ideal s .f32) (i : s.Idx) : log v i = Ideal.log (v i) := rfl

/-- The logarithm of the sum of the exponentials. -/
def lse (z : FVec Ideal S256x32000 .f32) (r : Fin 256) : EReal := mx z r + Ideal.log (sumExp Finset.univ (fun v : Fin 32000 => z (ix2 r v)) (mx z r))

theorem pay12_apply (z : FVec Ideal S256x32000 .f32) (r : Fin 256) (o : Fin 1) : k0_pay12 z (k0_pay8 z) (ix2 r o) = lse z r := by
  unfold k0_pay12 lse
  rw [addf_apply, logV_apply, pay8_apply, pay10_apply]

theorem pay13_eq (z : FVec Ideal S256x32000 .f32) : k0_pay13 z = k0_pay12 z (k0_pay8 z) := rfl

theorem pay13_apply (z : FVec Ideal S256x32000 .f32) (r : Fin 256) (o : Fin 1) : k0_pay13 z (ix2 r o) = lse z r := by
  rw [pay13_eq]
  exact pay12_apply z r o

theorem pay11_apply (t : IVec S256x1 32) (r : Fin 256) (v : Fin 32000) :
    k0_pay11 (F := Ideal) t (ix2 r v) = IntOp.cmpi .eq (BitVec.ofNat 32 v.val) (t (ix2 r (0 : Fin 1))) := by
  unfold k0_pay11
  simp only [shapeCast_self]
  have hi : iota .tc S256x32000 32 [1] Cert.ReferenceIdeal.Facts₀.iota_S256x32000_d1_w32 (ix2 r v) = BitVec.ofNat 32 v.val := iota_single_apply ..
  have hb : broadcastTo S256x32000 t Cert.ReferenceIdeal.Facts₀.broadcasts_S256x1_S256x32000 (ix2 r v) = t (ix2 r (0 : Fin 1)) := by
    refine broadcastTo_apply _ _ _ _ fun a => ?_
    match a with
    | 0 => rfl
    | 1 => rfl
  rw [← hi, ← hb]
  rfl

/-- Equal words below the modulus are equal numbers. -/
theorem cmpi_eq_ofNat (a b : ℕ) (ha : a < 2 ^ 32) (hb : b < 2 ^ 32) (x y : EReal) :
    Scalar.select (IntOp.cmpi .eq (BitVec.ofNat 32 a) (BitVec.ofNat 32 b)) x y = if a = b then x else y := by
  have e : IntOp.cmpi .eq (BitVec.ofNat 32 a) (BitVec.ofNat 32 b) = BitVec.ofBool (BitVec.ofNat 32 a == BitVec.ofNat 32 b) := rfl
  by_cases h : a = b
  · subst h
    rw [e, beq_self_eq_true, if_pos rfl]
    exact select_one _ _
  · have : (BitVec.ofNat 32 a == BitVec.ofNat 32 b) = false := by
      rw [beq_eq_false_iff_ne]
      intro h'
      have := congrArg BitVec.toNat h'
      simp only [BitVec.toNat_ofNat] at this
      omega
    rw [e, this, if_neg h]
    exact select_zero _ _

theorem sel_voc (z : FVec Ideal S256x32000 .f32) (t : IVec S256x1 32) (r : Fin 256) (T : Fin 32000) (ht : t (ix2 r (0 : Fin 1)) = BitVec.ofNat 32 T.val)
    (h : S256x32000.Reduces [1] S256) (hφ : FKind.Formats .f32)
    (ha : (0x00000000#32 : BitVec 32) = FKind.add.neutral .f32 hφ) (hc : S256.ShapeCasts S256x1) (o : Fin 1) :
    shapeCast S256x1 (multiReduction .add [1] S256 (select (k0_pay11 (F := Ideal) t) z (broadcast S256x32000 (Scalar.ofBits (F := Ideal) .f32 0x00000000#32)))
      0x00000000#32 h hφ ha) hc (ix2 r o) = z (ix2 r T) := by
  refine (sum_voc _ _ _ _ _ r o).trans ?_
  have e (v : Fin 32000) : select (k0_pay11 (F := Ideal) t) z (broadcast S256x32000 (Scalar.ofBits (F := Ideal) .f32 0x00000000#32)) (ix2 r v)
      = if v = T then z (ix2 r v) else 0 := by
    rw [select_apply, pay11_apply, ht, cmpi_eq_ofNat _ _ (by omega) (by omega)]
    simp only [Fin.ext_iff]
    refine if_congr Iff.rfl rfl bits_zero
  rw [Finset.sum_congr rfl fun v _ => e v]
  simp

theorem cast_tok (v : FVec Ideal S256x1 .f32) (h : S256x1.ShapeCasts S2x128) (y : S2x128.Idx) : shapeCast S2x128 v h y = v (ix2 (tok y) (0 : Fin 1)) := by
  refine shapeCast_apply _ _ _ _ ?_
  rw [Shape.rowMajor_val_two, Shape.rowMajor_val_two]
  show (128 * (y 0).val + (y 1).val) * 1 + 0 = (y 0).val * 128 + (y 1).val
  omega

theorem pay14_apply (z : FVec Ideal S256x32000 .f32) (t : IVec S256x1 32) (y : S2x128.Idx) (T : Fin 32000)
    (ht : t (ix2 (tok y) (0 : Fin 1)) = BitVec.ofNat 32 T.val) : k0_pay14 z (k0_pay8 z) t y = z (ix2 (tok y) T) - lse z (tok y) := by
  unfold k0_pay14
  refine (cast_tok _ _ y).trans ?_
  rw [subf_apply]
  exact congrArg₂ (· - ·) (sel_voc z t (tok y) T ht _ _ _ _ 0) (pay12_apply z (tok y) 0)

theorem pay15_apply (z : FVec Ideal S256x32000 .f32) (t : IVec S256x1 32) (y : S2x128.Idx) (T : Fin 32000)
    (ht : t (ix2 (tok y) (0 : Fin 1)) = BitVec.ofNat 32 T.val) : k0_pay15 z t y = z (ix2 (tok y) T) - lse z (tok y) := by
  unfold k0_pay15
  refine (cast_tok _ _ y).trans ?_
  rw [subf_apply]
  exact congrArg₂ (· - ·) (sel_voc z t (tok y) T ht _ _ _ _ 0) (pay13_apply z (tok y) 0)

theorem kl_of (A B C D : FVec Ideal S256x1 .f32) (i : S256x1.Idx) {a b c d : EReal} (hA : A i = a) (hB : B i = b) (hC : C i = c) (hD : D i = d) :
    addf (subf (divf A B) C) D i = Ideal.div a b - c + d := by
  subst hA hB hC hD
  rfl

theorem pay16_apply (z w : FVec Ideal S256x32000 .f32) (y : S2x128.Idx) :
    k0_pay16 z w (k0_pay8 z) y = Ideal.div (sumDiff Finset.univ (fun v : Fin 32000 => z (ix2 (tok y) v)) (fun v : Fin 32000 => w (ix2 (tok y) v)) (mx z (tok y)))
      (sumExp Finset.univ (fun v : Fin 32000 => z (ix2 (tok y) v)) (mx z (tok y))) - lse z (tok y) + lse w (tok y) := by
  unfold k0_pay16
  refine (cast_tok _ _ y).trans ?_
  refine kl_of _ _ _ _ _ ?_ (pay10_apply z (tok y) 0) (pay12_apply z (tok y) 0) (pay13_apply w (tok y) 0)
  refine (sum_voc _ _ _ _ _ _ _).trans (Finset.sum_congr rfl fun v _ => ?_)
  rw [mulf_apply, subf_apply, pay9_apply, pay8_apply]

end Cert.Val
-- ==== Proof.Value.Chunk.lean ====
/-
  One chunk of the online softmax on one lane: the running maximum and the running sums after a chunk are those of the
  classes seen so far, and the target's logit is kept from the chunk that the target lies in.
-/
module
public import proofs.«01_k».proof.Proof.Value.Quant

@[expose] public section
noncomputable section

namespace Cert.Val

open Idealize.ShloMosaic Idealize.ShloMosaic.ValueIdx
open Cert.KernelIdeal.Hand (maxE sumE selE stepE hitE)

/-! ## The classes of a lane -/

/-- The classes of lane `l` in the first `n` chunks. -/
def seen (n : ℕ) (l : Fin 128) : Finset (Fin 32000) := Finset.univ.filter fun v => v.val % 128 = l.val ∧ v.val < 1280 * n

/-- The class of tile `j` of chunk `n` on lane `l`. -/
def cls (n : ℕ) (hn : n < 25) (l : Fin 128) (j : Fin 10) : Fin 32000 := ⟨1280 * n + 128 * j.val + l.val, by omega⟩

theorem cls_inj (n : ℕ) (hn : n < 25) (l : Fin 128) : Function.Injective (cls n hn l) := by
  intro i j h
  have : 1280 * n + 128 * i.val + l.val = 1280 * n + 128 * j.val + l.val := congrArg Fin.val h
  exact Fin.ext (by omega)

/-- The ten classes of a chunk on a lane. -/
def ten (n : ℕ) (hn : n < 25) (l : Fin 128) : Finset (Fin 32000) := Finset.univ.map ⟨cls n hn l, cls_inj n hn l⟩

theorem seen_succ (n : ℕ) (hn : n < 25) (l : Fin 128) : seen (n + 1) l = seen n l ∪ ten n hn l := by
  ext v
  simp only [seen, ten, Finset.mem_union, Finset.mem_filter, Finset.mem_univ, true_and, Finset.mem_map, Function.Embedding.coeFn_mk]
  have hl := l.isLt
  constructor
  · rintro ⟨h1, h2⟩
    by_cases h : v.val < 1280 * n
    · exact Or.inl ⟨h1, h⟩
    · refine Or.inr ⟨⟨(v.val - 1280 * n) / 128, by omega⟩, Fin.ext ?_⟩
      show 1280 * n + 128 * ((v.val - 1280 * n) / 128) + l.val = v.val
      omega
  · rintro (⟨h1, h2⟩ | ⟨j, rfl⟩)
    · exact ⟨h1, by omega⟩
    · have hj := j.isLt
      show (1280 * n + 128 * j.val + l.val) % 128 = l.val ∧ 1280 * n + 128 * j.val + l.val < 1280 * (n + 1)
      omega

theorem seen_disj (n : ℕ) (hn : n < 25) (l : Fin 128) : Disjoint (seen n l) (ten n hn l) := by
  rw [Finset.disjoint_left]
  intro v h1 h2
  simp only [seen, Finset.mem_filter, Finset.mem_univ, true_and] at h1
  simp only [ten, Finset.mem_map, Finset.mem_univ, true_and, Function.Embedding.coeFn_mk] at h2
  obtain ⟨j, rfl⟩ := h2
  have : 1280 * n + 128 * j.val + l.val < 1280 * n := h1.2
  omega

theorem seen_zero (l : Fin 128) : seen 0 l = ∅ := by simp [seen]

theorem sum_ten (n : ℕ) (hn : n < 25) (l : Fin 128) (f : Fin 32000 → EReal) : ∑ v ∈ ten n hn l, f v = ∑ j : Fin 10, f (cls n hn l j) :=
  Finset.sum_map _ _ _

theorem sup_ten (n : ℕ) (hn : n < 25) (l : Fin 128) (f : Fin 32000 → EReal) :
    (ten n hn l).sup f = (Finset.univ : Finset (Fin 10)).sup fun j => f (cls n hn l j) := Finset.sup_map _ _ _

/-- All lanes together hold every class once. -/
theorem sum_lanes (f : Fin 32000 → EReal) : ∑ l : Fin 128, ∑ v ∈ seen 25 l, f v = ∑ v, f v := by
  have e : ∀ l : Fin 128, seen 25 l = Finset.univ.filter fun v : Fin 32000 => (⟨v.val % 128, Nat.mod_lt _ (by decide)⟩ : Fin 128) = l := by
    intro l
    ext v
    simp only [seen, Finset.mem_filter, Finset.mem_univ, true_and, Fin.ext_iff]
    have := v.isLt
    omega
  simp only [e]
  exact Finset.sum_fiberwise _ _ _

theorem sup_lanes (f : Fin 32000 → EReal) : (Finset.univ : Finset (Fin 128)).sup (fun l => (seen 25 l).sup f) = Finset.univ.sup f := by
  apply le_antisymm
  · exact Finset.sup_le fun l _ => Finset.sup_mono (Finset.subset_univ _)
  · refine Finset.sup_le fun v _ => ?_
    refine le_trans ?_ (Finset.le_sup (f := fun l => (seen 25 l).sup f) (Finset.mem_univ (⟨v.val % 128, Nat.mod_lt _ (by decide)⟩ : Fin 128)))
    refine Finset.le_sup (f := f) ?_
    simp only [seen, Finset.mem_filter, Finset.mem_univ, true_and]
    have := v.isLt
    omega

/-! ## One chunk -/

theorem maxE_eq (m : EReal) (a : Fin 10 → EReal) : maxE (F := Ideal) m a = max m (Finset.univ.sup a) := by
  show max (max (max (max (max (max (max (max (max (max m (a 0)) (a 1)) (a 2)) (a 3)) (a 4)) (a 5)) (a 6)) (a 7)) (a 8)) (a 9) = _
  apply le_antisymm
  · have h (j : Fin 10) : a j ≤ max m (Finset.univ.sup a) := le_max_of_le_right (Finset.le_sup (Finset.mem_univ j))
    exact max_le (max_le (max_le (max_le (max_le (max_le (max_le (max_le (max_le (max_le (le_max_left _ _) (h 0)) (h 1)) (h 2)) (h 3)) (h 4)) (h 5)) (h 6)) (h 7)) (h 8)) (h 9)
  · refine max_le (by simp) (Finset.sup_le fun j _ => ?_)
    fin_cases j <;> simp

theorem sumE_eq (a : Fin 10 → EReal) : sumE (F := Ideal) a = ∑ j, a j := by
  show a 0 + a 1 + a 2 + a 3 + a 4 + a 5 + a 6 + a 7 + a 8 + a 9 = _
  simp only [Fin.sum_univ_succ, Finset.univ_eq_empty, Finset.sum_empty]
  simp only [add_zero, ← add_assoc]
  rfl

theorem max_step (n : ℕ) (hn : n < 25) (l : Fin 128) (c : EReal) (a : Fin 32000 → EReal) :
    maxE (F := Ideal) (max c ((seen n l).sup a)) (fun j => a (cls n hn l j)) = max c ((seen (n + 1) l).sup a) := by
  rw [maxE_eq, seen_succ n hn, Finset.sup_union, sup_ten, max_assoc]

theorem max_le_step (n : ℕ) (l : Fin 128) (c : EReal) (a : Fin 32000 → EReal) : max c ((seen n l).sup a) ≤ max c ((seen (n + 1) l).sup a) := by
  refine max_le_max le_rfl (Finset.sup_mono fun v hv => ?_)
  simp only [seen, Finset.mem_filter, Finset.mem_univ, true_and] at hv ⊢
  exact ⟨hv.1, by omega⟩

theorem sum_step (n : ℕ) (hn : n < 25) (l : Fin 128) (a w : Fin 32000 → EReal) {M N : EReal} (h : M ≤ N) (hM : M ≠ ⊥) :
    stepE (F := Ideal) (W (seen n l) a w M) M N (sumE (F := Ideal) fun j => Ideal.exp2 (a (cls n hn l j) - N) * w (cls n hn l j)) = W (seen (n + 1) l) a w N := by
  show W (seen n l) a w M * Ideal.exp2 (M - N) + sumE (F := Ideal) (fun j => Ideal.exp2 (a (cls n hn l j) - N) * w (cls n hn l j)) = _
  rw [W_resc _ _ _ h hM, sumE_eq, seen_succ n hn]
  unfold W
  rw [Finset.sum_union (seen_disj n hn l), sum_ten]

/-! ## The target's logit -/

theorem hit_iff (T n j : ℕ) (hT : T < 32000) (hn : n < 25) (hj : j < 10) : hitE (BitVec.ofNat 32 T) (BitVec.ofNat 32 n) j = 1 ↔ T / 128 = 10 * n + j := by
  unfold hitE
  have e1 : (IntOp.shrsi .vector (BitVec.ofNat 32 T) 7#32) = BitVec.ofNat 32 (T / 128) := by
    have h : (BitVec.ofNat 32 T).msb = false := by
      rw [BitVec.msb_eq_false_iff_two_mul_lt, BitVec.toNat_ofNat]; omega
    apply BitVec.eq_of_toNat_eq
    show (BitVec.sshiftRight (BitVec.ofNat 32 T) 7).toNat = _
    rw [BitVec.sshiftRight_eq_of_msb_false h, BitVec.toNat_ushiftRight, BitVec.toNat_ofNat, BitVec.toNat_ofNat, Nat.mod_eq_of_lt (by omega), Nat.mod_eq_of_lt (by omega),
      Nat.shiftRight_eq_div_pow]
  have e2 : Scalar.addi (Scalar.muli (BitVec.ofNat 32 n) 10#32) (BitVec.ofNat 32 j) = BitVec.ofNat 32 (10 * n + j) := by
    show BitVec.ofNat 32 n * 10#32 + BitVec.ofNat 32 j = _
    apply BitVec.eq_of_toNat_eq
    simp only [BitVec.toNat_add, BitVec.toNat_mul, BitVec.toNat_ofNat]
    omega
  rw [e1, e2]
  show (BitVec.ofBool (BitVec.ofNat 32 (T / 128) == BitVec.ofNat 32 (10 * n + j))) = 1#1 ↔ _
  by_cases h : T / 128 = 10 * n + j
  · rw [h]; simp
  · have : (BitVec.ofNat 32 (T / 128) == BitVec.ofNat 32 (10 * n + j)) = false := by
      rw [beq_eq_false_iff_ne]
      intro h'
      have := congrArg BitVec.toNat h'
      simp only [BitVec.toNat_ofNat] at this
      omega
    rw [this]; simp [h]

theorem sel_step (T n : ℕ) (hT : T < 32000) (hn : n < 25) (l : Fin 128) (hl : T % 128 = l.val) (a : Fin 32000 → EReal) (x : EReal)
    (hx : T < 1280 * n → x = a ⟨T, hT⟩) (h : T < 1280 * (n + 1)) :
    selE (F := Ideal) (BitVec.ofNat 32 T) (BitVec.ofNat 32 n) (fun j => a (cls n hn l j)) x = a ⟨T, hT⟩ := by
  have e (j : Fin 10) (hj : T / 128 = 10 * n + j.val) : a (cls n hn l j) = a ⟨T, hT⟩ := by
    refine congrArg a (Fin.ext ?_)
    show 1280 * n + 128 * j.val + l.val = T
    omega
  unfold selE
  simp only [hit_iff T n _ hT hn (show (0 : ℕ) < 10 by decide), hit_iff T n _ hT hn (show (1 : ℕ) < 10 by decide), hit_iff T n _ hT hn (show (2 : ℕ) < 10 by decide),
    hit_iff T n _ hT hn (show (3 : ℕ) < 10 by decide), hit_iff T n _ hT hn (show (4 : ℕ) < 10 by decide), hit_iff T n _ hT hn (show (5 : ℕ) < 10 by decide),
    hit_iff T n _ hT hn (show (6 : ℕ) < 10 by decide), hit_iff T n _ hT hn (show (7 : ℕ) < 10 by decide), hit_iff T n _ hT hn (show (8 : ℕ) < 10 by decide),
    hit_iff T n _ hT hn (show (9 : ℕ) < 10 by decide)]
  split_ifs with h9 h8 h7 h6 h5 h4 h3 h2 h1 h0
  · exact e 9 h9
  · exact e 8 h8
  · exact e 7 h7
  · exact e 6 h6
  · exact e 5 h5
  · exact e 4 h4
  · exact e 3 h3
  · exact e 2 h2
  · exact e 1 h1
  · exact e 0 h0
  · exact hx (by omega)

/-! ## The maximum, scaled -/

theorem sup_L (z : Fin 32000 → EReal) : (Finset.univ.sup fun v => z v * (L : EReal)) = Finset.univ.sup z * (L : EReal) := by
  apply le_antisymm
  · exact Finset.sup_le fun v hv => mul_L_le (Finset.le_sup hv)
  · obtain ⟨v, hv, e⟩ := Finset.exists_mem_eq_sup Finset.univ ⟨(0 : Fin 32000), Finset.mem_univ _⟩ z
    rw [e]
    exact Finset.le_sup (f := fun v => z v * (L : EReal)) hv

end Cert.Val
-- ==== Proof.Value.Join.lean ====
/-
  The last point's joining of the lanes: each result of the kernel from what each lane holds.
-/
module
public import proofs.«01_k».proof.Proof.Value.Token
public import proofs.«01_k».proof.Proof.Value.Chunk

@[expose] public section
noncomputable section

namespace Cert.Val

open Idealize.ShloMosaic Idealize.ShloMosaic.ValueIdx
open Cert.KernelIdeal (S128x128 S128x1 S128 S256x128 S1x128 S2x128)
open Cert.KernelIdeal.Hand (Mem maxV addV facV selV lseV outV sumH lseH logpH klH half)

variable [Cert.KernelIdeal.Facts]

theorem bits_bot' : Ideal.ofBits .f32 0xFF800000#32 = ⊥ := by simp [Ideal.ofBits, Ideal.ieee]

theorem lift_128 (h : S128x128.Reduces [1] S128) (r : Fin 128) (k : Fin 128) : h.lift (ix1 r) k = ix2 r k := by
  funext a
  match a with
  | 0 => rfl
  | 1 => rfl

theorem row_128 (r : Fin 128) (z : Fin 1) : (S128.rowMajor (ix1 r)).val = (S128x1.rowMajor (ix2 r z)).val := by
  rw [Shape.rowMajor_val_one, Shape.rowMajor_val_two]
  show r.val = r.val * 1 + z.val
  omega

theorem maxV_apply (v : FVec Ideal S128x128 .f32) (r : Fin 128) (z : Fin 1) : maxV v (ix2 r z) = Finset.univ.sup fun l : Fin 128 => v (ix2 r l) := by
  unfold maxV
  refine (shapeCast_apply _ _ (ix2 r z) (ix1 r) (row_128 r z)).trans ((Ideal.multiReduction_maximumf_single v _ _ _ _ (ix1 r)).trans ?_)
  have e : v ∘ (Cert.KernelIdeal.Facts₀.reduces_S128x128_S128).lift (ix1 r) = fun k : Fin 128 => v (ix2 r k) := by
    funext k
    exact congrArg v (lift_128 _ r k)
  exact (congrArg (fun f => (Finset.univ : Finset (Fin 128)).fold max (Ideal.ofBits .f32 0xFF800000#32) f) e).trans
    (congrArg (fun b => (Finset.univ : Finset (Fin 128)).fold max b fun k => v (ix2 r k)) bits_bot')

theorem addV_apply (v : FVec Ideal S128x128 .f32) (r : Fin 128) (z : Fin 1) : addV v (ix2 r z) = ∑ l : Fin 128, v (ix2 r l) := by
  unfold addV
  refine (shapeCast_apply _ _ (ix2 r z) (ix1 r) (row_128 r z)).trans ((Ideal.multiReduction_add_single v _ _ _ _ (ix1 r)).trans ?_)
  exact Finset.sum_congr rfl fun k _ => congrArg v (lift_128 _ r k)

theorem facV_apply (v : FVec Ideal S128x128 .f32) (t : FVec Ideal S128x1 .f32) (r l : Fin 128) :
    facV v t (ix2 r l) = Ideal.exp2 (v (ix2 r l) - t (ix2 r (0 : Fin 1))) := by
  unfold facV
  refine congrArg (fun b => Ideal.exp2 (v (ix2 r l) - b)) ?_
  refine broadcastTo_apply _ _ _ _ fun a => ?_
  match a with
  | 0 => rfl
  | 1 => rfl

theorem outV_apply (v : FVec Ideal S128x1 .f32) (l : Fin 128) : outV v (ix2 (0 : Fin 1) l) = v (ix2 l (0 : Fin 1)) * ((Real.log 2 : ℝ) : EReal) := by
  unfold outV
  simp only [shapeCast_self]
  refine (extractStridedSlice_apply _ _ _ _ (ix2 (0 : Fin 128) l) fun a => ?_).trans
    ((transpose_apply _ _ _ _ (ix2 l (0 : Fin 128)) fun a => ?_).trans ((broadcastTo_apply _ _ _ (ix2 l (0 : Fin 1)) fun a => ?_).trans rfl))
  · match a with
    | 0 => rfl
    | 1 => show l.val = 0 + l.val; omega
  · match a with
    | 0 => rfl
    | 1 => rfl
  · match a with
    | 0 => rfl
    | 1 => rfl

/-- Token `r` of half `h`. -/
def tokH (h : Fin 2) (r : Fin 128) : Fin 256 := ⟨128 * h.val + r.val, by omega⟩

theorem half_idx (h : Fin 2) (r l : Fin 128) : (half h).toLoadRect.idx (ix2 r l) = ix2 (tokH h r) l := by
  funext a
  apply Fin.ext
  match a with
  | 0 => show 128 * h.val + 1 * r.val = 128 * h.val + r.val; omega
  | 1 => show 0 + 1 * l.val = l.val; omega

variable (S : Mem Ideal) (h : Fin 2) (r : Fin 128)

theorem top_apply (m : FVec Ideal S256x128 .f32) (z : Fin 1) :
    maxV (fun x => m ((half h).toLoadRect.idx x)) (ix2 r z) = Finset.univ.sup fun l : Fin 128 => m (ix2 (tokH h r) l) := by
  refine (maxV_apply _ r z).trans ?_
  simp only [half_idx]

theorem sumH_apply (s m : FVec Ideal S256x128 .f32) (z : Fin 1) :
    sumH S h s m (ix2 r z) = ∑ l : Fin 128, s (ix2 (tokH h r) l) * Ideal.exp2 (m (ix2 (tokH h r) l) - Finset.univ.sup fun l : Fin 128 => m (ix2 (tokH h r) l)) := by
  unfold sumH
  refine (addV_apply _ r z).trans (Finset.sum_congr rfl fun l _ => ?_)
  rw [mulf_apply]
  refine congrArg₂ (· * ·) (congrArg s (half_idx h r l)) ?_
  refine (facV_apply _ _ r l).trans ?_
  rw [top_apply, half_idx]

/-- The rescaled sum of all lanes. -/
theorem join_max (c : EReal) (a : Fin 32000 → EReal) (m : FVec Ideal S256x128 .f32) (t : Fin 256)
    (hm : ∀ l : Fin 128, m (ix2 t l) = max c ((seen 25 l).sup a)) : (Finset.univ.sup fun l : Fin 128 => m (ix2 t l)) = max c (Finset.univ.sup a) := by
  simp only [hm]
  rw [← sup_lanes a]
  apply le_antisymm
  · refine Finset.sup_le fun l hl => max_le_max le_rfl ?_
    exact Finset.le_sup (f := fun l : Fin 128 => (seen 25 l).sup a) hl
  · refine max_le ?_ (Finset.sup_mono_fun fun l _ => le_max_right _ _)
    exact le_trans (le_max_left c ((seen 25 0).sup a)) (Finset.le_sup (f := fun l : Fin 128 => max c ((seen 25 l).sup a)) (Finset.mem_univ 0))

theorem join_sum (c : EReal) (hc : c ≠ ⊥) (a w : Fin 32000 → EReal) (s m : FVec Ideal S256x128 .f32)
    (hm : ∀ l : Fin 128, m (ix2 (tokH h r) l) = max c ((seen 25 l).sup a))
    (hs : ∀ l : Fin 128, s (ix2 (tokH h r) l) = W (seen 25 l) a w (max c ((seen 25 l).sup a))) (z : Fin 1) :
    sumH S h s m (ix2 r z) = W Finset.univ a w (max c (Finset.univ.sup a)) := by
  rw [sumH_apply, join_max c a m (tokH h r) hm]
  have e (l : Fin 128) : s (ix2 (tokH h r) l) * Ideal.exp2 (m (ix2 (tokH h r) l) - max c (Finset.univ.sup a)) = W (seen 25 l) a w (max c (Finset.univ.sup a)) := by
    rw [hs, hm]
    exact W_resc _ _ _ (max_le_max le_rfl (Finset.sup_mono (Finset.subset_univ _))) (max_ne_bot hc)
  rw [Finset.sum_congr rfl fun l _ => e l]
  exact sum_lanes fun v => Ideal.exp2 (a v - max c (Finset.univ.sup a)) * w v

theorem lseH_apply (s m : FVec Ideal S256x128 .f32) (z : Fin 1) :
    lseH S h s m (ix2 r z) = (Finset.univ.sup fun l : Fin 128 => m (ix2 (tokH h r) l)) + Ideal.log (sumH S h s m (ix2 r z)) * (L : EReal) := by
  unfold lseH lseV
  rw [addf_apply]
  exact congrArg₂ (· + ·) (top_apply h r m z) rfl

/-- Equal words below the modulus are equal numbers. -/
theorem cmpi_ofNat (a b : ℕ) (ha : a < 2 ^ 32) (hb : b < 2 ^ 32) (x y : EReal) :
    Scalar.select (IntOp.cmpi .eq (BitVec.ofNat 32 a) (BitVec.ofNat 32 b)) x y = if a = b then x else y := by
  have e : IntOp.cmpi .eq (BitVec.ofNat 32 a) (BitVec.ofNat 32 b) = BitVec.ofBool (BitVec.ofNat 32 a == BitVec.ofNat 32 b) := rfl
  by_cases h : a = b
  · subst h
    rw [e, beq_self_eq_true, if_pos rfl]
    exact select_one _ _
  · have : (BitVec.ofNat 32 a == BitVec.ofNat 32 b) = false := by
      rw [beq_eq_false_iff_ne]
      intro h'
      have := congrArg BitVec.toNat h'
      simp only [BitVec.toNat_ofNat] at this
      omega
    rw [e, this, if_neg h]
    exact select_zero _ _

/-- The target's logit, taken from the lane the target lies on. -/
theorem selV_apply (tg : IVec S128x128 32) (s : FVec Ideal S128x128 .f32) (T : ℕ) (hT : T < 32000) (ht : ∀ l : Fin 128, tg (ix2 r l) = BitVec.ofNat 32 T) (z : Fin 1) :
    selV tg s (ix2 r z) = s (ix2 r (⟨T % 128, Nat.mod_lt _ (by decide)⟩ : Fin 128)) := by
  unfold selV
  refine (addV_apply _ r z).trans ?_
  have e (l : Fin 128) : select (cmpi .eq (iota .tc S128x128 32 [1] Cert.KernelIdeal.Facts₀.iota_S128x128_d1_w32) (andi tg (broadcast S128x128 127#32))) s
      (broadcast S128x128 (Scalar.ofBits (F := Ideal) .f32 0x00000000#32)) (ix2 r l)
      = if l = (⟨T % 128, Nat.mod_lt _ (by decide)⟩ : Fin 128) then s (ix2 r l) else 0 := by
    have hi : iota .tc S128x128 32 [1] Cert.KernelIdeal.Facts₀.iota_S128x128_d1_w32 (ix2 r l) = BitVec.ofNat 32 l.val := iota_single_apply ..
    have ha : IntOp.andi (tg (ix2 r l)) 127#32 = BitVec.ofNat 32 (T % 128) := by
      rw [ht]
      apply BitVec.eq_of_toNat_eq
      show (BitVec.ofNat 32 T &&& 127#32).toNat = _
      rw [BitVec.toNat_and, BitVec.toNat_ofNat, BitVec.toNat_ofNat, BitVec.toNat_ofNat, Nat.mod_eq_of_lt (by omega), Nat.mod_eq_of_lt (by omega), Nat.mod_eq_of_lt (by omega)]
      exact Nat.and_two_pow_sub_one_eq_mod T 7
    have hc : cmpi .eq (iota .tc S128x128 32 [1] Cert.KernelIdeal.Facts₀.iota_S128x128_d1_w32) (andi tg (broadcast S128x128 127#32)) (ix2 r l)
        = IntOp.cmpi .eq (BitVec.ofNat 32 l.val) (BitVec.ofNat 32 (T % 128)) := by
      rw [← hi, ← ha]
      rfl
    rw [select_apply, hc, cmpi_ofNat _ _ (by omega) (by omega)]
    simp only [Fin.ext_iff]
    exact if_congr Iff.rfl rfl bits_zero
  rw [Finset.sum_congr rfl fun l _ => e l]
  simp

theorem logpH_apply (sel s m : FVec Ideal S256x128 .f32) (T : ℕ) (hT : T < 32000) (ht : ∀ l : Fin 128, S.tt (ix2 (tokH h r) l) = BitVec.ofNat 32 T) :
    logpH S h sel s m (ix2 (0 : Fin 1) r)
      = (sel (ix2 (tokH h r) (⟨T % 128, Nat.mod_lt _ (by decide)⟩ : Fin 128)) - lseH S h s m (ix2 r (0 : Fin 1))) * ((Real.log 2 : ℝ) : EReal) := by
  unfold logpH
  refine (outV_apply _ r).trans ?_
  rw [subf_apply]
  refine congrArg (fun b => (b - lseH S h s m (ix2 r (0 : Fin 1))) * ((Real.log 2 : ℝ) : EReal)) ?_
  refine (selV_apply r _ _ T hT (fun l => ?_) 0).trans (congrArg sel (half_idx h r _))
  rw [half_idx]
  exact ht l

theorem klH_apply : klH S h (ix2 (0 : Fin 1) r)
    = (Ideal.div (sumH S h S.ta S.mp (ix2 r (0 : Fin 1))) (sumH S h S.sp S.mp (ix2 r (0 : Fin 1))) - lseH S h S.sp S.mp (ix2 r (0 : Fin 1))
      + lseH S h S.sq S.mq (ix2 r (0 : Fin 1))) * ((Real.log 2 : ℝ) : EReal) := by
  unfold klH
  exact outV_apply _ r

end Cert.Val
-- ==== Proof.Value.Inv.lean ====
/-
  What the scratch buffers hold between the grid points: before the point after chunk `n`'s products, the statistics of the
  classes of the first `n` chunks and the products of chunk `n`. Every kind of point keeps it, and the last one turns it
  into the reference's results.
-/
module
public import proofs.«01_k».proof.Proof.Ideal.Steps
public import proofs.«01_k».proof.Proof.Value.Logit
public import proofs.«01_k».proof.Proof.Value.RefForm
public import proofs.«01_k».proof.Proof.Value.Join

@[expose] public section
noncomputable section

namespace Cert.Val

open Idealize.ShloMosaic hiding ix1 ix2 ix3 addf_apply subf_apply mulf_apply divf_apply
open Idealize.ShloMosaic.ValueIdx
open Cert.KernelIdeal (S256x1024 S1280x1024 S1x1280 S1024x1280 S256x512 S8x1280 S1280x512 S256x128 S128x128 S1x128)
open Cert.KernelIdeal.Hand (Mem uV zV wtE matM softM initM finM tgtV orow hf inH aE bE onLane maxE sumE selE stepE expM powV negV eV expoV topV codesV scalesV logpH klH)
open Cert.ReferenceIdeal (S2x128x1024 S32000x1024 S32000x512 S32000x8 S32000 S2x128)
open Cert.ReferenceIdeal.Val (xs zp zq tgc)
open Cert.ReferenceIdeal.Gen (k0_pay3 k0_pay6 k0_pay8 k0_pay14 k0_pay15 k0_pay16)

/-- Every program of a call takes the same arguments. -/
structure In where
  x : FVec Ideal S2x128x1024 .bf16
  r : FVec Ideal S2x128x1024 .bf16
  wp : FVec Ideal S32000x1024 .fp8e4m3
  ws : FVec Ideal S32000 .f32
  wr : IVec S32000x512 8
  sr : FVec Ideal S32000x8 .f32
  tg : IVec S2x128 32
  /-- The target of each token. -/
  T : Fin 256 → Fin 32000

variable (I : In)

/-- What the precondition gives. -/
structure In.Ok : Prop where
  tame : ∀ r, Tame (top (xs I.x) r)
  tgt : ∀ y : S2x128.Idx, I.tg y = BitVec.ofNat 32 (I.T (tok y)).val

/-- The policy's logits, -/
def In.zp : FVec Ideal Cert.ReferenceIdeal.S256x32000 .f32 := Cert.ReferenceIdeal.Val.zp I.x I.wp I.ws
/-- and the reference model's. -/
def In.zq : FVec Ideal Cert.ReferenceIdeal.S256x32000 .f32 := Cert.ReferenceIdeal.Val.zq I.r I.wr I.sr

/-- A token's logits in units of `log 2`. -/
def In.a (r : Fin 256) (v : Fin 32000) : EReal := I.zp (ix2 r v) * (L : EReal)
def In.b (r : Fin 256) (v : Fin 32000) : EReal := I.zq (ix2 r v) * (L : EReal)

/-- What the running maxima start from. -/
def c0 : EReal := Ideal.ofBits .f32 0xFF61B1E6#32

theorem c0_coe : ∃ c : ℝ, c0 = (c : EReal) := by
  unfold c0
  simp [Ideal.ofBits, Ideal.ieee]
  exact ⟨_, rfl⟩

theorem c0_ne_bot : c0 ≠ ⊥ := by
  obtain ⟨c, hc⟩ := c0_coe
  rw [hc]
  exact EReal.coe_ne_bot c

/-- The running maximum of a lane. -/
def mxl (n : ℕ) (l : Fin 128) (a : Fin 32000 → EReal) : EReal := max c0 ((seen n l).sup a)

/-- The statistics of the first `n` chunks. -/
structure Stats (n : ℕ) (S : Mem Ideal) : Prop where
  mp : ∀ r l, S.mp (ix2 r l) = mxl n l (I.a r)
  mq : ∀ r l, S.mq (ix2 r l) = mxl n l (I.b r)
  sp : ∀ r l, S.sp (ix2 r l) = W (seen n l) (I.a r) 1 (mxl n l (I.a r))
  ta : ∀ r l, S.ta (ix2 r l) = W (seen n l) (I.a r) (fun v => I.a r v - I.b r v) (mxl n l (I.a r))
  sq : ∀ r l, S.sq (ix2 r l) = W (seen n l) (I.b r) 1 (mxl n l (I.b r))
  selp : ∀ r l, (I.T r).val % 128 = l.val → (I.T r).val < 1280 * n → S.selp (ix2 r l) = I.a r (I.T r)
  selq : ∀ r l, (I.T r).val % 128 = l.val → (I.T r).val < 1280 * n → S.selq (ix2 r l) = I.b r (I.T r)

/-- What the first point leaves for all the others. -/
structure Fixed (S : Mem Ideal) : Prop where
  xr : S.xr = xs I.r
  xsl : ∀ r l, S.xsl (ix2 r l) = Ideal.exp2 (refE (top (xs I.x) r)) * (L : EReal)
  tt : ∀ r l, S.tt (ix2 r l) = BitVec.ofNat 32 (I.T r).val

/-- Class `j` of chunk `n`. -/
def cl (n : ℕ) (hn : n < 25) (j : Fin 1280) : Fin 32000 := ⟨1280 * n + j.val, by omega⟩

/-- The products of chunk `n`. -/
structure Prods (n : ℕ) (hn : n < 25) (S : Mem Ideal) : Prop where
  u : ∀ r j, S.u (ix2 r j) = (∑ k : Fin 1024, k0_pay3 (F := Ideal) (xs I.x) (ix2 r k) * I.wp (ix2 (cl n hn j) k)) * I.ws (ix1 (cl n hn j))
  z : ∀ r j, S.z (ix2 r j) = I.zq (ix2 r (cl n hn j))

/-- The chunk's blocks of the weights. -/
structure Blocks (n : ℕ) (hn : n < 25) (S : Mem Ideal) : Prop where
  wp : ∀ j k, S.wp (ix2 j k) = I.wp (ix2 (cl n hn j) k)
  ws : ∀ z j, S.ws (ix2 z j) = I.ws (ix1 (cl n hn j))
  wr : ∀ j k, S.wr (ix2 j k) = I.wr (ix2 (cl n hn j) k)
  sr : ∀ g j, S.sr (ix2 g j) = I.sr (ix2 (cl n hn j) g)

/-! ## The products -/

theorem mat_prods (n : ℕ) (hn : n < 25) (S : Mem Ideal) (hB : Blocks I n hn S) (hc : S.codes = k0_pay3 (F := Ideal) (xs I.x)) (hr : S.xr = xs I.r) :
    Prods I n hn (matM S) := by
  constructor
  · intro r j
    show uV (F := Ideal) S.codes S.wp S.ws (ix2 r j) = _
    rw [uV_apply, hc, hB.ws]
    refine congrArg (· * _) (Finset.sum_congr rfl fun k _ => ?_)
    rw [hB.wp]
  · intro r j
    show zV (F := Ideal) S.xr (wtE S) (ix2 r j) = _
    rw [zV_apply, hr]
    unfold In.zq
    rw [← zq_sum]
    refine Finset.sum_congr rfl fun k _ => ?_
    rw [wtE_apply, hB.wr, hB.sr]

/-! ## The softmax of a chunk -/

theorem a_eq (n : ℕ) (hn : n < 25) (S : Mem Ideal) (hF : Fixed I S) (hP : Prods I n hn S) (r : Fin 256) (l : Fin 128) :
    aE S (ix2 r l) = fun j => I.a r (cls n hn l j) := by
  funext j
  have e : cl n hn (⟨128 * j.val + l.val, by omega⟩ : Fin 1280) = cls n hn l j := Fin.ext (by
    show 1280 * n + (128 * j.val + l.val) = 1280 * n + 128 * j.val + l.val
    omega)
  show S.u (ix2 r (⟨128 * j.val + l.val, _⟩ : Fin 1280)) * S.xsl (ix2 r l) = _
  rw [hP.u, hF.xsl, e]
  unfold In.a In.zp
  rw [zp_apply]
  generalize (∑ k : Fin 1024, k0_pay3 (F := Ideal) (xs I.x) (ix2 r k) * I.wp (ix2 (cls n hn l j) k)) = A
  generalize Ideal.exp2 (refE (top (xs I.x) r)) = B
  rw [mul_assoc, mul_assoc, ← mul_assoc (I.ws _), mul_comm (I.ws _) B]

theorem b_eq (n : ℕ) (hn : n < 25) (S : Mem Ideal) (hP : Prods I n hn S) (r : Fin 256) (l : Fin 128) :
    bE S (ix2 r l) = fun j => I.b r (cls n hn l j) := by
  funext j
  have e : cl n hn (⟨128 * j.val + l.val, by omega⟩ : Fin 1280) = cls n hn l j := Fin.ext (by
    show 1280 * n + (128 * j.val + l.val) = 1280 * n + 128 * j.val + l.val
    omega)
  show S.z (ix2 r (⟨128 * j.val + l.val, _⟩ : Fin 1280)) * (L : EReal) = _
  rw [hP.z, e]
  rfl

theorem soft_stats (n : ℕ) (hn : n < 25) (S : Mem Ideal) (hF : Fixed I S) (hP : Prods I n hn S) (hS : Stats I n S) :
    Stats I (n + 1) (softM (BitVec.ofNat 32 n) S) := by
  have ha := a_eq I n hn S hF hP
  have hb := b_eq I n hn S hP
  have mA (r : Fin 256) (l : Fin 128) : maxE (S.mp (ix2 r l)) (aE S (ix2 r l)) = mxl (n + 1) l (I.a r) := by
    rw [ha, hS.mp]
    exact max_step n hn l c0 (I.a r)
  have mB (r : Fin 256) (l : Fin 128) : maxE (S.mq (ix2 r l)) (bE S (ix2 r l)) = mxl (n + 1) l (I.b r) := by
    rw [hb, hS.mq]
    exact max_step n hn l c0 (I.b r)
  constructor
  · exact mA
  · exact mB
  · intro r l
    show stepE (S.sp (ix2 r l)) (S.mp (ix2 r l)) (maxE (S.mp (ix2 r l)) (aE S (ix2 r l)))
      (sumE fun j => Ideal.exp2 (aE S (ix2 r l) j - maxE (S.mp (ix2 r l)) (aE S (ix2 r l)))) = _
    rw [mA, hS.sp, hS.mp, ha]
    have := sum_step n hn l (I.a r) 1 (max_le_step n l c0 (I.a r)) (max_ne_bot c0_ne_bot)
    simp only [Pi.one_apply, mul_one] at this
    exact this
  · intro r l
    show stepE (S.ta (ix2 r l)) (S.mp (ix2 r l)) (maxE (S.mp (ix2 r l)) (aE S (ix2 r l)))
      (sumE fun j => Ideal.exp2 (aE S (ix2 r l) j - maxE (S.mp (ix2 r l)) (aE S (ix2 r l))) * (aE S (ix2 r l) j - bE S (ix2 r l) j)) = _
    rw [mA, hS.ta, hS.mp, ha, hb]
    exact sum_step n hn l (I.a r) (fun v => I.a r v - I.b r v) (max_le_step n l c0 (I.a r)) (max_ne_bot c0_ne_bot)
  · intro r l
    show stepE (S.sq (ix2 r l)) (S.mq (ix2 r l)) (maxE (S.mq (ix2 r l)) (bE S (ix2 r l)))
      (sumE fun j => Ideal.exp2 (bE S (ix2 r l) j - maxE (S.mq (ix2 r l)) (bE S (ix2 r l)))) = _
    rw [mB, hS.sq, hS.mq, hb]
    have := sum_step n hn l (I.b r) 1 (max_le_step n l c0 (I.b r)) (max_ne_bot c0_ne_bot)
    simp only [Pi.one_apply, mul_one] at this
    exact this
  · intro r l hl h
    show selE (S.tt (ix2 r l)) (BitVec.ofNat 32 n) (aE S (ix2 r l)) (S.selp (ix2 r l)) = _
    rw [hF.tt, ha]
    exact sel_step (I.T r).val n (I.T r).isLt hn l hl (I.a r) _ (fun h' => hS.selp r l hl h') h
  · intro r l hl h
    show selE (S.tt (ix2 r l)) (BitVec.ofNat 32 n) (bE S (ix2 r l)) (S.selq (ix2 r l)) = _
    rw [hF.tt, hb]
    exact sel_step (I.T r).val n (I.T r).isLt hn l hl (I.b r) _ (fun h' => hS.selq r l hl h') h

/-! ## The first point -/

theorem tgtV_apply (t : IVec S1x128 32) (i l : Fin 128) : tgtV t (ix2 i l) = t (ix2 (0 : Fin 1) i) := by
  unfold tgtV
  simp only [shapeCast_self]
  refine (transpose_apply _ _ _ _ (ix2 l i) fun a => ?_).trans (broadcastTo_apply _ _ _ _ fun a => ?_)
  · match a with
    | 0 => rfl
    | 1 => rfl
  · match a with
    | 0 => rfl
    | 1 => rfl

variable (hI : I.Ok)
include hI

theorem init_fixed (S : Mem Ideal) (hx : S.x = xs I.x) (hr : S.xrin = xs I.r) (ht : S.tgt = I.tg) : Fixed I (initM S) := by
  constructor
  · exact hr
  · intro r l
    show powV (F := Ideal) (expM S) (ix2 r l) * (L : EReal) = _
    unfold expM
    rw [hx, (pow_eq (xs I.x) r (hI.tame r) l).1]
  · intro r l
    show tgtV (fun x => S.tgt ((orow (hf (ix2 r l))).toLoadRect.idx x)) (inH (ix2 r l)) = _
    refine (tgtV_apply _ (⟨r.val % 128, Nat.mod_lt _ (by decide)⟩ : Fin 128) l).trans ?_
    have e : (orow (hf (ix2 r l))).toLoadRect.idx (ix2 (0 : Fin 1) (⟨r.val % 128, Nat.mod_lt _ (by decide)⟩ : Fin 128))
        = ix2 (⟨r.val / 128, by omega⟩ : Fin 2) (⟨r.val % 128, Nat.mod_lt _ (by decide)⟩ : Fin 128) := by
      funext a
      apply Fin.ext
      match a with
      | 0 => show r.val / 128 + 1 * 0 = r.val / 128; omega
      | 1 => show 0 + 1 * (r.val % 128) = r.val % 128; omega
    have et : tok (ix2 (⟨r.val / 128, by omega⟩ : Fin 2) (⟨r.val % 128, Nat.mod_lt _ (by decide)⟩ : Fin 128)) = r := Fin.ext (by
      show 128 * (r.val / 128) + r.val % 128 = r.val
      omega)
    refine (congrArg S.tgt e).trans ?_
    rw [ht, hI.tgt, et]

theorem init_codes (S : Mem Ideal) (hx : S.x = xs I.x) : (initM S).codes = k0_pay3 (F := Ideal) (xs I.x) := by
  show codesV (F := Ideal) S.x (powV (negV (expM S))) = _
  unfold expM
  rw [hx]
  exact codes_eq (xs I.x) hI.tame

theorem init_scales (S : Mem Ideal) (hx : S.x = xs I.x) : (initM S).scales = k0_pay6 (F := Ideal) (xs I.x) := by
  funext y
  show scalesV (F := Ideal) (powV (expM S)) (y 0) (ix2 (0 : Fin 1) (y 1)) = _
  rw [scalesV_apply, pay6_apply]
  unfold expM
  rw [hx, (pow_eq (xs I.x) (tok y) (hI.tame _) 0).1]

omit hI in
theorem init_stats (S : Mem Ideal) : Stats I 0 (initM S) := by
  have hm (l : Fin 128) (a : Fin 32000 → EReal) : mxl 0 l a = c0 := by
    unfold mxl
    rw [seen_zero, Finset.sup_empty]
    exact max_eq_left bot_le
  have hw (l : Fin 128) (a w : Fin 32000 → EReal) (M : EReal) : W (seen 0 l) a w M = 0 := by
    unfold W
    rw [seen_zero, Finset.sum_empty]
  refine ⟨fun r l => ?_, fun r l => ?_, fun r l => ?_, fun r l => ?_, fun r l => ?_, fun r l _ h => ?_, fun r l _ h => ?_⟩
  · rw [hm]; rfl
  · rw [hm]; rfl
  · rw [hw]; exact bits_zero
  · rw [hw]; exact bits_zero
  · rw [hw]; exact bits_zero
  · omega
  · omega

/-! ## The last point -/

theorem tgc_apply (y : S2x128.Idx) : tgc I.tg (ix2 (tok y) (0 : Fin 1)) = BitVec.ofNat 32 (I.T (tok y)).val := by
  rw [← hI.tgt]
  unfold tgc
  refine shapeCast_apply _ _ _ _ ?_
  rw [Shape.rowMajor_val_two, Shape.rowMajor_val_two]
  show (y 0).val * 128 + (y 1).val = (128 * (y 0).val + (y 1).val) * 1 + 0
  omega

omit hI in
/-- The rescaled maximum of a token's logits. -/
theorem max_all (z : FVec Ideal Cert.ReferenceIdeal.S256x32000 .f32) (r : Fin 256) :
    max c0 (Finset.univ.sup fun v : Fin 32000 => z (ix2 r v) * (L : EReal)) = max c0 (mx z r * (L : EReal)) := by
  rw [sup_L]
  rfl

omit hI in
theorem le_mx (z : FVec Ideal Cert.ReferenceIdeal.S256x32000 .f32) (r : Fin 256) : ∀ v ∈ (Finset.univ : Finset (Fin 32000)), z (ix2 r v) ≤ mx z r :=
  fun _ hv => Finset.le_sup (f := fun v : Fin 32000 => z (ix2 r v)) hv

omit hI in
/-- One token's log-probability, from the lanes. -/
theorem logp_join (z : FVec Ideal Cert.ReferenceIdeal.S256x32000 .f32) (S : Mem Ideal) (h : Fin 2) (r : Fin 128) (sel s m : FVec Ideal S256x128 .f32) (T : Fin 32000)
    (hm : ∀ l : Fin 128, m (ix2 (tokH h r) l) = mxl 25 l fun v => z (ix2 (tokH h r) v) * (L : EReal))
    (hs : ∀ l : Fin 128, s (ix2 (tokH h r) l) = W (seen 25 l) (fun v => z (ix2 (tokH h r) v) * (L : EReal)) 1 (mxl 25 l fun v => z (ix2 (tokH h r) v) * (L : EReal)))
    (hsel : sel (ix2 (tokH h r) (⟨T.val % 128, Nat.mod_lt _ (by decide)⟩ : Fin 128)) = z (ix2 (tokH h r) T) * (L : EReal))
    (ht : ∀ l : Fin 128, S.tt (ix2 (tokH h r) l) = BitVec.ofNat 32 T.val) :
    logpH S h sel s m (ix2 (0 : Fin 1) r) = z (ix2 (tokH h r) T) - lse z (tokH h r) := by
  rw [logpH_apply S h r sel s m T.val T.isLt ht, lseH_apply, join_max c0 _ m (tokH h r) hm, join_sum S h r c0 c0_ne_bot _ _ s m hm hs, hsel, max_all]
  obtain ⟨c, hc⟩ := c0_coe
  rw [hc]
  exact logp_eq Finset.univ c (fun v => z (ix2 (tokH h r) v)) (le_mx z (tokH h r)) (z (ix2 (tokH h r) T))

variable (S : Mem Ideal) (hF : Fixed I S) (hS : Stats I 25 S)
include hF hS

theorem fin_lp : (finM S).lp = k0_pay14 I.zp (k0_pay8 I.zp) (tgc I.tg) := by
  funext y
  refine Eq.trans ?_ (pay14_apply I.zp (tgc I.tg) y (I.T (tok y)) (tgc_apply I hI y)).symm
  exact logp_join I.zp S (y 0) (y 1) S.selp S.sp S.mp (I.T (tok y)) (hS.mp _) (hS.sp _)
    (hS.selp _ _ rfl (by have := (I.T (tok y)).isLt; omega)) (hF.tt _)

theorem fin_lq : (finM S).lq = k0_pay15 I.zq (tgc I.tg) := by
  funext y
  refine Eq.trans ?_ (pay15_apply I.zq (tgc I.tg) y (I.T (tok y)) (tgc_apply I hI y)).symm
  exact logp_join I.zq S (y 0) (y 1) S.selq S.sq S.mq (I.T (tok y)) (hS.mq _) (hS.sq _)
    (hS.selq _ _ rfl (by have := (I.T (tok y)).isLt; omega)) (hF.tt _)

omit hI hF in
/-- One token's divergence, from the lanes. -/
theorem kl_join (h : Fin 2) (r : Fin 128) : klH S h (ix2 (0 : Fin 1) r)
    = Ideal.div (sumDiff Finset.univ (fun v : Fin 32000 => I.zp (ix2 (tokH h r) v)) (fun v : Fin 32000 => I.zq (ix2 (tokH h r) v)) (mx I.zp (tokH h r)))
      (sumExp Finset.univ (fun v : Fin 32000 => I.zp (ix2 (tokH h r) v)) (mx I.zp (tokH h r))) - lse I.zp (tokH h r) + lse I.zq (tokH h r) := by
  have ep : I.a (tokH h r) = fun v => I.zp (ix2 (tokH h r) v) * (L : EReal) := rfl
  have eq : I.b (tokH h r) = fun v => I.zq (ix2 (tokH h r) v) * (L : EReal) := rfl
  rw [klH_apply, lseH_apply, lseH_apply, join_max c0 (I.a (tokH h r)) S.mp (tokH h r) (hS.mp _), join_max c0 (I.b (tokH h r)) S.mq (tokH h r) (hS.mq _),
    join_sum h r (S := S) c0 c0_ne_bot (I.a (tokH h r)) _ S.ta S.mp (hS.mp _) (hS.ta _), join_sum S h r c0 c0_ne_bot (I.a (tokH h r)) 1 S.sp S.mp (hS.mp _) (hS.sp _),
    join_sum S h r c0 c0_ne_bot (I.b (tokH h r)) 1 S.sq S.mq (hS.mq _) (hS.sq _), ep, eq, max_all, max_all]
  obtain ⟨c, hc⟩ := c0_coe
  rw [hc]
  exact kl_eq Finset.univ (fun v => I.zp (ix2 (tokH h r) v)) (fun v => I.zq (ix2 (tokH h r) v)) c (le_mx I.zp (tokH h r)) (le_mx I.zq (tokH h r))

omit hI hF in
theorem fin_kl : (finM S).kl = k0_pay16 I.zp I.zq (k0_pay8 I.zp) := by
  funext y
  refine Eq.trans ?_ (pay16_apply I.zp I.zq y).symm
  exact kl_join I S hS (y 0) (y 1)

end Cert.Val
-- ==== Proof.Value.Equation.lean ====
/-
  The kernel's five results are the reference's: what the kernel's buffers hold at each grid point (`spec`), which every
  point keeps, and the two runs side by side.
-/
module
public import proofs.«01_k».proof.Proof.Ideal.Run
public import proofs.«01_k».proof.Proof.Value.Entry
public import proofs.«01_k».proof.Proof.Value.Tame
public import proofs.«01_k».proof.Proof.Value.Inv

@[expose] public section
noncomputable section

namespace Cert.Val

open Idealize.ShloMosaic hiding ix1 ix2 ix3
open Idealize.ShloMosaic.TcCoe Idealize.SL.Sem Idealize.ShloMosaic.ValueIdx
open Cert.KernelIdeal.Hand (Mem Spec stepM chunk matM softM initM finM)
open Cert.ReferenceIdeal.Val (xs tgc)
open Cert.ReferenceIdeal.Gen (k0_pay3 k0_pay6 k0_pay8 k0_pay14 k0_pay15 k0_pay16)
open Cert.KernelIdeal (cfg0 nD τ sig main_arg0 main_arg1 main_arg2 main_arg3 main_arg4 main_arg5 main_arg6)
open Cert.KernelIdeal.Gen (iblk)

theorem chunk_succ (n : ℕ) : chunk (n + 1) = BitVec.ofNat 32 n := by
  show BitVec.ofNat 32 (n + 1) - 1#32 = BitVec.ofNat 32 n
  rw [BitVec.ofNat_add]
  exact BitVec.add_sub_cancel _ _

/-- What the kernel holds between the points, on a device whose arguments are `I c`. -/
def spec (I : Dev nD → In) : Spec Ideal where
  inv c k S := ∀ (n : ℕ) (hn : n < 25), k = n + 1 → Fixed (I c) S ∧ Prods (I c) n hn S ∧ Stats (I c) n S
  lp c t v := t = 25 → v = k0_pay14 (I c).zp (k0_pay8 (I c).zp) (tgc (I c).tg)
  lq c t v := t = 25 → v = k0_pay15 (I c).zq (tgc (I c).tg)
  kl c t v := t = 25 → v = k0_pay16 (I c).zp (I c).zq (k0_pay8 (I c).zp)
  codes c _ v := v = k0_pay3 (F := Ideal) (xs (I c).x)
  scales c _ v := v = k0_pay6 (F := Ideal) (xs (I c).x)

variable (m : (ℓ : Loc nD τ sig) → Buf (Elt Ideal) ℓ)

/-- The arguments of device `c`, with its tokens' targets. -/
def args (T : Dev nD → Fin 256 → Fin 32000) (c : Dev nD) : In where
  x := m ((c : Thread nD τ).loc main_arg0)
  r := m ((c : Thread nD τ).loc main_arg1)
  wp := m ((c : Thread nD τ).loc main_arg2)
  ws := m ((c : Thread nD τ).loc main_arg3)
  wr := m ((c : Thread nD τ).loc main_arg4)
  sr := m ((c : Thread nD τ).loc main_arg5)
  tg := m ((c : Thread nD τ).loc main_arg6)
  T := T c

variable (T : Dev nD → Fin 256 → Fin 32000)

section Step
variable {m T} {c : Dev nD} {t : Fin cfg0.N} {S : Mem Ideal} (hB : (spec (args m T)).Before m c t S)
include hB

theorem before_blocks (h : t.val < 25) : Blocks (args m T c) t.val h S where
  wp j k := (congrFun hB.wp _).trans (Cert.KernelIdeal.Val.blk2 m c t h j k)
  ws z j := (congrFun hB.ws _).trans (Cert.KernelIdeal.Val.blk3 m c t h z j)
  wr j k := (congrFun hB.wr _).trans (Cert.KernelIdeal.Val.blk4 m c t h j k)
  sr g j := (congrFun hB.sr _).trans (Cert.KernelIdeal.Val.blk5 m c t h g j)

theorem before_x : S.x = xs (args m T c).x := hB.x.trans (Cert.KernelIdeal.Val.blk0 m c t)
theorem before_r : S.xrin = xs (args m T c).r := hB.xrin.trans (Cert.KernelIdeal.Val.blk1 m c t)
theorem before_tgt : S.tgt = (args m T c).tg := hB.tgt.trans (Cert.KernelIdeal.Val.blk6 m c t)

theorem step_first (hI : (args m T c).Ok) (h : t.val = 0) : (spec (args m T)).After c t.val (matM (initM S)) := by
  have hb := before_blocks hB (by omega)
  have hc := init_codes (args m T c) hI S (before_x hB)
  have hf := init_fixed (args m T c) hI S (before_x hB) (before_r hB) (before_tgt hB)
  refine ⟨fun n hn e => ?_, fun e => ?_, fun e => ?_, fun e => ?_, hc, init_scales (args m T c) hI S (before_x hB)⟩
  · obtain rfl : n = t.val := by omega
    have hp := mat_prods (args m T c) t.val hn (initM S) ⟨hb.wp, hb.ws, hb.wr, hb.sr⟩ hc hf.xr
    have hs := init_stats (args m T c) S
    rw [← h] at hs
    exact ⟨⟨hf.xr, hf.xsl, hf.tt⟩, hp, ⟨hs.mp, hs.mq, hs.sp, hs.ta, hs.sq, hs.selp, hs.selq⟩⟩
  · omega
  · omega
  · omega

theorem step_soft (n : ℕ) (hn : n < 25) (h : t.val = n + 1) :
    Fixed (args m T c) (softM (chunk t.val) S) ∧ Stats (args m T c) (n + 1) (softM (chunk t.val) S) := by
  obtain ⟨hf, hp, hs⟩ := hB.inv n hn h
  refine ⟨⟨hf.xr, hf.xsl, hf.tt⟩, ?_⟩
  rw [h, chunk_succ]
  exact soft_stats (args m T c) n hn S hf hp hs

theorem step_mid (h0 : t.val ≠ 0) (h : t.val < 25) : (spec (args m T)).After c t.val (matM (softM (chunk t.val) S)) := by
  have hb := before_blocks hB h
  have hc : S.codes = k0_pay3 (F := Ideal) (xs (args m T c).x) := hB.codes h0
  obtain ⟨hf, hs⟩ := step_soft hB (t.val - 1) (by omega) (by omega)
  have e : t.val - 1 + 1 = t.val := by omega
  rw [e] at hs
  refine ⟨fun n hn e => ?_, fun e => ?_, fun e => ?_, fun e => ?_, hc, hB.scales h0⟩
  · obtain rfl : n = t.val := by omega
    have hp := mat_prods (args m T c) t.val hn (softM (chunk t.val) S) ⟨hb.wp, hb.ws, hb.wr, hb.sr⟩ hc hf.xr
    exact ⟨⟨hf.xr, hf.xsl, hf.tt⟩, hp, ⟨hs.mp, hs.mq, hs.sp, hs.ta, hs.sq, hs.selp, hs.selq⟩⟩
  · omega
  · omega
  · omega

theorem step_last (hI : (args m T c).Ok) (h : t.val = 25) : (spec (args m T)).After c t.val (finM (softM (chunk t.val) S)) := by
  obtain ⟨hf, hs⟩ := step_soft hB 24 (by omega) h
  have h0 : t.val ≠ 0 := by omega
  refine ⟨fun n hn e => ?_, fun _ => ?_, fun _ => ?_, fun _ => ?_, hB.codes h0, hB.scales h0⟩
  · omega
  · exact fin_lp (args m T c) hI _ hf hs
  · exact fin_lq (args m T c) hI _ hf hs
  · exact fin_kl (args m T c) _ hs

end Step

theorem spec_ok (hI : ∀ c, (args m T c).Ok) : (spec (args m T)).Ok m where
  init c S n hn e := by omega
  step c t S hB := by
    have hN : t.val < 26 := t.isLt
    unfold stepM
    by_cases h0 : t.val = 0
    · rw [if_pos h0]
      exact step_first hB (hI c) h0
    · rw [if_neg h0]
      by_cases h1 : t.val < 25
      · rw [if_pos h1]
        exact step_mid hB h0 h1
      · rw [if_neg h1]
        exact step_last hB (hI c) (by omega)
  scr c n S S' h1 h2 h3 h4 h5 h6 h7 h8 h9 h10 h11 h12 h13 h k hk e := by
    obtain ⟨hf, hp, hs⟩ := h k hk e
    exact ⟨⟨h1 ▸ hf.xr, h5 ▸ hf.xsl, h6 ▸ hf.tt⟩, ⟨h3 ▸ hp.u, h4 ▸ hp.z⟩,
      ⟨h7 ▸ hs.mp, h8 ▸ hs.mq, h9 ▸ hs.sp, h11 ▸ hs.ta, h10 ▸ hs.sq, h12 ▸ hs.selp, h13 ▸ hs.selq⟩⟩

/-- The precondition's targets. -/
theorem args_ok [Cert.Pre_tame.Facts] (h : Pre_KernelIdeal_tame m) : ∃ T : Dev nD → Fin 256 → Fin 32000, ∀ c, (args m T c).Ok := by
  have h' (c : Dev nD) (y : Cert.Pre_tame.S2x128.Idx) := pre_at _ _ _ _ _ _ _ y (congrFun (h c) y)
  have hT (c : Dev nD) (r : Fin 256) : ∃ T : Fin 32000, ∀ y : Cert.Pre_tame.S2x128.Idx, tok y = r →
      (m ((c : Thread nD τ).loc main_arg6) : Cert.Pre_tame.S2x128.Idx → BitVec 32) y = BitVec.ofNat 32 T.val := by
    obtain ⟨y, hy⟩ := tok_surj r
    obtain ⟨T, e⟩ := (h' c y).2
    refine ⟨T, fun y' hy' => ?_⟩
    have : y' = y := by
      have hv : 128 * (y' 0).val + (y' 1).val = 128 * (y 0).val + (y 1).val := congrArg Fin.val (hy'.trans hy.symm)
      have a1 : (y' 1).val < 128 := (y' 1).isLt
      have a2 : (y 1).val < 128 := (y 1).isLt
      funext a
      apply Fin.ext
      match a with
      | 0 => show (y' 0).val = (y 0).val; omega
      | 1 => show (y' 1).val = (y 1).val; omega
    rw [this]
    exact e
  choose T hT using hT
  refine ⟨T, fun c => ⟨fun r => ?_, fun y => hT c (tok y) y rfl⟩⟩
  obtain ⟨y, rfl⟩ := tok_surj r
  exact (h' c y).1

/-- The two programs give the same five results. -/
theorem algebraic [Cert.Pre_tame.Facts] : algebraic_KernelIdeal_ReferenceIdeal_pre_tame := by
  intro m g m' g' hpre hm
  obtain ⟨T, hI⟩ := args_ok m hpre
  refine ⟨fun c => k0_pay14 (args m T c).zp (k0_pay8 (args m T c).zp) (tgc (args m T c).tg), fun c => k0_pay15 (args m T c).zq (tgc (args m T c).tg),
    fun c => k0_pay16 (args m T c).zp (args m T c).zq (k0_pay8 (args m T c).zp), fun c => k0_pay3 (F := Ideal) (xs (args m T c).x),
    fun c => k0_pay6 (F := Ideal) (xs (args m T c).x), ?_, ?_⟩
  · refine (θ_run _ _ _).mono (fun r h c => ?_) (Cert.KernelIdeal.Hand.run m g _ (spec_ok m T hI))
    obtain ⟨ha, hv, -⟩ := h
    obtain ⟨v0, v1, v2, v3, v4⟩ := hv c
    exact ⟨v0 rfl, v1 rfl, v2 rfl, v3, v4, ha c⟩
  · refine (θ_run _ _ _).mono (fun r h c => ?_) (Cert.ReferenceIdeal.Val.run m' g')
    obtain ⟨v0, v1, v2, v3, v4, ha⟩ := h c
    obtain ⟨e0, e1, e2, e3, e4, e5, e6⟩ := hm c
    refine ⟨v0.trans ?_, v1.trans ?_, v2.trans ?_, v3.trans ?_, v4.trans ?_, ha⟩
    · rw [e0, e2, e3, e6]; rfl
    · rw [e1, e4, e5, e6]; rfl
    · rw [e0, e1, e2, e3, e4, e5]; rfl
    · rw [e0]; rfl
    · rw [e0]; rfl

end Cert.Val
-- ==== Proof.lean ====
/-
  The proof of `Cert.Claim`: the frames of the kernel as printed and of its idealization (Proof/Word/Run.lean and
  Proof/Ideal/Run.lean), the reference's frame, the two named constants, and the equality of the five results
  (Proof/Value/Equation.lean).
-/
module

public import proofs.«01_k».proof.Defs
public import proofs.«01_k».proof.Proof.Gen.Kernel
public import proofs.«01_k».proof.Proof.Gen.Kernel.Launch
public import proofs.«01_k».proof.Proof.Gen.Kernel.Points
public import proofs.«01_k».proof.Proof.Gen.Kernel.Frame
public import proofs.«01_k».proof.Proof.Gen.KernelIdeal.Frame
public import proofs.«01_k».proof.Proof.Gen.ReferenceIdeal.Frame
public import proofs.«01_k».proof.Proof.Word.Run
public import proofs.«01_k».proof.Proof.Ideal.Run
public import proofs.«01_k».proof.Proof.Value.Equation
public import Idealize.ShloMosaic.Adequacy
public import Idealize.ShloMosaic.Init

@[expose] public section

noncomputable section

namespace Cert.Proof

open Idealize.ShloMosaic Idealize.SL.Sem

theorem preserves : preserves_Kernel_KernelIdeal :=
  ⟨IdealRules.named_const.statement Cert.KernelIdeal.κ "log2e" .f32 0x3FB8AA3B#32 (((Real.log 2)⁻¹ : ℝ) : EReal) rfl,
   IdealRules.named_const.statement Cert.KernelIdeal.κ "ln2" .f32 0x3F317218#32 ((Real.log 2 : ℝ) : EReal) rfl⟩

theorem claim : Cert.Claim :=
  ⟨Cert.Kernel.Gen.facts, Cert.KernelIdeal.Gen.facts, Cert.ReferenceIdeal.Gen.facts, Cert.Val.tameFacts,
   fun m g _ => Cert.Kernel.Hand.frame m g,
   fun m g _ => Cert.KernelIdeal.Hand.frame m g,
   fun m g _ => Cert.KernelIdeal.Hand.frame m g,
   fun m g _ => Cert.ReferenceIdeal.Gen.frame m g,
   fun m g _ => Cert.ReferenceIdeal.Gen.frame m g,
   preserves,
   @Cert.Val.algebraic Cert.Val.tameFacts⟩

end Cert.Proof

end
